-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_exact [hKernelIdeal : Cert.KernelIdeal.Facts] [hReferenceIdeal : Cert.ReferenceIdeal.Facts] [hOn_exact : Cert.On_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 8192]⟩ 1 16 c ((Cert.On_exact.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 512]⟩ : Shape).Idx → _) i = 1#1 → r.2.mem ((c.tc : Thread Cert.KernelIdeal.nD Cert.KernelIdeal.τ).loc Cert.KernelIdeal.main_v3) i = (Layout.block ⟨2, ![4096, 512]⟩ ⟨2, ![4096, 8192]⟩ 1 16 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_exact.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_exact : Cert.On_exact.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_exact (hKernelIdeal := hKernelIdeal) (hReferenceIdeal := hReferenceIdeal) (hOn_exact := hOn_exact)
-- ==== On_exact.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  natLt_8_32 : 8 < 32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n none l r) main_v2 main_v5
  let main_cst : FVec F S_ .f32 := constant S_ .f32 0x4B800000#32
  let main_v7 : FVec F S4096x8192 .f32 := broadcastInDim S4096x8192 ![] bcast_S_S4096x8192 main_cst
  let main_v8 : IVec S4096x8192 1 := cmpf .olt main_v6 main_v7
  main_v8
-- ==== Kernel.lean ====
abbrev S256x4096 : Shape := ⟨2, ![256, 4096]⟩
abbrev S4096x512 : Shape := ⟨2, ![4096, 512]⟩
abbrev S1 : Shape := ⟨1, ![1]⟩
abbrev S1x1 : Shape := ⟨2, ![1, 1]⟩
abbrev S4096x4096 : Shape := ⟨2, ![4096, 4096]⟩
abbrev S3 : Shape := ⟨1, ![3]⟩
abbrev S7x3 : Shape := ⟨2, ![7, 3]⟩
abbrev S_ : Shape := ⟨0, ![]⟩
abbrev S128x4096 : Shape := ⟨2, ![128, 4096]⟩
abbrev S256x512 : Shape := ⟨2, ![256, 512]⟩
abbrev S128x512 : Shape := ⟨2, ![128, 512]⟩

abbrev nBuf : Space → Nat
  | .hbm => 7
  | .vmem => 4
  | .smem => 2
  | _ => 0

abbrev bufTy : (tb : Table) → Fin (tcTables nBuf tb) → BufTy
  | .hbm, ⟨0, _⟩ => ⟨S256x4096, .i8⟩
  | .hbm, ⟨1, _⟩ => ⟨S4096x512, .i8⟩
  | .hbm, ⟨2, _⟩ => ⟨S1, .f32⟩
  | .hbm, ⟨3, _⟩ => ⟨S1, .f32⟩
  | .hbm, ⟨4, _⟩ => ⟨S1x1, .f32⟩
  | .hbm, ⟨5, _⟩ => ⟨S1x1, .f32⟩
  | .hbm, ⟨6, _⟩ => ⟨S4096x512, .f32⟩
  | .local _ .vmem, ⟨0, _⟩ => ⟨S256x4096, .i8⟩
  | .local _ .vmem, ⟨1, _⟩ => ⟨S4096x512, .i8⟩
  | .local _ .vmem, ⟨2, _⟩ => ⟨S4096x512, .f32⟩
  | .local _ .vmem, ⟨3, _⟩ => ⟨S4096x4096, .i8⟩
  | .local _ .smem, ⟨0, _⟩ => ⟨S1x1, .f32⟩
  | .local _ .smem, ⟨1, _⟩ => ⟨S1x1, .f32⟩
  | _, _ => ⟨S256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_14 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_13 : BitVec 32 := 1#32
  let v21 : BitVec 32 := Scalar.muli v8 c1_i32_13
  let v22 : BitVec 32 := Scalar.addi c0_i32_14 v21
  v22.toNat
def k0_dev2 (d0 : Dev nD) : Nat :=
  let c0_i32_17 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_16 : BitVec 32 := 1#32
  let v23 : BitVec 32 := Scalar.muli v12 c1_i32_16
  let v24 : BitVec 32 := Scalar.addi c0_i32_17 v23
  v24.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_11 : BitVec 32 := 3#32
  let v18 : BitVec 1 := Scalar.cmpi .slt v3 c3_i32_11
  let v25 : BitVec 32 := Scalar.extui v18
  let c0_i32_18 : BitVec 32 := 0#32
  let v26 : BitVec 1 := Scalar.cmpi .ne v25 c0_i32_18
  v26

def k0_dev3 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v13 : BitVec 32 := Scalar.addi v2 c4_i32_6
  let c16_i32_7 : BitVec 32 := 16#32
  let v14 : BitVec 32 := Scalar.remsi v13 c16_i32_7
  let c1_i32_262 : BitVec 32 := 1#32
  let v399 : BitVec 32 := Scalar.muli v14 c1_i32_262
  let v400 : BitVec 32 := Scalar.addi c0_i32_263 v399
  v400.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32 : BitVec 32 := 0#32
  let v19 : BitVec 1 := Scalar.cmpi .sgt v3 c0_i32
  let v27 : BitVec 32 := Scalar.extui v19
  let c0_i32_19 : BitVec 32 := 0#32
  let v28 : BitVec 1 := Scalar.cmpi .ne v27 c0_i32_19
  v28

def k0_dev4 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_8 : BitVec 32 := 16#32
  let v15 : BitVec 32 := Scalar.addi v2 c16_i32_8
  let c4_i32_9 : BitVec 32 := 4#32
  let v16 : BitVec 32 := Scalar.subi v15 c4_i32_9
  let c16_i32_10 : BitVec 32 := 16#32
  let v17 : BitVec 32 := Scalar.remsi v16 c16_i32_10
  let c1_i32_262 : BitVec 32 := 1#32
  let v399 : BitVec 32 := Scalar.muli v17 c1_i32_262
  let v400 : BitVec 32 := Scalar.addi c0_i32_263 v399
  v400.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_11 : BitVec 32 := 3#32
  let v18 : BitVec 1 := Scalar.cmpi .slt v3 c3_i32_11
  let v35 : BitVec 32 := Scalar.extui v18
  let c0_i32_25 : BitVec 32 := 0#32
  let v36 : BitVec 1 := Scalar.cmpi .ne v35 c0_i32_25
  v36

def k0_off1 (d0 : Dev nD) : Fin 2 → Nat :=
  let c4_i32_261 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v399 : BitVec 32 := Scalar.muli c4_i32_261 v3
  let c4_i32_0 : BitVec 32 := 4#32
  let v4 : BitVec 32 := Scalar.remsi v2 c4_i32_0
  let v400 : BitVec 32 := Scalar.addi v399 v4
  let c256_i32_262 : BitVec 32 := 256#32
  let v401 : BitVec 32 := Scalar.muli v400 c256_i32_262
  let c0_i32_267 : BitVec 32 := 0#32
  ![v401.toNat, 0]
def k0_dev5 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v13 : BitVec 32 := Scalar.addi v2 c4_i32_6
  let c16_i32_7 : BitVec 32 := 16#32
  let v14 : BitVec 32 := Scalar.remsi v13 c16_i32_7
  let c1_i32_265 : BitVec 32 := 1#32
  let v402 : BitVec 32 := Scalar.muli v14 c1_i32_265
  let v403 : BitVec 32 := Scalar.addi c0_i32_266 v402
  v403.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32 : BitVec 32 := 0#32
  let v19 : BitVec 1 := Scalar.cmpi .sgt v3 c0_i32
  let v37 : BitVec 32 := Scalar.extui v19
  let c0_i32_26 : BitVec 32 := 0#32
  let v38 : BitVec 1 := Scalar.cmpi .ne v37 c0_i32_26
  v38

def k0_off2 (d0 : Dev nD) : Fin 2 → Nat :=
  let c4_i32_261 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v399 : BitVec 32 := Scalar.muli c4_i32_261 v3
  let c4_i32_0 : BitVec 32 := 4#32
  let v4 : BitVec 32 := Scalar.remsi v2 c4_i32_0
  let v400 : BitVec 32 := Scalar.addi v399 v4
  let c256_i32_262 : BitVec 32 := 256#32
  let v401 : BitVec 32 := Scalar.muli v400 c256_i32_262
  let c0_i32_267 : BitVec 32 := 0#32
  ![v401.toNat, 0]
def k0_dev6 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_8 : BitVec 32 := 16#32
  let v15 : BitVec 32 := Scalar.addi v2 c16_i32_8
  let c4_i32_9 : BitVec 32 := 4#32
  let v16 : BitVec 32 := Scalar.subi v15 c4_i32_9
  let c16_i32_10 : BitVec 32 := 16#32
  let v17 : BitVec 32 := Scalar.remsi v16 c16_i32_10
  let c1_i32_265 : BitVec 32 := 1#32
  let v402 : BitVec 32 := Scalar.muli v17 c1_i32_265
  let v403 : BitVec 32 := Scalar.addi c0_i32_266 v402
  v403.toNat
def k0_off3 (d0 : Dev nD) (c0_i32_27 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v39 : BitVec 32 := Scalar.muli v2 c256_i32
  let v40 : BitVec 32 := Scalar.addi v39 c0_i32_27
  let c0_i32_34 : BitVec 32 := 0#32
  ![v40.toNat, 0]
def k0_dev7 (d0 : Dev nD) : Nat :=
  let c0_i32_33 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_32 : BitVec 32 := 1#32
  let v41 : BitVec 32 := Scalar.muli v8 c1_i32_32
  let v42 : BitVec 32 := Scalar.addi c0_i32_33 v41
  v42.toNat
def k0_dev8 (d0 : Dev nD) : Nat :=
  let c0_i32_43 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_42 : BitVec 32 := 1#32
  let v51 : BitVec 32 := Scalar.muli v12 c1_i32_42
  let v52 : BitVec 32 := Scalar.addi c0_i32_43 v51
  v52.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_52 : BitVec 32 := 256#32
  let v69 : BitVec 32 := Scalar.muli v2 c256_i32_52
  let v70 : Index := Scalar.indexCast v69
  let c0_53 : Index := 0#32
  ![v70.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_54 : BitVec 32 := 1#32
  let v72 : BitVec 1 := Scalar.cmpi .sge v3 c1_i32_54
  let v73 : BitVec 32 := Scalar.extui v72
  let c0_i32_55 : BitVec 32 := 0#32
  let v74 : BitVec 1 := Scalar.cmpi .ne v73 c0_i32_55
  v74

def k0_off5 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.subi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_54 : BitVec 32 := 1#32
  let v72 : BitVec 1 := Scalar.cmpi .sge v3 c1_i32_54
  let c3_i32_11 : BitVec 32 := 3#32
  let v18 : BitVec 1 := Scalar.cmpi .slt v3 c3_i32_11
  let v75 : BitVec 1 := Scalar.andi v72 v18
  let v76 : BitVec 32 := Scalar.extui v75
  let c0_i32_56 : BitVec 32 := 0#32
  let v77 : BitVec 1 := Scalar.cmpi .ne v76 c0_i32_56
  v77

def k0_off6 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.subi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_dev9 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v13 : BitVec 32 := Scalar.addi v2 c4_i32_6
  let c16_i32_7 : BitVec 32 := 16#32
  let v14 : BitVec 32 := Scalar.remsi v13 c16_i32_7
  let c1_i32_266 : BitVec 32 := 1#32
  let v403 : BitVec 32 := Scalar.muli v14 c1_i32_266
  let v404 : BitVec 32 := Scalar.addi c0_i32_267 v403
  v404.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_54 : BitVec 32 := 1#32
  let v72 : BitVec 1 := Scalar.cmpi .sge v3 c1_i32_54
  let v78 : BitVec 32 := Scalar.extui v72
  let c0_i32_57 : BitVec 32 := 0#32
  let v79 : BitVec 1 := Scalar.cmpi .ne v78 c0_i32_57
  v79

def k0_off7 (d0 : Dev nD) (c0_i32_264 : BitVec 32) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.subi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let v403 : BitVec 32 := Scalar.addi v402 c0_i32_264
  let c0_i32_271 : BitVec 32 := 0#32
  ![v403.toNat, 0]
def k0_dev10 (d0 : Dev nD) : Nat :=
  let c0_i32_270 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_269 : BitVec 32 := 1#32
  let v404 : BitVec 32 := Scalar.muli v8 c1_i32_269
  let v405 : BitVec 32 := Scalar.addi c0_i32_270 v404
  v405.toNat
def k0_dev11 (d0 : Dev nD) : Nat :=
  let c0_i32_280 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_279 : BitVec 32 := 1#32
  let v414 : BitVec 32 := Scalar.muli v12 c1_i32_279
  let v415 : BitVec 32 := Scalar.addi c0_i32_280 v414
  v415.toNat
def k0_off8 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.subi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v423 : Index := Scalar.indexCast v422
  let c0_284 : Index := 0#32
  ![v423.toNat, 0]
def k0_off9 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.subi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v433 : Index := Scalar.indexCast v422
  let c0_289 : Index := 0#32
  ![v433.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_58 : BitVec 32 := 1#32
  let v80 : BitVec 32 := Scalar.addi v3 c1_i32_58
  let c3_i32_59 : BitVec 32 := 3#32
  let v81 : BitVec 1 := Scalar.cmpi .sle v80 c3_i32_59
  let v82 : BitVec 32 := Scalar.extui v81
  let c0_i32_60 : BitVec 32 := 0#32
  let v83 : BitVec 1 := Scalar.cmpi .ne v82 c0_i32_60
  v83

def k0_off10 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_58 : BitVec 32 := 1#32
  let v80 : BitVec 32 := Scalar.addi v3 c1_i32_58
  let c3_i32_59 : BitVec 32 := 3#32
  let v81 : BitVec 1 := Scalar.cmpi .sle v80 c3_i32_59
  let c0_i32 : BitVec 32 := 0#32
  let v19 : BitVec 1 := Scalar.cmpi .sgt v3 c0_i32
  let v84 : BitVec 1 := Scalar.andi v81 v19
  let v85 : BitVec 32 := Scalar.extui v84
  let c0_i32_61 : BitVec 32 := 0#32
  let v86 : BitVec 1 := Scalar.cmpi .ne v85 c0_i32_61
  v86

def k0_off11 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_8 : BitVec 32 := 16#32
  let v15 : BitVec 32 := Scalar.addi v2 c16_i32_8
  let c4_i32_9 : BitVec 32 := 4#32
  let v16 : BitVec 32 := Scalar.subi v15 c4_i32_9
  let c16_i32_10 : BitVec 32 := 16#32
  let v17 : BitVec 32 := Scalar.remsi v16 c16_i32_10
  let c1_i32_266 : BitVec 32 := 1#32
  let v403 : BitVec 32 := Scalar.muli v17 c1_i32_266
  let v404 : BitVec 32 := Scalar.addi c0_i32_267 v403
  v404.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_58 : BitVec 32 := 1#32
  let v80 : BitVec 32 := Scalar.addi v3 c1_i32_58
  let c3_i32_59 : BitVec 32 := 3#32
  let v81 : BitVec 1 := Scalar.cmpi .sle v80 c3_i32_59
  let v87 : BitVec 32 := Scalar.extui v81
  let c0_i32_62 : BitVec 32 := 0#32
  let v88 : BitVec 1 := Scalar.cmpi .ne v87 c0_i32_62
  v88

def k0_off12 (d0 : Dev nD) (c0_i32_264 : BitVec 32) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let v403 : BitVec 32 := Scalar.addi v402 c0_i32_264
  let c0_i32_271 : BitVec 32 := 0#32
  ![v403.toNat, 0]
def k0_dev13 (d0 : Dev nD) : Nat :=
  let c0_i32_270 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_269 : BitVec 32 := 1#32
  let v404 : BitVec 32 := Scalar.muli v8 c1_i32_269
  let v405 : BitVec 32 := Scalar.addi c0_i32_270 v404
  v405.toNat
def k0_dev14 (d0 : Dev nD) : Nat :=
  let c0_i32_280 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_279 : BitVec 32 := 1#32
  let v414 : BitVec 32 := Scalar.muli v12 c1_i32_279
  let v415 : BitVec 32 := Scalar.addi c0_i32_280 v414
  v415.toNat
def k0_off13 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v423 : Index := Scalar.indexCast v422
  let c0_284 : Index := 0#32
  ![v423.toNat, 0]
def k0_off14 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v433 : Index := Scalar.indexCast v422
  let c0_289 : Index := 0#32
  ![v433.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_63 : BitVec 32 := 0#32
  let v89 : BitVec 32 := Scalar.addi v3 c0_i32_63
  let c0_i32_64 : BitVec 32 := 0#32
  let v90 : BitVec 1 := Scalar.cmpi .sge v89 c0_i32_64
  let c3_i32_65 : BitVec 32 := 3#32
  let v91 : BitVec 1 := Scalar.cmpi .sle v89 c3_i32_65
  let v92 : BitVec 1 := Scalar.andi v90 v91
  let v93 : BitVec 32 := Scalar.extui v92
  let c0_i32_66 : BitVec 32 := 0#32
  let v94 : BitVec 1 := Scalar.cmpi .ne v93 c0_i32_66
  v94

def k0_off15 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev15 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off16 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev16 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off17 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off18 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off19 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off20 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32 : BitVec 32 := 2#32
  let v95 : BitVec 1 := Scalar.cmpi .sge v3 c2_i32
  let v96 : BitVec 32 := Scalar.extui v95
  let c0_i32_67 : BitVec 32 := 0#32
  let v97 : BitVec 1 := Scalar.cmpi .ne v96 c0_i32_67
  v97

def k0_off21 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.subi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32 : BitVec 32 := 2#32
  let v95 : BitVec 1 := Scalar.cmpi .sge v3 c2_i32
  let c3_i32_11 : BitVec 32 := 3#32
  let v18 : BitVec 1 := Scalar.cmpi .slt v3 c3_i32_11
  let v98 : BitVec 1 := Scalar.andi v95 v18
  let v99 : BitVec 32 := Scalar.extui v98
  let c0_i32_68 : BitVec 32 := 0#32
  let v100 : BitVec 1 := Scalar.cmpi .ne v99 c0_i32_68
  v100

def k0_off22 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.subi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_dev17 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_6 : BitVec 32 := 4#32
  let v13 : BitVec 32 := Scalar.addi v2 c4_i32_6
  let c16_i32_7 : BitVec 32 := 16#32
  let v14 : BitVec 32 := Scalar.remsi v13 c16_i32_7
  let c1_i32_266 : BitVec 32 := 1#32
  let v403 : BitVec 32 := Scalar.muli v14 c1_i32_266
  let v404 : BitVec 32 := Scalar.addi c0_i32_267 v403
  v404.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32 : BitVec 32 := 2#32
  let v95 : BitVec 1 := Scalar.cmpi .sge v3 c2_i32
  let v101 : BitVec 32 := Scalar.extui v95
  let c0_i32_69 : BitVec 32 := 0#32
  let v102 : BitVec 1 := Scalar.cmpi .ne v101 c0_i32_69
  v102

def k0_off23 (d0 : Dev nD) (c0_i32_264 : BitVec 32) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.subi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let v403 : BitVec 32 := Scalar.addi v402 c0_i32_264
  let c0_i32_271 : BitVec 32 := 0#32
  ![v403.toNat, 0]
def k0_dev18 (d0 : Dev nD) : Nat :=
  let c0_i32_270 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_269 : BitVec 32 := 1#32
  let v404 : BitVec 32 := Scalar.muli v8 c1_i32_269
  let v405 : BitVec 32 := Scalar.addi c0_i32_270 v404
  v405.toNat
def k0_dev19 (d0 : Dev nD) : Nat :=
  let c0_i32_280 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_279 : BitVec 32 := 1#32
  let v414 : BitVec 32 := Scalar.muli v12 c1_i32_279
  let v415 : BitVec 32 := Scalar.addi c0_i32_280 v414
  v415.toNat
def k0_off24 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.subi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v423 : Index := Scalar.indexCast v422
  let c0_284 : Index := 0#32
  ![v423.toNat, 0]
def k0_off25 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.subi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v433 : Index := Scalar.indexCast v422
  let c0_289 : Index := 0#32
  ![v433.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_70 : BitVec 32 := 2#32
  let v103 : BitVec 32 := Scalar.addi v3 c2_i32_70
  let c3_i32_71 : BitVec 32 := 3#32
  let v104 : BitVec 1 := Scalar.cmpi .sle v103 c3_i32_71
  let v105 : BitVec 32 := Scalar.extui v104
  let c0_i32_72 : BitVec 32 := 0#32
  let v106 : BitVec 1 := Scalar.cmpi .ne v105 c0_i32_72
  v106

def k0_off26 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_70 : BitVec 32 := 2#32
  let v103 : BitVec 32 := Scalar.addi v3 c2_i32_70
  let c3_i32_71 : BitVec 32 := 3#32
  let v104 : BitVec 1 := Scalar.cmpi .sle v103 c3_i32_71
  let c0_i32 : BitVec 32 := 0#32
  let v19 : BitVec 1 := Scalar.cmpi .sgt v3 c0_i32
  let v107 : BitVec 1 := Scalar.andi v104 v19
  let v108 : BitVec 32 := Scalar.extui v107
  let c0_i32_73 : BitVec 32 := 0#32
  let v109 : BitVec 1 := Scalar.cmpi .ne v108 c0_i32_73
  v109

def k0_off27 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_dev20 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_8 : BitVec 32 := 16#32
  let v15 : BitVec 32 := Scalar.addi v2 c16_i32_8
  let c4_i32_9 : BitVec 32 := 4#32
  let v16 : BitVec 32 := Scalar.subi v15 c4_i32_9
  let c16_i32_10 : BitVec 32 := 16#32
  let v17 : BitVec 32 := Scalar.remsi v16 c16_i32_10
  let c1_i32_266 : BitVec 32 := 1#32
  let v403 : BitVec 32 := Scalar.muli v17 c1_i32_266
  let v404 : BitVec 32 := Scalar.addi c0_i32_267 v403
  v404.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_70 : BitVec 32 := 2#32
  let v103 : BitVec 32 := Scalar.addi v3 c2_i32_70
  let c3_i32_71 : BitVec 32 := 3#32
  let v104 : BitVec 1 := Scalar.cmpi .sle v103 c3_i32_71
  let v110 : BitVec 32 := Scalar.extui v104
  let c0_i32_74 : BitVec 32 := 0#32
  let v111 : BitVec 1 := Scalar.cmpi .ne v110 c0_i32_74
  v111

def k0_off28 (d0 : Dev nD) (c0_i32_264 : BitVec 32) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let v403 : BitVec 32 := Scalar.addi v402 c0_i32_264
  let c0_i32_271 : BitVec 32 := 0#32
  ![v403.toNat, 0]
def k0_dev21 (d0 : Dev nD) : Nat :=
  let c0_i32_270 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_269 : BitVec 32 := 1#32
  let v404 : BitVec 32 := Scalar.muli v8 c1_i32_269
  let v405 : BitVec 32 := Scalar.addi c0_i32_270 v404
  v405.toNat
def k0_dev22 (d0 : Dev nD) : Nat :=
  let c0_i32_280 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_279 : BitVec 32 := 1#32
  let v414 : BitVec 32 := Scalar.muli v12 c1_i32_279
  let v415 : BitVec 32 := Scalar.addi c0_i32_280 v414
  v415.toNat
def k0_off29 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v423 : Index := Scalar.indexCast v422
  let c0_284 : Index := 0#32
  ![v423.toNat, 0]
def k0_off30 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_283 : BitVec 32 := 256#32
  let v422 : BitVec 32 := Scalar.muli v401 c256_i32_283
  let v433 : Index := Scalar.indexCast v422
  let c0_289 : Index := 0#32
  ![v433.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_75 : BitVec 32 := 0#32
  let v112 : BitVec 32 := Scalar.addi v3 c0_i32_75
  let c0_i32_76 : BitVec 32 := 0#32
  let v113 : BitVec 1 := Scalar.cmpi .sge v112 c0_i32_76
  let c3_i32_77 : BitVec 32 := 3#32
  let v114 : BitVec 1 := Scalar.cmpi .sle v112 c3_i32_77
  let v115 : BitVec 1 := Scalar.andi v113 v114
  let v116 : BitVec 32 := Scalar.extui v115
  let c0_i32_78 : BitVec 32 := 0#32
  let v117 : BitVec 1 := Scalar.cmpi .ne v116 c0_i32_78
  v117

def k0_off31 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev23 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off32 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev24 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off33 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off34 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off35 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off36 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32 : BitVec 32 := 4294967295#32
  let v118 : BitVec 32 := Scalar.addi v3 c_m1_i32
  let c0_i32_79 : BitVec 32 := 0#32
  let v119 : BitVec 1 := Scalar.cmpi .sge v118 c0_i32_79
  let c3_i32_80 : BitVec 32 := 3#32
  let v120 : BitVec 1 := Scalar.cmpi .sle v118 c3_i32_80
  let v121 : BitVec 1 := Scalar.andi v119 v120
  let v122 : BitVec 32 := Scalar.extui v121
  let c0_i32_81 : BitVec 32 := 0#32
  let v123 : BitVec 1 := Scalar.cmpi .ne v122 c0_i32_81
  v123

def k0_off37 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev25 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off38 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev26 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off39 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off40 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off41 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off42 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_82 : BitVec 32 := 1#32
  let v124 : BitVec 32 := Scalar.addi v3 c1_i32_82
  let c0_i32_83 : BitVec 32 := 0#32
  let v125 : BitVec 1 := Scalar.cmpi .sge v124 c0_i32_83
  let c3_i32_84 : BitVec 32 := 3#32
  let v126 : BitVec 1 := Scalar.cmpi .sle v124 c3_i32_84
  let v127 : BitVec 1 := Scalar.andi v125 v126
  let v128 : BitVec 32 := Scalar.extui v127
  let c0_i32_85 : BitVec 32 := 0#32
  let v129 : BitVec 1 := Scalar.cmpi .ne v128 c0_i32_85
  v129

def k0_off43 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev27 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off44 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev28 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off45 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off46 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off47 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off48 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_86 : BitVec 32 := 3#32
  let v130 : BitVec 1 := Scalar.cmpi .sge v3 c3_i32_86
  let v131 : BitVec 32 := Scalar.extui v130
  let c0_i32_87 : BitVec 32 := 0#32
  let v132 : BitVec 1 := Scalar.cmpi .ne v131 c0_i32_87
  v132

def k0_off49 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.subi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_86 : BitVec 32 := 3#32
  let v130 : BitVec 1 := Scalar.cmpi .sge v3 c3_i32_86
  let v133 : BitVec 32 := Scalar.extui v130
  let c0_i32_88 : BitVec 32 := 0#32
  let v134 : BitVec 1 := Scalar.cmpi .ne v133 c0_i32_88
  v134

def k0_off50 (d0 : Dev nD) (c0_i32_264 : BitVec 32) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.subi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let v403 : BitVec 32 := Scalar.addi v402 c0_i32_264
  let c0_i32_270 : BitVec 32 := 0#32
  ![v403.toNat, 0]
def k0_dev29 (d0 : Dev nD) : Nat :=
  let c0_i32_269 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_268 : BitVec 32 := 1#32
  let v404 : BitVec 32 := Scalar.muli v8 c1_i32_268
  let v405 : BitVec 32 := Scalar.addi c0_i32_269 v404
  v405.toNat
def k0_dev30 (d0 : Dev nD) : Nat :=
  let c0_i32_279 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_278 : BitVec 32 := 1#32
  let v414 : BitVec 32 := Scalar.muli v12 c1_i32_278
  let v415 : BitVec 32 := Scalar.addi c0_i32_279 v414
  v415.toNat
def k0_off51 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.subi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_282 : BitVec 32 := 256#32
  let v422 : BitVec 32 := Scalar.muli v401 c256_i32_282
  let v423 : Index := Scalar.indexCast v422
  let c0_283 : Index := 0#32
  ![v423.toNat, 0]
def k0_off52 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.subi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_282 : BitVec 32 := 256#32
  let v422 : BitVec 32 := Scalar.muli v401 c256_i32_282
  let v433 : Index := Scalar.indexCast v422
  let c0_288 : Index := 0#32
  ![v433.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_89 : BitVec 32 := 3#32
  let v135 : BitVec 32 := Scalar.addi v3 c3_i32_89
  let c3_i32_90 : BitVec 32 := 3#32
  let v136 : BitVec 1 := Scalar.cmpi .sle v135 c3_i32_90
  let v137 : BitVec 32 := Scalar.extui v136
  let c0_i32_91 : BitVec 32 := 0#32
  let v138 : BitVec 1 := Scalar.cmpi .ne v137 c0_i32_91
  v138

def k0_off53 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_268 : BitVec 32 := 0#32
  ![v402.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_89 : BitVec 32 := 3#32
  let v135 : BitVec 32 := Scalar.addi v3 c3_i32_89
  let c3_i32_90 : BitVec 32 := 3#32
  let v136 : BitVec 1 := Scalar.cmpi .sle v135 c3_i32_90
  let v139 : BitVec 32 := Scalar.extui v136
  let c0_i32_92 : BitVec 32 := 0#32
  let v140 : BitVec 1 := Scalar.cmpi .ne v139 c0_i32_92
  v140

def k0_off54 (d0 : Dev nD) (c0_i32_264 : BitVec 32) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let v403 : BitVec 32 := Scalar.addi v402 c0_i32_264
  let c0_i32_270 : BitVec 32 := 0#32
  ![v403.toNat, 0]
def k0_dev31 (d0 : Dev nD) : Nat :=
  let c0_i32_269 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_268 : BitVec 32 := 1#32
  let v404 : BitVec 32 := Scalar.muli v8 c1_i32_268
  let v405 : BitVec 32 := Scalar.addi c0_i32_269 v404
  v405.toNat
def k0_dev32 (d0 : Dev nD) : Nat :=
  let c0_i32_279 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_278 : BitVec 32 := 1#32
  let v414 : BitVec 32 := Scalar.muli v12 c1_i32_278
  let v415 : BitVec 32 := Scalar.addi c0_i32_279 v414
  v415.toNat
def k0_off55 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_282 : BitVec 32 := 256#32
  let v422 : BitVec 32 := Scalar.muli v401 c256_i32_282
  let v423 : Index := Scalar.indexCast v422
  let c0_283 : Index := 0#32
  ![v423.toNat, 0]
def k0_off56 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_282 : BitVec 32 := 256#32
  let v422 : BitVec 32 := Scalar.muli v401 c256_i32_282
  let v433 : Index := Scalar.indexCast v422
  let c0_288 : Index := 0#32
  ![v433.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_93 : BitVec 32 := 0#32
  let v141 : BitVec 32 := Scalar.addi v3 c0_i32_93
  let c0_i32_94 : BitVec 32 := 0#32
  let v142 : BitVec 1 := Scalar.cmpi .sge v141 c0_i32_94
  let c3_i32_95 : BitVec 32 := 3#32
  let v143 : BitVec 1 := Scalar.cmpi .sle v141 c3_i32_95
  let v144 : BitVec 1 := Scalar.andi v142 v143
  let v145 : BitVec 32 := Scalar.extui v144
  let c0_i32_96 : BitVec 32 := 0#32
  let v146 : BitVec 1 := Scalar.cmpi .ne v145 c0_i32_96
  v146

def k0_off57 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_off58 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_279 : BitVec 32 := 256#32
  let v417 : BitVec 32 := Scalar.muli v408 c256_i32_279
  let c128_i32_280 : BitVec 32 := 128#32
  let v418 : BitVec 32 := Scalar.addi v417 c128_i32_280
  let c0_i32_287 : BitVec 32 := 0#32
  ![v418.toNat, 0]
def k0_off59 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v426 : Index := Scalar.indexCast v425
  let c0_290 : Index := 0#32
  ![v426.toNat, 0]
def k0_off60 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v436 : Index := Scalar.indexCast v425
  let c0_295 : Index := 0#32
  ![v436.toNat, 0]
def k0_off61 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v440 : Index := Scalar.indexCast v439
  let c0_298 : Index := 0#32
  ![v440.toNat, 0]
def k0_off62 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v450 : Index := Scalar.indexCast v439
  let c0_303 : Index := 0#32
  ![v450.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_97 : BitVec 32 := 4294967295#32
  let v147 : BitVec 32 := Scalar.addi v3 c_m1_i32_97
  let c0_i32_98 : BitVec 32 := 0#32
  let v148 : BitVec 1 := Scalar.cmpi .sge v147 c0_i32_98
  let c3_i32_99 : BitVec 32 := 3#32
  let v149 : BitVec 1 := Scalar.cmpi .sle v147 c3_i32_99
  let v150 : BitVec 1 := Scalar.andi v148 v149
  let v151 : BitVec 32 := Scalar.extui v150
  let c0_i32_100 : BitVec 32 := 0#32
  let v152 : BitVec 1 := Scalar.cmpi .ne v151 c0_i32_100
  v152

def k0_off63 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev33 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off64 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev34 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off65 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off66 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off67 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off68 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_101 : BitVec 32 := 1#32
  let v153 : BitVec 32 := Scalar.addi v3 c1_i32_101
  let c0_i32_102 : BitVec 32 := 0#32
  let v154 : BitVec 1 := Scalar.cmpi .sge v153 c0_i32_102
  let c3_i32_103 : BitVec 32 := 3#32
  let v155 : BitVec 1 := Scalar.cmpi .sle v153 c3_i32_103
  let v156 : BitVec 1 := Scalar.andi v154 v155
  let v157 : BitVec 32 := Scalar.extui v156
  let c0_i32_104 : BitVec 32 := 0#32
  let v158 : BitVec 1 := Scalar.cmpi .ne v157 c0_i32_104
  v158

def k0_off69 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev35 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off70 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev36 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off71 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off72 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off73 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off74 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32 : BitVec 32 := 4294967294#32
  let v159 : BitVec 32 := Scalar.addi v3 c_m2_i32
  let c0_i32_105 : BitVec 32 := 0#32
  let v160 : BitVec 1 := Scalar.cmpi .sge v159 c0_i32_105
  let c3_i32_106 : BitVec 32 := 3#32
  let v161 : BitVec 1 := Scalar.cmpi .sle v159 c3_i32_106
  let v162 : BitVec 1 := Scalar.andi v160 v161
  let v163 : BitVec 32 := Scalar.extui v162
  let c0_i32_107 : BitVec 32 := 0#32
  let v164 : BitVec 1 := Scalar.cmpi .ne v163 c0_i32_107
  v164

def k0_off75 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev37 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off76 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev38 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off77 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off78 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off79 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off80 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_108 : BitVec 32 := 2#32
  let v165 : BitVec 32 := Scalar.addi v3 c2_i32_108
  let c0_i32_109 : BitVec 32 := 0#32
  let v166 : BitVec 1 := Scalar.cmpi .sge v165 c0_i32_109
  let c3_i32_110 : BitVec 32 := 3#32
  let v167 : BitVec 1 := Scalar.cmpi .sle v165 c3_i32_110
  let v168 : BitVec 1 := Scalar.andi v166 v167
  let v169 : BitVec 32 := Scalar.extui v168
  let c0_i32_111 : BitVec 32 := 0#32
  let v170 : BitVec 1 := Scalar.cmpi .ne v169 c0_i32_111
  v170

def k0_off81 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev39 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off82 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev40 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off83 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off84 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off85 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off86 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_112 : BitVec 32 := 4294967295#32
  let v171 : BitVec 32 := Scalar.addi v3 c_m1_i32_112
  let c0_i32_113 : BitVec 32 := 0#32
  let v172 : BitVec 1 := Scalar.cmpi .sge v171 c0_i32_113
  let c3_i32_114 : BitVec 32 := 3#32
  let v173 : BitVec 1 := Scalar.cmpi .sle v171 c3_i32_114
  let v174 : BitVec 1 := Scalar.andi v172 v173
  let v175 : BitVec 32 := Scalar.extui v174
  let c0_i32_115 : BitVec 32 := 0#32
  let v176 : BitVec 1 := Scalar.cmpi .ne v175 c0_i32_115
  v176

def k0_off87 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_off88 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_279 : BitVec 32 := 256#32
  let v417 : BitVec 32 := Scalar.muli v408 c256_i32_279
  let c128_i32_280 : BitVec 32 := 128#32
  let v418 : BitVec 32 := Scalar.addi v417 c128_i32_280
  let c0_i32_287 : BitVec 32 := 0#32
  ![v418.toNat, 0]
def k0_off89 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v426 : Index := Scalar.indexCast v425
  let c0_290 : Index := 0#32
  ![v426.toNat, 0]
def k0_off90 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v436 : Index := Scalar.indexCast v425
  let c0_295 : Index := 0#32
  ![v436.toNat, 0]
def k0_off91 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v440 : Index := Scalar.indexCast v439
  let c0_298 : Index := 0#32
  ![v440.toNat, 0]
def k0_off92 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v450 : Index := Scalar.indexCast v439
  let c0_303 : Index := 0#32
  ![v450.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_116 : BitVec 32 := 1#32
  let v177 : BitVec 32 := Scalar.addi v3 c1_i32_116
  let c0_i32_117 : BitVec 32 := 0#32
  let v178 : BitVec 1 := Scalar.cmpi .sge v177 c0_i32_117
  let c3_i32_118 : BitVec 32 := 3#32
  let v179 : BitVec 1 := Scalar.cmpi .sle v177 c3_i32_118
  let v180 : BitVec 1 := Scalar.andi v178 v179
  let v181 : BitVec 32 := Scalar.extui v180
  let c0_i32_119 : BitVec 32 := 0#32
  let v182 : BitVec 1 := Scalar.cmpi .ne v181 c0_i32_119
  v182

def k0_off93 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_off94 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_279 : BitVec 32 := 256#32
  let v417 : BitVec 32 := Scalar.muli v408 c256_i32_279
  let c128_i32_280 : BitVec 32 := 128#32
  let v418 : BitVec 32 := Scalar.addi v417 c128_i32_280
  let c0_i32_287 : BitVec 32 := 0#32
  ![v418.toNat, 0]
def k0_off95 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v426 : Index := Scalar.indexCast v425
  let c0_290 : Index := 0#32
  ![v426.toNat, 0]
def k0_off96 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v436 : Index := Scalar.indexCast v425
  let c0_295 : Index := 0#32
  ![v436.toNat, 0]
def k0_off97 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v440 : Index := Scalar.indexCast v439
  let c0_298 : Index := 0#32
  ![v440.toNat, 0]
def k0_off98 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v450 : Index := Scalar.indexCast v439
  let c0_303 : Index := 0#32
  ![v450.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_120 : BitVec 32 := 4294967294#32
  let v183 : BitVec 32 := Scalar.addi v3 c_m2_i32_120
  let c0_i32_121 : BitVec 32 := 0#32
  let v184 : BitVec 1 := Scalar.cmpi .sge v183 c0_i32_121
  let c3_i32_122 : BitVec 32 := 3#32
  let v185 : BitVec 1 := Scalar.cmpi .sle v183 c3_i32_122
  let v186 : BitVec 1 := Scalar.andi v184 v185
  let v187 : BitVec 32 := Scalar.extui v186
  let c0_i32_123 : BitVec 32 := 0#32
  let v188 : BitVec 1 := Scalar.cmpi .ne v187 c0_i32_123
  v188

def k0_off99 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev41 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off100 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev42 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off101 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off102 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off103 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off104 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_124 : BitVec 32 := 2#32
  let v189 : BitVec 32 := Scalar.addi v3 c2_i32_124
  let c0_i32_125 : BitVec 32 := 0#32
  let v190 : BitVec 1 := Scalar.cmpi .sge v189 c0_i32_125
  let c3_i32_126 : BitVec 32 := 3#32
  let v191 : BitVec 1 := Scalar.cmpi .sle v189 c3_i32_126
  let v192 : BitVec 1 := Scalar.andi v190 v191
  let v193 : BitVec 32 := Scalar.extui v192
  let c0_i32_127 : BitVec 32 := 0#32
  let v194 : BitVec 1 := Scalar.cmpi .ne v193 c0_i32_127
  v194

def k0_off105 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_dev43 (d0 : Dev nD) : Nat :=
  let c0_i32_286 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_285 : BitVec 32 := 1#32
  let v419 : BitVec 32 := Scalar.muli v8 c1_i32_285
  let v420 : BitVec 32 := Scalar.addi c0_i32_286 v419
  v420.toNat
def k0_off106 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_289 : BitVec 32 := 256#32
  let v427 : BitVec 32 := Scalar.muli v408 c256_i32_289
  let c128_i32_290 : BitVec 32 := 128#32
  let v428 : BitVec 32 := Scalar.addi v427 c128_i32_290
  let c0_i32_297 : BitVec 32 := 0#32
  ![v428.toNat, 0]
def k0_dev44 (d0 : Dev nD) : Nat :=
  let c0_i32_306 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_305 : BitVec 32 := 1#32
  let v437 : BitVec 32 := Scalar.muli v12 c1_i32_305
  let v438 : BitVec 32 := Scalar.addi c0_i32_306 v437
  v438.toNat
def k0_off107 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v446 : Index := Scalar.indexCast v445
  let c0_310 : Index := 0#32
  ![v446.toNat, 0]
def k0_off108 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_309 : BitVec 32 := 256#32
  let v445 : BitVec 32 := Scalar.muli v404 c256_i32_309
  let v456 : Index := Scalar.indexCast v445
  let c0_315 : Index := 0#32
  ![v456.toNat, 0]
def k0_off109 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v460 : Index := Scalar.indexCast v459
  let c0_318 : Index := 0#32
  ![v460.toNat, 0]
def k0_off110 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_316 : BitVec 32 := 256#32
  let v458 : BitVec 32 := Scalar.muli v408 c256_i32_316
  let c128_i32_317 : BitVec 32 := 128#32
  let v459 : BitVec 32 := Scalar.addi v458 c128_i32_317
  let v470 : Index := Scalar.indexCast v459
  let c0_323 : Index := 0#32
  ![v470.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32 : BitVec 32 := 4294967293#32
  let v195 : BitVec 32 := Scalar.addi v3 c_m3_i32
  let c0_i32_128 : BitVec 32 := 0#32
  let v196 : BitVec 1 := Scalar.cmpi .sge v195 c0_i32_128
  let c3_i32_129 : BitVec 32 := 3#32
  let v197 : BitVec 1 := Scalar.cmpi .sle v195 c3_i32_129
  let v198 : BitVec 1 := Scalar.andi v196 v197
  let v199 : BitVec 32 := Scalar.extui v198
  let c0_i32_130 : BitVec 32 := 0#32
  let v200 : BitVec 1 := Scalar.cmpi .ne v199 c0_i32_130
  v200

def k0_off111 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_276 : BitVec 32 := 0#32
  ![v410.toNat, 0]
def k0_dev45 (d0 : Dev nD) : Nat :=
  let c0_i32_285 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_284 : BitVec 32 := 1#32
  let v419 : BitVec 32 := Scalar.muli v8 c1_i32_284
  let v420 : BitVec 32 := Scalar.addi c0_i32_285 v419
  v420.toNat
def k0_off112 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_288 : BitVec 32 := 256#32
  let v427 : BitVec 32 := Scalar.muli v408 c256_i32_288
  let c128_i32_289 : BitVec 32 := 128#32
  let v428 : BitVec 32 := Scalar.addi v427 c128_i32_289
  let c0_i32_296 : BitVec 32 := 0#32
  ![v428.toNat, 0]
def k0_dev46 (d0 : Dev nD) : Nat :=
  let c0_i32_305 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_304 : BitVec 32 := 1#32
  let v437 : BitVec 32 := Scalar.muli v12 c1_i32_304
  let v438 : BitVec 32 := Scalar.addi c0_i32_305 v437
  v438.toNat
def k0_off113 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v446 : Index := Scalar.indexCast v445
  let c0_309 : Index := 0#32
  ![v446.toNat, 0]
def k0_off114 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v456 : Index := Scalar.indexCast v445
  let c0_314 : Index := 0#32
  ![v456.toNat, 0]
def k0_off115 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v460 : Index := Scalar.indexCast v459
  let c0_317 : Index := 0#32
  ![v460.toNat, 0]
def k0_off116 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v470 : Index := Scalar.indexCast v459
  let c0_322 : Index := 0#32
  ![v470.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_131 : BitVec 32 := 3#32
  let v201 : BitVec 32 := Scalar.addi v3 c3_i32_131
  let c0_i32_132 : BitVec 32 := 0#32
  let v202 : BitVec 1 := Scalar.cmpi .sge v201 c0_i32_132
  let c3_i32_133 : BitVec 32 := 3#32
  let v203 : BitVec 1 := Scalar.cmpi .sle v201 c3_i32_133
  let v204 : BitVec 1 := Scalar.andi v202 v203
  let v205 : BitVec 32 := Scalar.extui v204
  let c0_i32_134 : BitVec 32 := 0#32
  let v206 : BitVec 1 := Scalar.cmpi .ne v205 c0_i32_134
  v206

def k0_off117 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_276 : BitVec 32 := 0#32
  ![v410.toNat, 0]
def k0_dev47 (d0 : Dev nD) : Nat :=
  let c0_i32_285 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_284 : BitVec 32 := 1#32
  let v419 : BitVec 32 := Scalar.muli v8 c1_i32_284
  let v420 : BitVec 32 := Scalar.addi c0_i32_285 v419
  v420.toNat
def k0_off118 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_288 : BitVec 32 := 256#32
  let v427 : BitVec 32 := Scalar.muli v408 c256_i32_288
  let c128_i32_289 : BitVec 32 := 128#32
  let v428 : BitVec 32 := Scalar.addi v427 c128_i32_289
  let c0_i32_296 : BitVec 32 := 0#32
  ![v428.toNat, 0]
def k0_dev48 (d0 : Dev nD) : Nat :=
  let c0_i32_305 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_304 : BitVec 32 := 1#32
  let v437 : BitVec 32 := Scalar.muli v12 c1_i32_304
  let v438 : BitVec 32 := Scalar.addi c0_i32_305 v437
  v438.toNat
def k0_off119 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v446 : Index := Scalar.indexCast v445
  let c0_309 : Index := 0#32
  ![v446.toNat, 0]
def k0_off120 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v456 : Index := Scalar.indexCast v445
  let c0_314 : Index := 0#32
  ![v456.toNat, 0]
def k0_off121 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v460 : Index := Scalar.indexCast v459
  let c0_317 : Index := 0#32
  ![v460.toNat, 0]
def k0_off122 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c1_i32_267 : BitVec 32 := 1#32
  let v406 : BitVec 32 := Scalar.addi v4 c1_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v470 : Index := Scalar.indexCast v459
  let c0_322 : Index := 0#32
  ![v470.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_135 : BitVec 32 := 4294967294#32
  let v207 : BitVec 32 := Scalar.addi v3 c_m2_i32_135
  let c0_i32_136 : BitVec 32 := 0#32
  let v208 : BitVec 1 := Scalar.cmpi .sge v207 c0_i32_136
  let c3_i32_137 : BitVec 32 := 3#32
  let v209 : BitVec 1 := Scalar.cmpi .sle v207 c3_i32_137
  let v210 : BitVec 1 := Scalar.andi v208 v209
  let v211 : BitVec 32 := Scalar.extui v210
  let c0_i32_138 : BitVec 32 := 0#32
  let v212 : BitVec 1 := Scalar.cmpi .ne v211 c0_i32_138
  v212

def k0_off123 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_off124 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_279 : BitVec 32 := 256#32
  let v417 : BitVec 32 := Scalar.muli v408 c256_i32_279
  let c128_i32_280 : BitVec 32 := 128#32
  let v418 : BitVec 32 := Scalar.addi v417 c128_i32_280
  let c0_i32_287 : BitVec 32 := 0#32
  ![v418.toNat, 0]
def k0_off125 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v426 : Index := Scalar.indexCast v425
  let c0_290 : Index := 0#32
  ![v426.toNat, 0]
def k0_off126 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v436 : Index := Scalar.indexCast v425
  let c0_295 : Index := 0#32
  ![v436.toNat, 0]
def k0_off127 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v440 : Index := Scalar.indexCast v439
  let c0_298 : Index := 0#32
  ![v440.toNat, 0]
def k0_off128 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v450 : Index := Scalar.indexCast v439
  let c0_303 : Index := 0#32
  ![v450.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_139 : BitVec 32 := 2#32
  let v213 : BitVec 32 := Scalar.addi v3 c2_i32_139
  let c0_i32_140 : BitVec 32 := 0#32
  let v214 : BitVec 1 := Scalar.cmpi .sge v213 c0_i32_140
  let c3_i32_141 : BitVec 32 := 3#32
  let v215 : BitVec 1 := Scalar.cmpi .sle v213 c3_i32_141
  let v216 : BitVec 1 := Scalar.andi v214 v215
  let v217 : BitVec 32 := Scalar.extui v216
  let c0_i32_142 : BitVec 32 := 0#32
  let v218 : BitVec 1 := Scalar.cmpi .ne v217 c0_i32_142
  v218

def k0_off129 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_277 : BitVec 32 := 0#32
  ![v410.toNat, 0]
def k0_off130 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_279 : BitVec 32 := 256#32
  let v417 : BitVec 32 := Scalar.muli v408 c256_i32_279
  let c128_i32_280 : BitVec 32 := 128#32
  let v418 : BitVec 32 := Scalar.addi v417 c128_i32_280
  let c0_i32_287 : BitVec 32 := 0#32
  ![v418.toNat, 0]
def k0_off131 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v426 : Index := Scalar.indexCast v425
  let c0_290 : Index := 0#32
  ![v426.toNat, 0]
def k0_off132 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_289 : BitVec 32 := 256#32
  let v425 : BitVec 32 := Scalar.muli v404 c256_i32_289
  let v436 : Index := Scalar.indexCast v425
  let c0_295 : Index := 0#32
  ![v436.toNat, 0]
def k0_off133 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v440 : Index := Scalar.indexCast v439
  let c0_298 : Index := 0#32
  ![v440.toNat, 0]
def k0_off134 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_296 : BitVec 32 := 256#32
  let v438 : BitVec 32 := Scalar.muli v408 c256_i32_296
  let c128_i32_297 : BitVec 32 := 128#32
  let v439 : BitVec 32 := Scalar.addi v438 c128_i32_297
  let v450 : Index := Scalar.indexCast v439
  let c0_303 : Index := 0#32
  ![v450.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_143 : BitVec 32 := 4294967293#32
  let v219 : BitVec 32 := Scalar.addi v3 c_m3_i32_143
  let c0_i32_144 : BitVec 32 := 0#32
  let v220 : BitVec 1 := Scalar.cmpi .sge v219 c0_i32_144
  let c3_i32_145 : BitVec 32 := 3#32
  let v221 : BitVec 1 := Scalar.cmpi .sle v219 c3_i32_145
  let v222 : BitVec 1 := Scalar.andi v220 v221
  let v223 : BitVec 32 := Scalar.extui v222
  let c0_i32_146 : BitVec 32 := 0#32
  let v224 : BitVec 1 := Scalar.cmpi .ne v223 c0_i32_146
  v224

def k0_off135 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_276 : BitVec 32 := 0#32
  ![v410.toNat, 0]
def k0_dev49 (d0 : Dev nD) : Nat :=
  let c0_i32_285 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_284 : BitVec 32 := 1#32
  let v419 : BitVec 32 := Scalar.muli v8 c1_i32_284
  let v420 : BitVec 32 := Scalar.addi c0_i32_285 v419
  v420.toNat
def k0_off136 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_288 : BitVec 32 := 256#32
  let v427 : BitVec 32 := Scalar.muli v408 c256_i32_288
  let c128_i32_289 : BitVec 32 := 128#32
  let v428 : BitVec 32 := Scalar.addi v427 c128_i32_289
  let c0_i32_296 : BitVec 32 := 0#32
  ![v428.toNat, 0]
def k0_dev50 (d0 : Dev nD) : Nat :=
  let c0_i32_305 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_304 : BitVec 32 := 1#32
  let v437 : BitVec 32 := Scalar.muli v12 c1_i32_304
  let v438 : BitVec 32 := Scalar.addi c0_i32_305 v437
  v438.toNat
def k0_off137 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v446 : Index := Scalar.indexCast v445
  let c0_309 : Index := 0#32
  ![v446.toNat, 0]
def k0_off138 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v456 : Index := Scalar.indexCast v445
  let c0_314 : Index := 0#32
  ![v456.toNat, 0]
def k0_off139 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v460 : Index := Scalar.indexCast v459
  let c0_317 : Index := 0#32
  ![v460.toNat, 0]
def k0_off140 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v470 : Index := Scalar.indexCast v459
  let c0_322 : Index := 0#32
  ![v470.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_147 : BitVec 32 := 3#32
  let v225 : BitVec 32 := Scalar.addi v3 c3_i32_147
  let c0_i32_148 : BitVec 32 := 0#32
  let v226 : BitVec 1 := Scalar.cmpi .sge v225 c0_i32_148
  let c3_i32_149 : BitVec 32 := 3#32
  let v227 : BitVec 1 := Scalar.cmpi .sle v225 c3_i32_149
  let v228 : BitVec 1 := Scalar.andi v226 v227
  let v229 : BitVec 32 := Scalar.extui v228
  let c0_i32_150 : BitVec 32 := 0#32
  let v230 : BitVec 1 := Scalar.cmpi .ne v229 c0_i32_150
  v230

def k0_off141 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_276 : BitVec 32 := 0#32
  ![v410.toNat, 0]
def k0_dev51 (d0 : Dev nD) : Nat :=
  let c0_i32_285 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.addi v4 c1_i32_2
  let c4_i32_3 : BitVec 32 := 4#32
  let v7 : BitVec 32 := Scalar.remsi v6 c4_i32_3
  let v8 : BitVec 32 := Scalar.addi v5 v7
  let c1_i32_284 : BitVec 32 := 1#32
  let v419 : BitVec 32 := Scalar.muli v8 c1_i32_284
  let v420 : BitVec 32 := Scalar.addi c0_i32_285 v419
  v420.toNat
def k0_off142 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_288 : BitVec 32 := 256#32
  let v427 : BitVec 32 := Scalar.muli v408 c256_i32_288
  let c128_i32_289 : BitVec 32 := 128#32
  let v428 : BitVec 32 := Scalar.addi v427 c128_i32_289
  let c0_i32_296 : BitVec 32 := 0#32
  ![v428.toNat, 0]
def k0_dev52 (d0 : Dev nD) : Nat :=
  let c0_i32_305 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_4 v3
  let c4_i32_0 : BitVec 32 := 4#32
  let v4 : BitVec 32 := Scalar.remsi v2 c4_i32_0
  let c3_i32 : BitVec 32 := 3#32
  let v10 : BitVec 32 := Scalar.addi v4 c3_i32
  let c4_i32_5 : BitVec 32 := 4#32
  let v11 : BitVec 32 := Scalar.remsi v10 c4_i32_5
  let v12 : BitVec 32 := Scalar.addi v9 v11
  let c1_i32_304 : BitVec 32 := 1#32
  let v437 : BitVec 32 := Scalar.muli v12 c1_i32_304
  let v438 : BitVec 32 := Scalar.addi c0_i32_305 v437
  v438.toNat
def k0_off143 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v446 : Index := Scalar.indexCast v445
  let c0_309 : Index := 0#32
  ![v446.toNat, 0]
def k0_off144 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_308 : BitVec 32 := 256#32
  let v445 : BitVec 32 := Scalar.muli v404 c256_i32_308
  let v456 : Index := Scalar.indexCast v445
  let c0_314 : Index := 0#32
  ![v456.toNat, 0]
def k0_off145 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v460 : Index := Scalar.indexCast v459
  let c0_317 : Index := 0#32
  ![v460.toNat, 0]
def k0_off146 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c2_i32_267 : BitVec 32 := 2#32
  let v406 : BitVec 32 := Scalar.addi v4 c2_i32_267
  let c4_i32_268 : BitVec 32 := 4#32
  let v407 : BitVec 32 := Scalar.remsi v406 c4_i32_268
  let v408 : BitVec 32 := Scalar.addi v405 v407
  let c256_i32_315 : BitVec 32 := 256#32
  let v458 : BitVec 32 := Scalar.muli v408 c256_i32_315
  let c128_i32_316 : BitVec 32 := 128#32
  let v459 : BitVec 32 := Scalar.addi v458 c128_i32_316
  let v470 : Index := Scalar.indexCast v459
  let c0_322 : Index := 0#32
  ![v470.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_151 : BitVec 32 := 4294967293#32
  let v231 : BitVec 32 := Scalar.addi v3 c_m3_i32_151
  let c0_i32_152 : BitVec 32 := 0#32
  let v232 : BitVec 1 := Scalar.cmpi .sge v231 c0_i32_152
  let c3_i32_153 : BitVec 32 := 3#32
  let v233 : BitVec 1 := Scalar.cmpi .sle v231 c3_i32_153
  let v234 : BitVec 1 := Scalar.andi v232 v233
  let v235 : BitVec 32 := Scalar.extui v234
  let c0_i32_154 : BitVec 32 := 0#32
  let v236 : BitVec 1 := Scalar.cmpi .ne v235 c0_i32_154
  v236

def k0_off147 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_276 : BitVec 32 := 0#32
  ![v410.toNat, 0]
def k0_off148 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_278 : BitVec 32 := 256#32
  let v417 : BitVec 32 := Scalar.muli v408 c256_i32_278
  let c128_i32_279 : BitVec 32 := 128#32
  let v418 : BitVec 32 := Scalar.addi v417 c128_i32_279
  let c0_i32_286 : BitVec 32 := 0#32
  ![v418.toNat, 0]
def k0_off149 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_288 : BitVec 32 := 256#32
  let v425 : BitVec 32 := Scalar.muli v404 c256_i32_288
  let v426 : Index := Scalar.indexCast v425
  let c0_289 : Index := 0#32
  ![v426.toNat, 0]
def k0_off150 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_288 : BitVec 32 := 256#32
  let v425 : BitVec 32 := Scalar.muli v404 c256_i32_288
  let v436 : Index := Scalar.indexCast v425
  let c0_294 : Index := 0#32
  ![v436.toNat, 0]
def k0_off151 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_295 : BitVec 32 := 256#32
  let v438 : BitVec 32 := Scalar.muli v408 c256_i32_295
  let c128_i32_296 : BitVec 32 := 128#32
  let v439 : BitVec 32 := Scalar.addi v438 c128_i32_296
  let v440 : Index := Scalar.indexCast v439
  let c0_297 : Index := 0#32
  ![v440.toNat, 0]
def k0_off152 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_295 : BitVec 32 := 256#32
  let v438 : BitVec 32 := Scalar.muli v408 c256_i32_295
  let c128_i32_296 : BitVec 32 := 128#32
  let v439 : BitVec 32 := Scalar.addi v438 c128_i32_296
  let v450 : Index := Scalar.indexCast v439
  let c0_302 : Index := 0#32
  ![v450.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_155 : BitVec 32 := 3#32
  let v237 : BitVec 32 := Scalar.addi v3 c3_i32_155
  let c0_i32_156 : BitVec 32 := 0#32
  let v238 : BitVec 1 := Scalar.cmpi .sge v237 c0_i32_156
  let c3_i32_157 : BitVec 32 := 3#32
  let v239 : BitVec 1 := Scalar.cmpi .sle v237 c3_i32_157
  let v240 : BitVec 1 := Scalar.andi v238 v239
  let v241 : BitVec 32 := Scalar.extui v240
  let c0_i32_158 : BitVec 32 := 0#32
  let v242 : BitVec 1 := Scalar.cmpi .ne v241 c0_i32_158
  v242

def k0_off153 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_269 : BitVec 32 := 256#32
  let v409 : BitVec 32 := Scalar.muli v404 c256_i32_269
  let c0_i32_270 : BitVec 32 := 0#32
  let v410 : BitVec 32 := Scalar.addi v409 c0_i32_270
  let c0_i32_276 : BitVec 32 := 0#32
  ![v410.toNat, 0]
def k0_off154 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_278 : BitVec 32 := 256#32
  let v417 : BitVec 32 := Scalar.muli v408 c256_i32_278
  let c128_i32_279 : BitVec 32 := 128#32
  let v418 : BitVec 32 := Scalar.addi v417 c128_i32_279
  let c0_i32_286 : BitVec 32 := 0#32
  ![v418.toNat, 0]
def k0_off155 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_288 : BitVec 32 := 256#32
  let v425 : BitVec 32 := Scalar.muli v404 c256_i32_288
  let v426 : Index := Scalar.indexCast v425
  let c0_289 : Index := 0#32
  ![v426.toNat, 0]
def k0_off156 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c3_i32_263 : BitVec 32 := 3#32
  let v401 : BitVec 32 := Scalar.subi v4 c3_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_288 : BitVec 32 := 256#32
  let v425 : BitVec 32 := Scalar.muli v404 c256_i32_288
  let v436 : Index := Scalar.indexCast v425
  let c0_294 : Index := 0#32
  ![v436.toNat, 0]
def k0_off157 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_295 : BitVec 32 := 256#32
  let v438 : BitVec 32 := Scalar.muli v408 c256_i32_295
  let c128_i32_296 : BitVec 32 := 128#32
  let v439 : BitVec 32 := Scalar.addi v438 c128_i32_296
  let v440 : Index := Scalar.indexCast v439
  let c0_297 : Index := 0#32
  ![v440.toNat, 0]
def k0_off158 (d0 : Dev nD) : Fin 2 → Nat :=
  let c4_i32_266 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v405 : BitVec 32 := Scalar.muli c4_i32_266 v399
  let c4_i32_0 : BitVec 32 := 4#32
  let v4 : BitVec 32 := Scalar.remsi v2 c4_i32_0
  let c3_i32_267 : BitVec 32 := 3#32
  let v406 : BitVec 32 := Scalar.addi v4 c3_i32_267
  let c4_i32_268 : BitVec 32 := 4#32
  let v407 : BitVec 32 := Scalar.remsi v406 c4_i32_268
  let v408 : BitVec 32 := Scalar.addi v405 v407
  let c256_i32_295 : BitVec 32 := 256#32
  let v438 : BitVec 32 := Scalar.muli v408 c256_i32_295
  let c128_i32_296 : BitVec 32 := 128#32
  let v439 : BitVec 32 := Scalar.addi v438 c128_i32_296
  let v450 : Index := Scalar.indexCast v439
  let c0_302 : Index := 0#32
  ![v450.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_11 : BitVec 32 := 3#32
  let v18 : BitVec 1 := Scalar.cmpi .slt v3 c3_i32_11
  let c0_i32_159 : BitVec 32 := 0#32
  let v243 : BitVec 1 := Scalar.cmpi .sge v3 c0_i32_159
  let v244 : BitVec 1 := Scalar.andi v18 v243
  let v245 : BitVec 32 := Scalar.extui v244
  let c0_i32_160 : BitVec 32 := 0#32
  let v246 : BitVec 1 := Scalar.cmpi .ne v245 c0_i32_160
  v246

def k0_off159 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.subi v3 c0_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_269 : BitVec 32 := 0#32
  ![v402.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32 : BitVec 32 := 0#32
  let v19 : BitVec 1 := Scalar.cmpi .sgt v3 c0_i32
  let c1_i32_161 : BitVec 32 := 1#32
  let v247 : BitVec 32 := Scalar.addi v3 c1_i32_161
  let c1_i32_162 : BitVec 32 := 1#32
  let v248 : BitVec 32 := Scalar.subi v247 c1_i32_162
  let c3_i32_163 : BitVec 32 := 3#32
  let v249 : BitVec 1 := Scalar.cmpi .sle v248 c3_i32_163
  let v250 : BitVec 1 := Scalar.andi v19 v249
  let v251 : BitVec 32 := Scalar.extui v250
  let c0_i32_164 : BitVec 32 := 0#32
  let v252 : BitVec 1 := Scalar.cmpi .ne v251 c0_i32_164
  v252

def k0_off160 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_269 : BitVec 32 := 0#32
  ![v402.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_11 : BitVec 32 := 3#32
  let v18 : BitVec 1 := Scalar.cmpi .slt v3 c3_i32_11
  let c1_i32_165 : BitVec 32 := 1#32
  let v253 : BitVec 1 := Scalar.cmpi .sge v3 c1_i32_165
  let v254 : BitVec 1 := Scalar.andi v18 v253
  let v255 : BitVec 32 := Scalar.extui v254
  let c0_i32_166 : BitVec 32 := 0#32
  let v256 : BitVec 1 := Scalar.cmpi .ne v255 c0_i32_166
  v256

def k0_off161 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.subi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_267 : BitVec 32 := 0#32
  ![v402.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32 : BitVec 32 := 0#32
  let v19 : BitVec 1 := Scalar.cmpi .sgt v3 c0_i32
  let c2_i32_167 : BitVec 32 := 2#32
  let v257 : BitVec 32 := Scalar.addi v3 c2_i32_167
  let c1_i32_168 : BitVec 32 := 1#32
  let v258 : BitVec 32 := Scalar.subi v257 c1_i32_168
  let c3_i32_169 : BitVec 32 := 3#32
  let v259 : BitVec 1 := Scalar.cmpi .sle v258 c3_i32_169
  let v260 : BitVec 1 := Scalar.andi v19 v259
  let v261 : BitVec 32 := Scalar.extui v260
  let c0_i32_170 : BitVec 32 := 0#32
  let v262 : BitVec 1 := Scalar.cmpi .ne v261 c0_i32_170
  v262

def k0_off162 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_267 : BitVec 32 := 0#32
  ![v402.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_11 : BitVec 32 := 3#32
  let v18 : BitVec 1 := Scalar.cmpi .slt v3 c3_i32_11
  let c2_i32_171 : BitVec 32 := 2#32
  let v263 : BitVec 1 := Scalar.cmpi .sge v3 c2_i32_171
  let v264 : BitVec 1 := Scalar.andi v18 v263
  let v265 : BitVec 32 := Scalar.extui v264
  let c0_i32_172 : BitVec 32 := 0#32
  let v266 : BitVec 1 := Scalar.cmpi .ne v265 c0_i32_172
  v266

def k0_off163 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.subi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_267 : BitVec 32 := 0#32
  ![v402.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32 : BitVec 32 := 0#32
  let v19 : BitVec 1 := Scalar.cmpi .sgt v3 c0_i32
  let c3_i32_173 : BitVec 32 := 3#32
  let v267 : BitVec 32 := Scalar.addi v3 c3_i32_173
  let c1_i32_174 : BitVec 32 := 1#32
  let v268 : BitVec 32 := Scalar.subi v267 c1_i32_174
  let c3_i32_175 : BitVec 32 := 3#32
  let v269 : BitVec 1 := Scalar.cmpi .sle v268 c3_i32_175
  let v270 : BitVec 1 := Scalar.andi v19 v269
  let v271 : BitVec 32 := Scalar.extui v270
  let c0_i32_176 : BitVec 32 := 0#32
  let v272 : BitVec 1 := Scalar.cmpi .ne v271 c0_i32_176
  v272

def k0_off164 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let v401 : BitVec 32 := Scalar.addi v400 v4
  let c256_i32_263 : BitVec 32 := 256#32
  let v402 : BitVec 32 := Scalar.muli v401 c256_i32_263
  let c0_i32_267 : BitVec 32 := 0#32
  ![v402.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_177 : BitVec 32 := 0#32
  let v273 : BitVec 32 := Scalar.addi v3 c0_i32_177
  let c0_i32_178 : BitVec 32 := 0#32
  let v274 : BitVec 1 := Scalar.cmpi .sge v273 c0_i32_178
  let c3_i32_179 : BitVec 32 := 3#32
  let v275 : BitVec 1 := Scalar.cmpi .sle v273 c3_i32_179
  let v276 : BitVec 1 := Scalar.andi v274 v275
  let v277 : BitVec 32 := Scalar.extui v276
  let c0_i32_180 : BitVec 32 := 0#32
  let v278 : BitVec 1 := Scalar.cmpi .ne v277 c0_i32_180
  v278

def k0_off165 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off166 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v411 : BitVec 32 := Scalar.muli c4_i32_275 v399
  let c4_i32_0 : BitVec 32 := 4#32
  let v4 : BitVec 32 := Scalar.remsi v2 c4_i32_0
  let c0_i32_276 : BitVec 32 := 0#32
  let v412 : BitVec 32 := Scalar.addi v4 c0_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_181 : BitVec 32 := 0#32
  let v279 : BitVec 32 := Scalar.addi v3 c0_i32_181
  let c0_i32_182 : BitVec 32 := 0#32
  let v280 : BitVec 1 := Scalar.cmpi .sge v279 c0_i32_182
  let c3_i32_183 : BitVec 32 := 3#32
  let v281 : BitVec 1 := Scalar.cmpi .sle v279 c3_i32_183
  let v282 : BitVec 1 := Scalar.andi v280 v281
  let v283 : BitVec 32 := Scalar.extui v282
  let c0_i32_184 : BitVec 32 := 0#32
  let v284 : BitVec 1 := Scalar.cmpi .ne v283 c0_i32_184
  v284

def k0_off167 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off168 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v411 : BitVec 32 := Scalar.muli c4_i32_275 v399
  let c4_i32_0 : BitVec 32 := 4#32
  let v4 : BitVec 32 := Scalar.remsi v2 c4_i32_0
  let c1_i32_276 : BitVec 32 := 1#32
  let v412 : BitVec 32 := Scalar.addi v4 c1_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_185 : BitVec 32 := 0#32
  let v285 : BitVec 32 := Scalar.addi v3 c0_i32_185
  let c0_i32_186 : BitVec 32 := 0#32
  let v286 : BitVec 1 := Scalar.cmpi .sge v285 c0_i32_186
  let c3_i32_187 : BitVec 32 := 3#32
  let v287 : BitVec 1 := Scalar.cmpi .sle v285 c3_i32_187
  let v288 : BitVec 1 := Scalar.andi v286 v287
  let v289 : BitVec 32 := Scalar.extui v288
  let c0_i32_188 : BitVec 32 := 0#32
  let v290 : BitVec 1 := Scalar.cmpi .ne v289 c0_i32_188
  v290

def k0_off169 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off170 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_261 : BitVec 32 := 0#32
  let v399 : BitVec 32 := Scalar.addi v3 c0_i32_261
  let v411 : BitVec 32 := Scalar.muli c4_i32_275 v399
  let c4_i32_0 : BitVec 32 := 4#32
  let v4 : BitVec 32 := Scalar.remsi v2 c4_i32_0
  let c2_i32_276 : BitVec 32 := 2#32
  let v412 : BitVec 32 := Scalar.addi v4 c2_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_189 : BitVec 32 := 4294967295#32
  let v291 : BitVec 32 := Scalar.addi v3 c_m1_i32_189
  let c0_i32_190 : BitVec 32 := 0#32
  let v292 : BitVec 1 := Scalar.cmpi .sge v291 c0_i32_190
  let c3_i32_191 : BitVec 32 := 3#32
  let v293 : BitVec 1 := Scalar.cmpi .sle v291 c3_i32_191
  let v294 : BitVec 1 := Scalar.andi v292 v293
  let v295 : BitVec 32 := Scalar.extui v294
  let c0_i32_192 : BitVec 32 := 0#32
  let v296 : BitVec 1 := Scalar.cmpi .ne v295 c0_i32_192
  v296

def k0_off171 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off172 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v411 : BitVec 32 := Scalar.muli c4_i32_275 v399
  let c4_i32_0 : BitVec 32 := 4#32
  let v4 : BitVec 32 := Scalar.remsi v2 c4_i32_0
  let c0_i32_276 : BitVec 32 := 0#32
  let v412 : BitVec 32 := Scalar.addi v4 c0_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_193 : BitVec 32 := 4294967295#32
  let v297 : BitVec 32 := Scalar.addi v3 c_m1_i32_193
  let c0_i32_194 : BitVec 32 := 0#32
  let v298 : BitVec 1 := Scalar.cmpi .sge v297 c0_i32_194
  let c3_i32_195 : BitVec 32 := 3#32
  let v299 : BitVec 1 := Scalar.cmpi .sle v297 c3_i32_195
  let v300 : BitVec 1 := Scalar.andi v298 v299
  let v301 : BitVec 32 := Scalar.extui v300
  let c0_i32_196 : BitVec 32 := 0#32
  let v302 : BitVec 1 := Scalar.cmpi .ne v301 c0_i32_196
  v302

def k0_off173 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off174 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v411 : BitVec 32 := Scalar.muli c4_i32_275 v399
  let c4_i32_0 : BitVec 32 := 4#32
  let v4 : BitVec 32 := Scalar.remsi v2 c4_i32_0
  let c1_i32_276 : BitVec 32 := 1#32
  let v412 : BitVec 32 := Scalar.addi v4 c1_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_197 : BitVec 32 := 4294967295#32
  let v303 : BitVec 32 := Scalar.addi v3 c_m1_i32_197
  let c0_i32_198 : BitVec 32 := 0#32
  let v304 : BitVec 1 := Scalar.cmpi .sge v303 c0_i32_198
  let c3_i32_199 : BitVec 32 := 3#32
  let v305 : BitVec 1 := Scalar.cmpi .sle v303 c3_i32_199
  let v306 : BitVec 1 := Scalar.andi v304 v305
  let v307 : BitVec 32 := Scalar.extui v306
  let c0_i32_200 : BitVec 32 := 0#32
  let v308 : BitVec 1 := Scalar.cmpi .ne v307 c0_i32_200
  v308

def k0_off175 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off176 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m1_i32_261 : BitVec 32 := 4294967295#32
  let v399 : BitVec 32 := Scalar.addi v3 c_m1_i32_261
  let v411 : BitVec 32 := Scalar.muli c4_i32_275 v399
  let c4_i32_0 : BitVec 32 := 4#32
  let v4 : BitVec 32 := Scalar.remsi v2 c4_i32_0
  let c2_i32_276 : BitVec 32 := 2#32
  let v412 : BitVec 32 := Scalar.addi v4 c2_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_201 : BitVec 32 := 1#32
  let v309 : BitVec 32 := Scalar.addi v3 c1_i32_201
  let c0_i32_202 : BitVec 32 := 0#32
  let v310 : BitVec 1 := Scalar.cmpi .sge v309 c0_i32_202
  let c3_i32_203 : BitVec 32 := 3#32
  let v311 : BitVec 1 := Scalar.cmpi .sle v309 c3_i32_203
  let v312 : BitVec 1 := Scalar.andi v310 v311
  let v313 : BitVec 32 := Scalar.extui v312
  let c0_i32_204 : BitVec 32 := 0#32
  let v314 : BitVec 1 := Scalar.cmpi .ne v313 c0_i32_204
  v314

def k0_off177 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off178 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v411 : BitVec 32 := Scalar.muli c4_i32_275 v399
  let c4_i32_0 : BitVec 32 := 4#32
  let v4 : BitVec 32 := Scalar.remsi v2 c4_i32_0
  let c0_i32_276 : BitVec 32 := 0#32
  let v412 : BitVec 32 := Scalar.addi v4 c0_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_205 : BitVec 32 := 1#32
  let v315 : BitVec 32 := Scalar.addi v3 c1_i32_205
  let c0_i32_206 : BitVec 32 := 0#32
  let v316 : BitVec 1 := Scalar.cmpi .sge v315 c0_i32_206
  let c3_i32_207 : BitVec 32 := 3#32
  let v317 : BitVec 1 := Scalar.cmpi .sle v315 c3_i32_207
  let v318 : BitVec 1 := Scalar.andi v316 v317
  let v319 : BitVec 32 := Scalar.extui v318
  let c0_i32_208 : BitVec 32 := 0#32
  let v320 : BitVec 1 := Scalar.cmpi .ne v319 c0_i32_208
  v320

def k0_off179 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off180 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v411 : BitVec 32 := Scalar.muli c4_i32_275 v399
  let c4_i32_0 : BitVec 32 := 4#32
  let v4 : BitVec 32 := Scalar.remsi v2 c4_i32_0
  let c1_i32_276 : BitVec 32 := 1#32
  let v412 : BitVec 32 := Scalar.addi v4 c1_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_209 : BitVec 32 := 1#32
  let v321 : BitVec 32 := Scalar.addi v3 c1_i32_209
  let c0_i32_210 : BitVec 32 := 0#32
  let v322 : BitVec 1 := Scalar.cmpi .sge v321 c0_i32_210
  let c3_i32_211 : BitVec 32 := 3#32
  let v323 : BitVec 1 := Scalar.cmpi .sle v321 c3_i32_211
  let v324 : BitVec 1 := Scalar.andi v322 v323
  let v325 : BitVec 32 := Scalar.extui v324
  let c0_i32_212 : BitVec 32 := 0#32
  let v326 : BitVec 1 := Scalar.cmpi .ne v325 c0_i32_212
  v326

def k0_off181 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off182 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_261 : BitVec 32 := 1#32
  let v399 : BitVec 32 := Scalar.addi v3 c1_i32_261
  let v411 : BitVec 32 := Scalar.muli c4_i32_275 v399
  let c4_i32_0 : BitVec 32 := 4#32
  let v4 : BitVec 32 := Scalar.remsi v2 c4_i32_0
  let c2_i32_276 : BitVec 32 := 2#32
  let v412 : BitVec 32 := Scalar.addi v4 c2_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_213 : BitVec 32 := 4294967294#32
  let v327 : BitVec 32 := Scalar.addi v3 c_m2_i32_213
  let c0_i32_214 : BitVec 32 := 0#32
  let v328 : BitVec 1 := Scalar.cmpi .sge v327 c0_i32_214
  let c3_i32_215 : BitVec 32 := 3#32
  let v329 : BitVec 1 := Scalar.cmpi .sle v327 c3_i32_215
  let v330 : BitVec 1 := Scalar.andi v328 v329
  let v331 : BitVec 32 := Scalar.extui v330
  let c0_i32_216 : BitVec 32 := 0#32
  let v332 : BitVec 1 := Scalar.cmpi .ne v331 c0_i32_216
  v332

def k0_off183 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off184 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v411 : BitVec 32 := Scalar.muli c4_i32_275 v399
  let c4_i32_0 : BitVec 32 := 4#32
  let v4 : BitVec 32 := Scalar.remsi v2 c4_i32_0
  let c0_i32_276 : BitVec 32 := 0#32
  let v412 : BitVec 32 := Scalar.addi v4 c0_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_217 : BitVec 32 := 4294967294#32
  let v333 : BitVec 32 := Scalar.addi v3 c_m2_i32_217
  let c0_i32_218 : BitVec 32 := 0#32
  let v334 : BitVec 1 := Scalar.cmpi .sge v333 c0_i32_218
  let c3_i32_219 : BitVec 32 := 3#32
  let v335 : BitVec 1 := Scalar.cmpi .sle v333 c3_i32_219
  let v336 : BitVec 1 := Scalar.andi v334 v335
  let v337 : BitVec 32 := Scalar.extui v336
  let c0_i32_220 : BitVec 32 := 0#32
  let v338 : BitVec 1 := Scalar.cmpi .ne v337 c0_i32_220
  v338

def k0_off185 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off186 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v411 : BitVec 32 := Scalar.muli c4_i32_275 v399
  let c4_i32_0 : BitVec 32 := 4#32
  let v4 : BitVec 32 := Scalar.remsi v2 c4_i32_0
  let c1_i32_276 : BitVec 32 := 1#32
  let v412 : BitVec 32 := Scalar.addi v4 c1_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_221 : BitVec 32 := 4294967294#32
  let v339 : BitVec 32 := Scalar.addi v3 c_m2_i32_221
  let c0_i32_222 : BitVec 32 := 0#32
  let v340 : BitVec 1 := Scalar.cmpi .sge v339 c0_i32_222
  let c3_i32_223 : BitVec 32 := 3#32
  let v341 : BitVec 1 := Scalar.cmpi .sle v339 c3_i32_223
  let v342 : BitVec 1 := Scalar.andi v340 v341
  let v343 : BitVec 32 := Scalar.extui v342
  let c0_i32_224 : BitVec 32 := 0#32
  let v344 : BitVec 1 := Scalar.cmpi .ne v343 c0_i32_224
  v344

def k0_off187 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off188 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m2_i32_261 : BitVec 32 := 4294967294#32
  let v399 : BitVec 32 := Scalar.addi v3 c_m2_i32_261
  let v411 : BitVec 32 := Scalar.muli c4_i32_275 v399
  let c4_i32_0 : BitVec 32 := 4#32
  let v4 : BitVec 32 := Scalar.remsi v2 c4_i32_0
  let c2_i32_276 : BitVec 32 := 2#32
  let v412 : BitVec 32 := Scalar.addi v4 c2_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_225 : BitVec 32 := 2#32
  let v345 : BitVec 32 := Scalar.addi v3 c2_i32_225
  let c0_i32_226 : BitVec 32 := 0#32
  let v346 : BitVec 1 := Scalar.cmpi .sge v345 c0_i32_226
  let c3_i32_227 : BitVec 32 := 3#32
  let v347 : BitVec 1 := Scalar.cmpi .sle v345 c3_i32_227
  let v348 : BitVec 1 := Scalar.andi v346 v347
  let v349 : BitVec 32 := Scalar.extui v348
  let c0_i32_228 : BitVec 32 := 0#32
  let v350 : BitVec 1 := Scalar.cmpi .ne v349 c0_i32_228
  v350

def k0_off189 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off190 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v411 : BitVec 32 := Scalar.muli c4_i32_275 v399
  let c4_i32_0 : BitVec 32 := 4#32
  let v4 : BitVec 32 := Scalar.remsi v2 c4_i32_0
  let c0_i32_276 : BitVec 32 := 0#32
  let v412 : BitVec 32 := Scalar.addi v4 c0_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_229 : BitVec 32 := 2#32
  let v351 : BitVec 32 := Scalar.addi v3 c2_i32_229
  let c0_i32_230 : BitVec 32 := 0#32
  let v352 : BitVec 1 := Scalar.cmpi .sge v351 c0_i32_230
  let c3_i32_231 : BitVec 32 := 3#32
  let v353 : BitVec 1 := Scalar.cmpi .sle v351 c3_i32_231
  let v354 : BitVec 1 := Scalar.andi v352 v353
  let v355 : BitVec 32 := Scalar.extui v354
  let c0_i32_232 : BitVec 32 := 0#32
  let v356 : BitVec 1 := Scalar.cmpi .ne v355 c0_i32_232
  v356

def k0_off191 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off192 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v411 : BitVec 32 := Scalar.muli c4_i32_275 v399
  let c4_i32_0 : BitVec 32 := 4#32
  let v4 : BitVec 32 := Scalar.remsi v2 c4_i32_0
  let c1_i32_276 : BitVec 32 := 1#32
  let v412 : BitVec 32 := Scalar.addi v4 c1_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_233 : BitVec 32 := 2#32
  let v357 : BitVec 32 := Scalar.addi v3 c2_i32_233
  let c0_i32_234 : BitVec 32 := 0#32
  let v358 : BitVec 1 := Scalar.cmpi .sge v357 c0_i32_234
  let c3_i32_235 : BitVec 32 := 3#32
  let v359 : BitVec 1 := Scalar.cmpi .sle v357 c3_i32_235
  let v360 : BitVec 1 := Scalar.andi v358 v359
  let v361 : BitVec 32 := Scalar.extui v360
  let c0_i32_236 : BitVec 32 := 0#32
  let v362 : BitVec 1 := Scalar.cmpi .ne v361 c0_i32_236
  v362

def k0_off193 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_273 : BitVec 32 := 0#32
  ![v406.toNat, 0]
def k0_off194 (d0 : Dev nD) : Fin 2 → Nat :=
  let c4_i32_275 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_261 : BitVec 32 := 2#32
  let v399 : BitVec 32 := Scalar.addi v3 c2_i32_261
  let v411 : BitVec 32 := Scalar.muli c4_i32_275 v399
  let c4_i32_0 : BitVec 32 := 4#32
  let v4 : BitVec 32 := Scalar.remsi v2 c4_i32_0
  let c2_i32_276 : BitVec 32 := 2#32
  let v412 : BitVec 32 := Scalar.addi v4 c2_i32_276
  let c4_i32_277 : BitVec 32 := 4#32
  let v413 : BitVec 32 := Scalar.remsi v412 c4_i32_277
  let v414 : BitVec 32 := Scalar.addi v411 v413
  let c256_i32_278 : BitVec 32 := 256#32
  let v415 : BitVec 32 := Scalar.muli v414 c256_i32_278
  let c128_i32_279 : BitVec 32 := 128#32
  let v416 : BitVec 32 := Scalar.addi v415 c128_i32_279
  let c0_i32_285 : BitVec 32 := 0#32
  ![v416.toNat, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_237 : BitVec 32 := 4294967293#32
  let v363 : BitVec 32 := Scalar.addi v3 c_m3_i32_237
  let c0_i32_238 : BitVec 32 := 0#32
  let v364 : BitVec 1 := Scalar.cmpi .sge v363 c0_i32_238
  let c3_i32_239 : BitVec 32 := 3#32
  let v365 : BitVec 1 := Scalar.cmpi .sle v363 c3_i32_239
  let v366 : BitVec 1 := Scalar.andi v364 v365
  let v367 : BitVec 32 := Scalar.extui v366
  let c0_i32_240 : BitVec 32 := 0#32
  let v368 : BitVec 1 := Scalar.cmpi .ne v367 c0_i32_240
  v368

def k0_off195 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_272 : BitVec 32 := 0#32
  ![v406.toNat, 0]
def k0_off196 (d0 : Dev nD) : Fin 2 → Nat :=
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v411 : BitVec 32 := Scalar.muli c4_i32_274 v399
  let c4_i32_0 : BitVec 32 := 4#32
  let v4 : BitVec 32 := Scalar.remsi v2 c4_i32_0
  let c0_i32_275 : BitVec 32 := 0#32
  let v412 : BitVec 32 := Scalar.addi v4 c0_i32_275
  let c4_i32_276 : BitVec 32 := 4#32
  let v413 : BitVec 32 := Scalar.remsi v412 c4_i32_276
  let v414 : BitVec 32 := Scalar.addi v411 v413
  let c256_i32_277 : BitVec 32 := 256#32
  let v415 : BitVec 32 := Scalar.muli v414 c256_i32_277
  let c128_i32_278 : BitVec 32 := 128#32
  let v416 : BitVec 32 := Scalar.addi v415 c128_i32_278
  let c0_i32_284 : BitVec 32 := 0#32
  ![v416.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_241 : BitVec 32 := 4294967293#32
  let v369 : BitVec 32 := Scalar.addi v3 c_m3_i32_241
  let c0_i32_242 : BitVec 32 := 0#32
  let v370 : BitVec 1 := Scalar.cmpi .sge v369 c0_i32_242
  let c3_i32_243 : BitVec 32 := 3#32
  let v371 : BitVec 1 := Scalar.cmpi .sle v369 c3_i32_243
  let v372 : BitVec 1 := Scalar.andi v370 v371
  let v373 : BitVec 32 := Scalar.extui v372
  let c0_i32_244 : BitVec 32 := 0#32
  let v374 : BitVec 1 := Scalar.cmpi .ne v373 c0_i32_244
  v374

def k0_off197 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_272 : BitVec 32 := 0#32
  ![v406.toNat, 0]
def k0_off198 (d0 : Dev nD) : Fin 2 → Nat :=
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v411 : BitVec 32 := Scalar.muli c4_i32_274 v399
  let c4_i32_0 : BitVec 32 := 4#32
  let v4 : BitVec 32 := Scalar.remsi v2 c4_i32_0
  let c1_i32_275 : BitVec 32 := 1#32
  let v412 : BitVec 32 := Scalar.addi v4 c1_i32_275
  let c4_i32_276 : BitVec 32 := 4#32
  let v413 : BitVec 32 := Scalar.remsi v412 c4_i32_276
  let v414 : BitVec 32 := Scalar.addi v411 v413
  let c256_i32_277 : BitVec 32 := 256#32
  let v415 : BitVec 32 := Scalar.muli v414 c256_i32_277
  let c128_i32_278 : BitVec 32 := 128#32
  let v416 : BitVec 32 := Scalar.addi v415 c128_i32_278
  let c0_i32_284 : BitVec 32 := 0#32
  ![v416.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_245 : BitVec 32 := 4294967293#32
  let v375 : BitVec 32 := Scalar.addi v3 c_m3_i32_245
  let c0_i32_246 : BitVec 32 := 0#32
  let v376 : BitVec 1 := Scalar.cmpi .sge v375 c0_i32_246
  let c3_i32_247 : BitVec 32 := 3#32
  let v377 : BitVec 1 := Scalar.cmpi .sle v375 c3_i32_247
  let v378 : BitVec 1 := Scalar.andi v376 v377
  let v379 : BitVec 32 := Scalar.extui v378
  let c0_i32_248 : BitVec 32 := 0#32
  let v380 : BitVec 1 := Scalar.cmpi .ne v379 c0_i32_248
  v380

def k0_off199 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_272 : BitVec 32 := 0#32
  ![v406.toNat, 0]
def k0_off200 (d0 : Dev nD) : Fin 2 → Nat :=
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c_m3_i32_261 : BitVec 32 := 4294967293#32
  let v399 : BitVec 32 := Scalar.addi v3 c_m3_i32_261
  let v411 : BitVec 32 := Scalar.muli c4_i32_274 v399
  let c4_i32_0 : BitVec 32 := 4#32
  let v4 : BitVec 32 := Scalar.remsi v2 c4_i32_0
  let c2_i32_275 : BitVec 32 := 2#32
  let v412 : BitVec 32 := Scalar.addi v4 c2_i32_275
  let c4_i32_276 : BitVec 32 := 4#32
  let v413 : BitVec 32 := Scalar.remsi v412 c4_i32_276
  let v414 : BitVec 32 := Scalar.addi v411 v413
  let c256_i32_277 : BitVec 32 := 256#32
  let v415 : BitVec 32 := Scalar.muli v414 c256_i32_277
  let c128_i32_278 : BitVec 32 := 128#32
  let v416 : BitVec 32 := Scalar.addi v415 c128_i32_278
  let c0_i32_284 : BitVec 32 := 0#32
  ![v416.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_249 : BitVec 32 := 3#32
  let v381 : BitVec 32 := Scalar.addi v3 c3_i32_249
  let c0_i32_250 : BitVec 32 := 0#32
  let v382 : BitVec 1 := Scalar.cmpi .sge v381 c0_i32_250
  let c3_i32_251 : BitVec 32 := 3#32
  let v383 : BitVec 1 := Scalar.cmpi .sle v381 c3_i32_251
  let v384 : BitVec 1 := Scalar.andi v382 v383
  let v385 : BitVec 32 := Scalar.extui v384
  let c0_i32_252 : BitVec 32 := 0#32
  let v386 : BitVec 1 := Scalar.cmpi .ne v385 c0_i32_252
  v386

def k0_off201 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c0_i32_263 : BitVec 32 := 0#32
  let v401 : BitVec 32 := Scalar.subi v4 c0_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_272 : BitVec 32 := 0#32
  ![v406.toNat, 0]
def k0_off202 (d0 : Dev nD) : Fin 2 → Nat :=
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v411 : BitVec 32 := Scalar.muli c4_i32_274 v399
  let c4_i32_0 : BitVec 32 := 4#32
  let v4 : BitVec 32 := Scalar.remsi v2 c4_i32_0
  let c0_i32_275 : BitVec 32 := 0#32
  let v412 : BitVec 32 := Scalar.addi v4 c0_i32_275
  let c4_i32_276 : BitVec 32 := 4#32
  let v413 : BitVec 32 := Scalar.remsi v412 c4_i32_276
  let v414 : BitVec 32 := Scalar.addi v411 v413
  let c256_i32_277 : BitVec 32 := 256#32
  let v415 : BitVec 32 := Scalar.muli v414 c256_i32_277
  let c128_i32_278 : BitVec 32 := 128#32
  let v416 : BitVec 32 := Scalar.addi v415 c128_i32_278
  let c0_i32_284 : BitVec 32 := 0#32
  ![v416.toNat, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_253 : BitVec 32 := 3#32
  let v387 : BitVec 32 := Scalar.addi v3 c3_i32_253
  let c0_i32_254 : BitVec 32 := 0#32
  let v388 : BitVec 1 := Scalar.cmpi .sge v387 c0_i32_254
  let c3_i32_255 : BitVec 32 := 3#32
  let v389 : BitVec 1 := Scalar.cmpi .sle v387 c3_i32_255
  let v390 : BitVec 1 := Scalar.andi v388 v389
  let v391 : BitVec 32 := Scalar.extui v390
  let c0_i32_256 : BitVec 32 := 0#32
  let v392 : BitVec 1 := Scalar.cmpi .ne v391 c0_i32_256
  v392

def k0_off203 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c1_i32_263 : BitVec 32 := 1#32
  let v401 : BitVec 32 := Scalar.subi v4 c1_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_272 : BitVec 32 := 0#32
  ![v406.toNat, 0]
def k0_off204 (d0 : Dev nD) : Fin 2 → Nat :=
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v411 : BitVec 32 := Scalar.muli c4_i32_274 v399
  let c4_i32_0 : BitVec 32 := 4#32
  let v4 : BitVec 32 := Scalar.remsi v2 c4_i32_0
  let c1_i32_275 : BitVec 32 := 1#32
  let v412 : BitVec 32 := Scalar.addi v4 c1_i32_275
  let c4_i32_276 : BitVec 32 := 4#32
  let v413 : BitVec 32 := Scalar.remsi v412 c4_i32_276
  let v414 : BitVec 32 := Scalar.addi v411 v413
  let c256_i32_277 : BitVec 32 := 256#32
  let v415 : BitVec 32 := Scalar.muli v414 c256_i32_277
  let c128_i32_278 : BitVec 32 := 128#32
  let v416 : BitVec 32 := Scalar.addi v415 c128_i32_278
  let c0_i32_284 : BitVec 32 := 0#32
  ![v416.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_257 : BitVec 32 := 3#32
  let v393 : BitVec 32 := Scalar.addi v3 c3_i32_257
  let c0_i32_258 : BitVec 32 := 0#32
  let v394 : BitVec 1 := Scalar.cmpi .sge v393 c0_i32_258
  let c3_i32_259 : BitVec 32 := 3#32
  let v395 : BitVec 1 := Scalar.cmpi .sle v393 c3_i32_259
  let v396 : BitVec 1 := Scalar.andi v394 v395
  let v397 : BitVec 32 := Scalar.extui v396
  let c0_i32_260 : BitVec 32 := 0#32
  let v398 : BitVec 1 := Scalar.cmpi .ne v397 c0_i32_260
  v398

def k0_off205 (d0 : Dev nD) : Fin 2 → Nat :=
  let c4_i32_262 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v400 : BitVec 32 := Scalar.muli c4_i32_262 v399
  let c4_i32_0 : BitVec 32 := 4#32
  let v4 : BitVec 32 := Scalar.remsi v2 c4_i32_0
  let c2_i32_263 : BitVec 32 := 2#32
  let v401 : BitVec 32 := Scalar.subi v4 c2_i32_263
  let c4_i32_264 : BitVec 32 := 4#32
  let v402 : BitVec 32 := Scalar.addi v401 c4_i32_264
  let c4_i32_265 : BitVec 32 := 4#32
  let v403 : BitVec 32 := Scalar.remsi v402 c4_i32_265
  let v404 : BitVec 32 := Scalar.addi v400 v403
  let c256_i32_266 : BitVec 32 := 256#32
  let v405 : BitVec 32 := Scalar.muli v404 c256_i32_266
  let c0_i32_267 : BitVec 32 := 0#32
  let v406 : BitVec 32 := Scalar.addi v405 c0_i32_267
  let c0_i32_272 : BitVec 32 := 0#32
  ![v406.toNat, 0]
def k0_off206 (d0 : Dev nD) : Fin 2 → Nat :=
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_261 : BitVec 32 := 3#32
  let v399 : BitVec 32 := Scalar.addi v3 c3_i32_261
  let v411 : BitVec 32 := Scalar.muli c4_i32_274 v399
  let c4_i32_0 : BitVec 32 := 4#32
  let v4 : BitVec 32 := Scalar.remsi v2 c4_i32_0
  let c2_i32_275 : BitVec 32 := 2#32
  let v412 : BitVec 32 := Scalar.addi v4 c2_i32_275
  let c4_i32_276 : BitVec 32 := 4#32
  let v413 : BitVec 32 := Scalar.remsi v412 c4_i32_276
  let v414 : BitVec 32 := Scalar.addi v411 v413
  let c256_i32_277 : BitVec 32 := 256#32
  let v415 : BitVec 32 := Scalar.muli v414 c256_i32_277
  let c128_i32_278 : BitVec 32 := 128#32
  let v416 : BitVec 32 := Scalar.addi v415 c128_i32_278
  let c0_i32_284 : BitVec 32 := 0#32
  ![v416.toNat, 0]
abbrev stage0_0 : Fin 1 → Memref sig .tc .vmem S256x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Lanes.lean ====
/-
  The kernel's remote copies, as 48 LANES.

  The sixteen devices stand on a 4 × 4 grid: device c has height z = c / 4 and place q = c % 4. A lane is one remote copy
  as the program text writes it, once for every device that runs it:

    lane 6·g + 2·h + b   (g < 7, h < 3, b < 2)   the copy of hop h + 1 round the ring of a height, for the rows that
                         started at height z + dzo g − 3; b = 0 forwards to the next place (the first 128 rows of a
                         chunk), b = 1 to the previous one (the last 128 rows);
    lane 42 + 2·h + b    the copy of hop h + 1 along the line of heights, b = 0 upwards, b = 1 downwards (a whole chunk
                         of 256 rows).

  This module has what each lane does on each device, the place of its operations in the program text, and the facts
  about these tables the proof uses. Everything is decided over the 48 lanes and the 16 devices.
-/
module

public import Mathlib.Data.Fintype.Basic
public import Mathlib.Data.Fin.VecNotation

@[expose] public section

namespace Cert.Lanes

abbrev Lane : Type := Fin 48
abbrev D16 : Type := Fin 16

/-- The group (7 for the line of heights), the hop less one, the direction of a lane. -/
def grp (k : ℕ) : ℕ := k / 6
def hop (k : ℕ) : ℕ := k % 6 / 2
def bit (k : ℕ) : ℕ := k % 2

/-- The height a ring group's rows started from, relative to the device's own, plus 3. -/
def dzo : ℕ → ℕ
  | 0 => 3 | 1 => 2 | 2 => 4 | 3 => 1 | 4 => 5 | 5 => 0 | _ => 6
/-- How far that is. -/
def adz : ℕ → ℕ
  | 0 => 0 | 1 => 1 | 2 => 1 | 3 => 2 | 4 => 2 | 5 => 3 | _ => 3

/-- The devices after and before `c` round its ring, above and below it on its line. -/
def nxtN (c : ℕ) : ℕ := c / 4 * 4 + (c % 4 + 1) % 4
def prvN (c : ℕ) : ℕ := c / 4 * 4 + (c % 4 + 3) % 4
def upN (c : ℕ) : ℕ := (c + 4) % 16
def dnN (c : ℕ) : ℕ := (c + 12) % 16

theorem nxtN_lt (c : D16) : nxtN c.val < 16 := by revert c; decide
theorem prvN_lt (c : D16) : prvN c.val < 16 := by revert c; decide
theorem upN_lt (c : D16) : upN c.val < 16 := by revert c; decide
theorem dnN_lt (c : D16) : dnN c.val < 16 := by revert c; decide

def nxt (c : D16) : D16 := ⟨nxtN c.val, nxtN_lt c⟩
def prv (c : D16) : D16 := ⟨prvN c.val, prvN_lt c⟩
def up (c : D16) : D16 := ⟨upN c.val, upN_lt c⟩
def dn (c : D16) : D16 := ⟨dnN c.val, dnN_lt c⟩

/-- Does the ring group `g` exist at device `c`: is its starting height one of the four. -/
def layerN (g c : ℕ) : Bool := Nat.ble 3 (c / 4 + dzo g) && Nat.ble (c / 4 + dzo g) 6

/-- Does device `c` send on lane `k`. -/
def outN (k c : ℕ) : Bool :=
  cond (Nat.ble 42 k)
    (cond (Nat.beq (bit k) 0) (Nat.ble (c / 4) 2 && Nat.ble (hop k) (c / 4)) (Nat.ble 1 (c / 4) && Nat.ble (c / 4 + hop k) 3))
    (layerN (grp k) c)
/-- Does device `c` receive on lane `k`. -/
def incN (k c : ℕ) : Bool :=
  cond (Nat.ble 42 k)
    (cond (Nat.beq (bit k) 0) (Nat.ble (hop k + 1) (c / 4)) (Nat.ble (c / 4 + hop k + 1) 3))
    (layerN (grp k) c)
/-- The first row of what device `c` sends on lane `k`. -/
def rowN (k c : ℕ) : ℕ :=
  cond (Nat.ble 42 k)
    (cond (Nat.beq (bit k) 0) ((4 * (c / 4 - hop k) + c % 4) * 256) ((4 * (c / 4 + hop k) + c % 4) * 256))
    (cond (Nat.beq (bit k) 0) ((4 * (c / 4 + dzo (grp k) - 3) + (c % 4 + 4 - hop k) % 4) * 256)
      ((4 * (c / 4 + dzo (grp k) - 3) + (c % 4 + hop k) % 4) * 256 + 128))
/-- How many rows lane `k` moves. -/
def nrN (k : ℕ) : ℕ := cond (Nat.ble 42 k) 256 128
/-- The receiver of what `c` sends on lane `k`, and the sender of what it receives. -/
def peerN (k c : ℕ) : ℕ := cond (Nat.ble 42 k) (cond (Nat.beq (bit k) 0) (upN c) (dnN c)) (cond (Nat.beq (bit k) 0) (nxtN c) (prvN c))
def senderN (k c : ℕ) : ℕ := cond (Nat.ble 42 k) (cond (Nat.beq (bit k) 0) (dnN c) (upN c)) (cond (Nat.beq (bit k) 0) (prvN c) (nxtN c))

def out (k : Lane) (c : D16) : Bool := outN k.val c.val
def inc (k : Lane) (c : D16) : Bool := incN k.val c.val
def row (k : Lane) (c : D16) : ℕ := rowN k.val c.val
def nr (k : Lane) : ℕ := nrN k.val
theorem peerN_lt : ∀ (k : Lane) (c : D16), peerN k.val c.val < 16 := by decide +kernel
theorem senderN_lt : ∀ (k : Lane) (c : D16), senderN k.val c.val < 16 := by decide +kernel
def peer (k : Lane) (c : D16) : D16 := ⟨peerN k.val c.val, peerN_lt k c⟩
def sender (k : Lane) (c : D16) : D16 := ⟨senderN k.val c.val, senderN_lt k c⟩
/-- The first row of what device `c` receives on lane `k`. -/
def rrow (k : Lane) (c : D16) : ℕ := row k (sender k c)

theorem grp_lt (k : Lane) (h : ¬ 42 ≤ k.val) : 41 + grp k.val < 48 := by
  unfold grp; omega

/-- The lane whose rows lane `k` passes on; `none` when lane `k` sends the device's own rows. -/
def parent (k : Lane) : Option Lane :=
  if h : 42 ≤ k.val then (if 44 ≤ k.val then some ⟨k.val - 2, by omega⟩ else none)
  else if 0 < hop k.val then some ⟨k.val - 2, by omega⟩
  else if 0 < grp k.val then some ⟨41 + grp k.val, grp_lt k h⟩
  else none

/-! ## The program's order

The operations on lanes in the order of the program text are numbered from 0; the counter of the proof's invariant says
how many of them are done. -/

/-- A number from a table. -/
def tab (l : List ℕ) (k : Lane) : ℕ := l.getD k.val 0

/-- Where lane `k` is sent. -/
def sendTime : Lane → ℕ := tab
  [2, 3, 16, 18, 32, 34, 7, 8, 38, 40, 62, 64, 12, 13, 44, 46, 68, 70, 23, 24, 74, 76, 94, 96, 28, 29, 80, 82, 100, 102, 50, 51,
   106, 108, 126, 128, 54, 55, 112, 114, 132, 134, 0, 1, 6, 11, 22, 27]
/-- Where its arrival is waited for. -/
def recvTime : Lane → ℕ := tab
  [15, 17, 31, 33, 57, 58, 37, 39, 61, 63, 85, 86, 43, 45, 67, 69, 89, 90, 73, 75, 93, 95, 117, 118, 79, 81, 99, 101, 121, 122, 105,
   107, 125, 127, 137, 138, 111, 113, 131, 133, 141, 142, 5, 10, 21, 26, 49, 53]
/-- Where the product of the rows that arrived is taken. -/
def compTime : Lane → ℕ := tab
  [19, 20, 35, 36, 59, 60, 41, 42, 65, 66, 87, 88, 47, 48, 71, 72, 91, 92, 77, 78, 97, 98, 119, 120, 83, 84, 103, 104, 123, 124, 109,
   110, 129, 130, 139, 140, 115, 116, 135, 136, 143, 144, 9, 14, 25, 30, 52, 56]
/-- Where its departure is waited for. -/
def drainTime : Lane → ℕ := tab
  [151, 152, 153, 154, 155, 156, 157, 158, 159, 160, 161, 162, 163, 164, 165, 166, 167, 168, 169, 170, 171, 172, 173, 174, 175, 176,
   177, 178, 179, 180, 181, 182, 183, 184, 185, 186, 187, 188, 189, 190, 191, 192, 145, 146, 147, 148, 149, 150]
/-- Where the product of the device's own rows is taken; where the waits for departures begin; the end. -/
abbrev ownTime : ℕ := 4
abbrev endTime : ℕ := 193

/-- The level of lane `k`'s receive cell: a wait may be under way only while nothing lower is owed. -/
def arr (k : Lane) : ℕ := cond (Nat.ble 42 k.val) (hop k.val + 1) (adz (grp k.val) + hop k.val + 1)

/-! ## Facts -/

theorem out_peer : ∀ (k : Lane) (c : D16), out k c = true → inc k (peer k c) = true := by decide +kernel
theorem sender_peer : ∀ (k : Lane) (c : D16), sender k (peer k c) = c := by decide +kernel
theorem peer_sender : ∀ (k : Lane) (c : D16), peer k (sender k c) = c := by decide +kernel

theorem sendTime_inj : Function.Injective sendTime := by decide +kernel
theorem recvTime_inj : Function.Injective recvTime := by decide +kernel
theorem compTime_inj : Function.Injective compTime := by decide +kernel
theorem drainTime_inj : Function.Injective drainTime := by decide +kernel
theorem send_ne_recv : ∀ k j : Lane, sendTime k ≠ recvTime j := by decide +kernel
theorem send_ne_comp : ∀ k j : Lane, sendTime k ≠ compTime j := by decide +kernel
theorem recv_ne_comp : ∀ k j : Lane, recvTime k ≠ compTime j := by decide +kernel
theorem times_lt_drain : ∀ k j : Lane, sendTime k < drainTime j ∧ recvTime k < drainTime j ∧ compTime k < drainTime j := by
  decide +kernel
theorem own_ne : ∀ k : Lane, sendTime k ≠ ownTime ∧ recvTime k ≠ ownTime ∧ compTime k ≠ ownTime ∧ drainTime k ≠ ownTime := by
  decide +kernel
theorem times_lt_end : ∀ k : Lane, drainTime k < endTime := by decide +kernel
/-- A lane passes on what has arrived. -/
theorem parent_recv : ∀ k j : Lane, parent k = some j → recvTime j < sendTime k := by decide +kernel
/-- While lane `k`'s arrival is waited for, only lanes of higher level are still to be sent. -/
theorem arr_lt : ∀ k j : Lane, recvTime k < sendTime j → arr k < arr j := by decide +kernel

/-- What passes on lane `j`'s rows starts where they lie. -/
theorem out_parent : ∀ (k j : Lane) (c : D16), parent k = some j → out k c = true → inc j c = true := by decide +kernel

end Cert.Lanes
-- ==== Proof.Region.lean ====
/-
  The buffers a lane moves between, as sets of rows, and what they hold.

  `GA` is the whole gathered operand, row 256·d + i being row i of device d's part; every copy of the kernel lands rows of
  `GA` on rows of the same numbers. `T c` is the result device c computes from it.
-/
module

public import proofs.«01_k».proof.Proof.Lanes
public import proofs.«01_k».proof.Proof.Gen.KernelIdeal.Skeleton
public import Idealize.ShloMosaic.Lib.IntMxu
public import Idealize.ShloMosaic.Lib.ValueIdxCore
public import Idealize.ShloMosaic.Lib.MatmulPlain

@[expose] public section

noncomputable section

namespace Cert.KernelIdeal.AG

open Idealize.ShloMosaic Idealize.SL.Sem
open Idealize.ShloMosaic.ValueIdx (ix2 eq_ix2)
open Cert.Lanes

variable {F : FTy → Type} [FloatOps F]

/-! ## Sets of rows -/

/-- The elements of a rank-2 array in rows r, …, r + n − 1. -/
def rows {a b : ℕ} (r n : ℕ) : Finset (⟨2, ![a, b]⟩ : Shape).Idx :=
  Finset.univ.filter fun i => r ≤ (i 0).val ∧ (i 0).val < r + n

theorem mem_rows {a b r n : ℕ} {i : (⟨2, ![a, b]⟩ : Shape).Idx} : i ∈ rows r n ↔ r ≤ (i 0).val ∧ (i 0).val < r + n := by
  unfold rows; rw [Finset.mem_filter]; exact ⟨fun h => h.2, fun h => ⟨Finset.mem_univ _, h⟩⟩

/-- A unit-stride rectangle over all columns is a set of rows. -/
theorem unit_set {a b r n : ℕ} {off size : Fin 2 → ℕ} {inb} (ho : off = ![r, 0]) (hs : size = ![n, b]) :
    (Rect.unit (s := ⟨2, ![a, b]⟩) off size inb).set = rows r n := by
  subst ho hs
  ext i
  rw [Rect.mem_set_unit, mem_rows]
  constructor
  · intro h; exact h 0
  · intro h d
    match d with
    | ⟨0, _⟩ => exact h
    | ⟨1, _⟩ => exact ⟨Nat.zero_le _, by have := (i 1).isLt; show (i 1).val < 0 + b; rw [Nat.zero_add]; exact this⟩

theorem rows_disjoint {a b r n r' n' : ℕ} (h : r + n ≤ r' ∨ r' + n' ≤ r) :
    Disjoint (rows r n : Finset (⟨2, ![a, b]⟩ : Shape).Idx) (rows r' n') := by
  rw [Finset.disjoint_left]; intro i hi hi'
  rw [mem_rows] at hi hi'; omega

theorem rows_split {a b r n n' : ℕ} (h : n' ≤ n) :
    (rows r n : Finset (⟨2, ![a, b]⟩ : Shape).Idx) = rows r n' ∪ rows (r + n') (n - n') := by
  ext i; rw [Finset.mem_union, mem_rows, mem_rows, mem_rows]; omega

theorem rows_all {a b : ℕ} : (rows 0 a : Finset (⟨2, ![a, b]⟩ : Shape).Idx) = Finset.univ := by
  ext i; rw [mem_rows]
  exact ⟨fun _ => Finset.mem_univ _, fun _ => ⟨Nat.zero_le _, by rw [Nat.zero_add]; exact (i 0).isLt⟩⟩

/-! ## The body's operands -/

abbrev xM : Memref sig .tc .vmem S256x4096 .i8 := Memref.whole cc0_stg0_0
abbrev wM : Memref sig .tc .vmem S4096x512 .i8 := Memref.whole cc0_stg1_0
abbrev sxM : Memref sig .tc .smem S1x1 .f32 := Memref.whole cc0_stg2_0
abbrev swM : Memref sig .tc .smem S1x1 .f32 := Memref.whole cc0_stg3_0
abbrev oM : Memref sig .tc .vmem S4096x512 .f32 := Memref.whole cc0_stg4_0
abbrev gM : Memref sig .tc .vmem S4096x4096 .i8 := Memref.whole cc0_scratch0

/-- What the devices' operands hold. -/
structure Ops (F : FTy → Type) where
  X : Dev nD → Vec F S256x4096 .i8
  Wt : Dev nD → Vec F S4096x512 .i8
  sx : Dev nD → Vec F S1x1 .f32
  sw : Dev nD → Vec F S1x1 .f32

variable (A : Ops F)

theorem dev_lt {n : ℕ} (h : n < 4096) : n / 256 < nD := by show n / 256 < 16; omega

/-- The gathered operand. -/
def GA : Vec F S4096x4096 .i8 := fun i =>
  A.X ⟨(i 0).val / 256, dev_lt (i 0).isLt⟩ (ix2 ⟨(i 0).val % 256, Nat.mod_lt _ (by decide)⟩ (i 1))

/-- The one element of a scale. -/
abbrev i11 : S1x1.Idx := ix2 ⟨0, by decide⟩ ⟨0, by decide⟩

/-- The product of the two scales. -/
def scl (c : Dev nD) : F .f32 := Gen.k0_pay27 (F := F) (A.sx c i11) (A.sw c i11)

/-- The magnitudes of the products that make up element (i₀, i₁) of device c's result, in total. -/
def mag (c : Dev nD) (i : S4096x512.Idx) : ℕ :=
  ∑ k : Fin 4096, ((GA A (ix2 (i 0) k) : BitVec 8).toInt * (A.Wt c (ix2 k (i 1)) : BitVec 8).toInt).natAbs

/-- The sum of those products. -/
def dot (c : Dev nD) (i : S4096x512.Idx) : ℤ :=
  ∑ k : Fin 4096, (GA A (ix2 (i 0) k) : BitVec 8).toInt * (A.Wt c (ix2 k (i 1)) : BitVec 8).toInt

/-- What is made of one accumulator word. -/
def fin1 (s : F .f32) (w : BitVec 32) : F .f32 :=
  FloatOps.maximumf (FloatOps.mulf (FloatOps.sitofp .f32 w) s) (FloatOps.ofBits .f32 0x00000000#32)

end Cert.KernelIdeal.AG

end
-- ==== Proof.Kids.lean ====
/-
  Further tables over the lanes: who passes on what arrived, the semaphores' numbers, and that the rows that arrive tile
  the gathered operand.
-/
module

public import proofs.«01_k».proof.Proof.Lanes
public import Mathlib.Data.Finset.Basic
public import Mathlib.Data.Fintype.Sets
public import Mathlib.Data.Finset.Card

@[expose] public section

namespace Cert.Lanes

/-! ## Passing on -/

/-- A lane two hops' places on: the next hop of the same group and direction. -/
def next (k : Lane) : Lane := ⟨(k.val + 2) % 48, Nat.mod_lt _ (by decide)⟩
/-- The first ring lane that passes on what arrived on lane `k`, and the other one. -/
def p0 (k : Lane) : Lane := ⟨cond (Nat.ble 42 k.val) (6 * (k.val - 41)) (k.val + 2) % 48, Nat.mod_lt _ (by decide)⟩
def p1 (k : Lane) : Lane := ⟨((p0 k).val + 1) % 48, Nat.mod_lt _ (by decide)⟩

/-- Does a lane of the line of heights pass on what arrived on lane `k` at device `c`. -/
def zk (k : Lane) (c : D16) : Bool := Nat.ble 42 k.val && Nat.ble (hop k.val) 1 && out (next k) c
/-- Does a ring lane. -/
def pk (k : Lane) : Bool := Nat.ble 42 k.val || Nat.ble (hop k.val) 1
def isZ (k : Lane) : Bool := Nat.ble 42 k.val

def kids (k : Lane) (c : D16) : Finset Lane := Finset.univ.filter fun j => parent j = some k ∧ out j c = true

def zkids (k : Lane) (c : D16) : Finset Lane := if zk k c = true then {next k} else ∅
def pkids (k : Lane) : Finset Lane := if pk k = true then (if isZ k = true then {p0 k, p1 k} else {p0 k}) else ∅

theorem kids_eq : ∀ (k : Lane) (c : D16), inc k c = true → kids k c = zkids k c ∪ pkids k := by decide +kernel
theorem kids_disj : ∀ (k : Lane) (c : D16), Disjoint (zkids k c) (pkids k) := by decide +kernel
theorem p0_ne_p1 : ∀ k : Lane, p0 k ≠ p1 k := by decide +kernel

theorem next_parent : ∀ (k : Lane) (c : D16), zk k c = true → parent (next k) = some k ∧ isZ (next k) = true ∧ (inc k c = true → row (next k) c = rrow k c) := by
  decide +kernel
theorem p0_parent : ∀ k : Lane, pk k = true → parent (p0 k) = some k ∧ isZ (p0 k) = false := by decide +kernel
theorem p0_row : ∀ (k : Lane) (c : D16), pk k = true → inc k c = true → row (p0 k) c = rrow k c := by decide +kernel
theorem p1_parent : ∀ k : Lane, isZ k = true → parent (p1 k) = some k ∧ isZ (p1 k) = false := by decide +kernel
theorem p1_row : ∀ (k : Lane) (c : D16), isZ k = true → inc k c = true → row (p1 k) c = rrow k c + 128 := by decide +kernel
theorem nr_Z : ∀ k : Lane, isZ k = true → nr k = 256 := by decide +kernel
theorem nr_P : ∀ k : Lane, isZ k = false → nr k = 128 := by decide +kernel
theorem next_isZ : ∀ (k : Lane) (c : D16), zk k c = true → isZ k = true := by decide +kernel

/-- Where they start in the device's own block. -/
def xoff (k : Lane) : ℕ := cond (Nat.ble 42 k.val) 0 (128 * bit k.val)
theorem root_row : ∀ (k : Lane) (c : D16), parent k = none → out k c = true → row k c = 256 * c.val + xoff k := by decide +kernel
theorem root_fit : ∀ k : Lane, parent k = none → xoff k + nr k ≤ 256 := by decide +kernel

/-! ## Rows -/

theorem rrow_le : ∀ (k : Lane) (c : D16), inc k c = true → rrow k c + nr k ≤ 4096 := by decide +kernel

/-- Every row of the gathered operand is the device's own or arrives on a lane. -/
theorem rows_cover : ∀ (c : D16) (b : Fin 32), b.val / 2 = c.val ∨ ∃ k : Lane, inc k c = true ∧ rrow k c ≤ 128 * b.val ∧ 128 * b.val + 128 ≤ rrow k c + nr k := by
  decide +kernel
/-- No row arrives twice, and none of the device's own arrives. -/
theorem rows_apart : ∀ (c : D16) (k j : Lane), inc k c = true → inc j c = true → k ≠ j → rrow k c + nr k ≤ rrow j c ∨ rrow j c + nr j ≤ rrow k c := by
  decide +kernel
theorem rows_apart_own : ∀ (c : D16) (k : Lane), inc k c = true → 256 * c.val + 256 ≤ rrow k c ∨ rrow k c + nr k ≤ 256 * c.val := by
  decide +kernel

/-! ## Who signals whom -/

/-- The devices a device's barrier counts. -/
def nbrs (c : D16) : Finset D16 := Finset.univ.filter fun d =>
  d = nxt c ∨ d = prv c ∨ (d = up c ∧ Nat.blt (c.val / 4) 3 = true) ∨ (d = dn c ∧ Nat.blt 0 (c.val / 4) = true)
def upB (c : D16) : Bool := Nat.blt (c.val / 4) 3
def dnB (c : D16) : Bool := Nat.blt 0 (c.val / 4)

theorem nbrs_symm : ∀ c d : D16, d ∈ nbrs c ↔ c ∈ nbrs d := by decide +kernel
theorem nbrs_card : ∀ c : D16, (nbrs c).card = if upB c = true ∧ dnB c = true then 4 else 3 := by decide +kernel

/-! ## The semaphores' numbers -/

def sIdx (k : Lane) : ℕ := cond (Nat.ble 42 k.val) (5 + 6 * bit k.val + hop k.val) (17 + 42 * bit k.val + 3 * grp k.val + hop k.val)
def rIdx (k : Lane) : ℕ := cond (Nat.ble 42 k.val) (8 + 6 * bit k.val + hop k.val) (38 + 42 * bit k.val + 3 * grp k.val + hop k.val)
theorem sIdx_lt : ∀ k : Lane, sIdx k < 101 := by decide +kernel
theorem rIdx_lt : ∀ k : Lane, rIdx k < 101 := by decide +kernel

/-- The lane a semaphore belongs to, and whether it counts arrivals. -/
def laneOf (n : ℕ) : Option (Lane × Bool) :=
  (List.finRange 48).findSome? fun k => if sIdx k = n then some (k, false) else if rIdx k = n then some (k, true) else none
theorem laneOf_s : ∀ k : Lane, laneOf (sIdx k) = some (k, false) := by decide +kernel
theorem laneOf_r : ∀ k : Lane, laneOf (rIdx k) = some (k, true) := by decide +kernel

end Cert.Lanes
-- ==== Proof.Tile.lean ====
/-
  One tile of the result: what the body's product, scale and relu of n gathered rows are, read at an element.
-/
module

public import proofs.«01_k».proof.Proof.Region
public import proofs.«01_k».proof.Proof.Kids
public import Idealize.ShloMosaic.Lib.Pipeline.Value

@[expose] public section

noncomputable section

namespace Cert.KernelIdeal.AG

open Idealize.ShloMosaic Idealize.SL.Sem
open Cert.Lanes
open Idealize.ShloMosaic.ValueIdx (ix2 eq_ix2 contrEquiv1 contrEquiv1_symm_val)

variable {F : FTy → Type} [FloatOps F] (A : Ops F)

/-- Scale and relu of a tile of accumulator words. -/
def relu {n : ℕ} (s : F .f32) (acc : IVec ⟨2, ![n, 512]⟩ 32) : FVec F ⟨2, ![n, 512]⟩ .f32 := fun j => fin1 s (acc j)

/-- The tile of the product of n rows. -/
def mm (n : ℕ) (lhs : Vec F ⟨2, ![n, 4096]⟩ .i8) (rhs : Vec F S4096x512 .i8) : IVec ⟨2, ![n, 512]⟩ 32 :=
  matmulI8 IntMxuNumerics.v7x (DotDims.plain n 4096 512) lhs rhs (constantI _ 32 0#32)

theorem pay_half (s : F .f32) (lhs : Vec F S128x4096 .i8) (rhs : Vec F S4096x512 .i8) :
    Gen.k0_pay5 s lhs rhs = relu s (mm 128 lhs rhs) := by
  funext j
  unfold Gen.k0_pay5
  rw [shapeCast_self]
  rfl

theorem pay_own (s : F .f32) (lhs : Vec F S256x4096 .i8) (rhs : Vec F S4096x512 .i8) :
    Gen.k0_pay28 s lhs rhs = relu s (mm 256 lhs rhs) := by
  funext j
  unfold Gen.k0_pay28
  rw [shapeCast_self, shapeCast_self]
  rfl

theorem pay_whole (s : F .f32) (lhs : Vec F S256x4096 .i8) (rhs : Vec F S4096x512 .i8) :
    Gen.k0_pay29 (Gen.k0_pay1 lhs rhs) (Gen.k0_pay2 s) = relu s (mm 256 lhs rhs) := by
  funext j
  unfold Gen.k0_pay29 Gen.k0_pay1 Gen.k0_pay2
  rw [shapeCast_self]
  rfl

/-- Where the magnitudes total at most 2²⁴ − 1, a tile of the product of rows r, r + 1, … of the gathered operand holds the
    words of the result's sums. -/
theorem mm_apply {n r : ℕ} (c : Dev nD) (lhs : Vec F ⟨2, ![n, 4096]⟩ .i8)
    (hl : ∀ (j : (⟨2, ![n, 4096]⟩ : Shape).Idx) (i : S4096x4096.Idx), (i 0).val = r + (j 0).val → (i 1).val = (j 1).val → lhs j = GA A i)
    (j : (⟨2, ![n, 512]⟩ : Shape).Idx) (i : S4096x512.Idx) (h0 : (i 0).val = r + (j 0).val) (h1 : (i 1).val = (j 1).val)
    (hm : mag A c i ≤ 2 ^ 24 - 1) : mm n lhs (A.Wt c) j = BitVec.ofInt 32 (dot A c i) := by
  have el : ∀ k, (DotDims.plain n 4096 512).lhsIdx j ((DotDims.plainContr n 4096 512).symm k) = ix2 (j 0) k := fun k => by
    have hk := contrEquiv1_symm_val _ 4096 (DotDims.plain_contr_rank n 4096 512) (DotDims.plain_contr_size n 4096 512) k
    funext a; apply Fin.ext
    match a with
    | ⟨0, _⟩ => rfl
    | ⟨1, _⟩ => exact hk
  have er : ∀ k, (DotDims.plain n 4096 512).rhsIdx j ((DotDims.plainContr n 4096 512).symm k) = ix2 k (i 1) := fun k => by
    have hk := contrEquiv1_symm_val _ 4096 (DotDims.plain_contr_rank n 4096 512) (DotDims.plain_contr_size n 4096 512) k
    funext a; apply Fin.ext
    match a with
    | ⟨0, _⟩ => exact hk
    | ⟨1, _⟩ => exact h1.symm
  have hx : ∀ k : Fin 4096, lhs (ix2 (j 0) k) = GA A (ix2 (i 0) k) := fun k => hl (ix2 (j 0) k) (ix2 (i 0) k) h0 rfl
  have ha : absDotI8 (DotDims.plain n 4096 512) lhs (A.Wt c) j = mag A c i := by
    unfold absDotI8 mag
    rw [← Equiv.sum_comp (DotDims.plainContr n 4096 512).symm]
    exact Finset.sum_congr rfl fun k _ => by rw [el, er]; erw [hx k]; rfl
  have hd : dotI8 (DotDims.plain n 4096 512) lhs (A.Wt c) j = dot A c i := by
    unfold dotI8 dot
    rw [← Equiv.sum_comp (DotDims.plainContr n 4096 512).symm]
    exact Finset.sum_congr rfl fun k _ => by rw [el, er]; erw [hx k]; rfl
  unfold mm
  rw [matmulI8_exact _ _ _ _ _ j rfl (by rw [ha]; exact hm), hd]

/-- Rows r, …, r + n − 1 of the gathered operand. -/
def rowsOf (r n : ℕ) : Vec F ⟨2, ![n, 4096]⟩ .i8 := fun j => GA A (ix2 ⟨(r + (j 0).val) % 4096, Nat.mod_lt _ (by decide)⟩ (j 1))

theorem rowsOf_apply {r n : ℕ} (j : (⟨2, ![n, 4096]⟩ : Shape).Idx) (i : S4096x4096.Idx) (h0 : (i 0).val = r + (j 0).val) (h1 : (i 1).val = (j 1).val) :
    rowsOf A r n j = GA A i := by
  unfold rowsOf
  congr 1
  funext d; apply Fin.ext
  match d with
  | ⟨0, _⟩ =>
    show (r + (j 0).val) % 4096 = (i 0).val
    have : (i 0).val < 4096 := (i 0).isLt
    rw [← h0]; exact Nat.mod_eq_of_lt this
  | ⟨1, _⟩ => exact h1.symm

/-- What the tile of rows r, …, r + n − 1 holds at element i of device c's result. -/
def tile (c : Dev nD) (r n : ℕ) (i : S4096x512.Idx) : F .f32 :=
  if h : (i 0).val - r < n then relu (scl A c) (mm n (rowsOf A r n) (A.Wt c)) (ix2 ⟨(i 0).val - r, h⟩ (i 1)) else FloatOps.ofBits .f32 0x00000000#32

/-- The first row and the number of rows of the tile in which device c computes element i: those one lane brings, or its own. -/
def span (c : Dev nD) (i : S4096x512.Idx) : ℕ × ℕ :=
  open Classical in
  if h : ∃ k : Lane, inc k c = true ∧ i ∈ (rows (rrow k c) (nr k) : Finset S4096x512.Idx) then (rrow h.choose c, nr h.choose) else (256 * c.val, 256)

/-- Device c's result. -/
def T (c : Dev nD) : Vec F S4096x512 .f32 := fun i => tile A c (span c i).1 (span c i).2 i

theorem span_lane {c : Dev nD} {i : S4096x512.Idx} {k : Lane} (hk : inc k c = true) (hi : i ∈ (rows (rrow k c) (nr k) : Finset S4096x512.Idx)) :
    span c i = (rrow k c, nr k) := by
  have h : ∃ k : Lane, inc k c = true ∧ i ∈ (rows (rrow k c) (nr k) : Finset S4096x512.Idx) := ⟨k, hk, hi⟩
  unfold span
  rw [dif_pos h]
  have e : h.choose = k := by
    by_contra hne
    have h1 := h.choose_spec
    rw [mem_rows] at hi h1
    rcases rows_apart c _ k h1.1 hk hne with a | a <;> omega
  rw [e]

theorem span_own {c : Dev nD} {i : S4096x512.Idx} (hi : i ∈ (rows (256 * c.val) 256 : Finset S4096x512.Idx)) : span c i = (256 * c.val, 256) := by
  unfold span
  refine dif_neg fun h => ?_
  obtain ⟨k, hk, h1⟩ := h
  rw [mem_rows] at hi h1
  rcases rows_apart_own c k hk with a | a <;> omega

/-- A tile of the product of rows r, r + 1, … of the gathered operand, scaled and cut at zero. -/
theorem relu_tile {n r : ℕ} (c : Dev nD) (lhs : Vec F ⟨2, ![n, 4096]⟩ .i8)
    (hl : ∀ (j : (⟨2, ![n, 4096]⟩ : Shape).Idx) (i : S4096x4096.Idx), (i 0).val = r + (j 0).val → (i 1).val = (j 1).val → lhs j = GA A i)
    (hr : r + n ≤ 4096)
    (j : (⟨2, ![n, 512]⟩ : Shape).Idx) (i : S4096x512.Idx) (h0 : (i 0).val = r + (j 0).val) (h1 : (i 1).val = (j 1).val) :
    relu (scl A c) (mm n lhs (A.Wt c)) j = tile A c r n i := by
  have hj : (j 0).val < n := (j 0).isLt
  have e : lhs = rowsOf A r n := by
    funext x
    have hx : (x 0).val < n := (x 0).isLt
    rw [hl x (ix2 ⟨r + (x 0).val, by omega⟩ (x 1)) rfl rfl, rowsOf_apply A x (ix2 ⟨r + (x 0).val, by omega⟩ (x 1)) rfl rfl]
  unfold tile
  rw [dif_pos (by omega), e]
  congr 1
  funext d; apply Fin.ext
  match d with
  | ⟨0, _⟩ => show (j 0).val = (i 0).val - r; omega
  | ⟨1, _⟩ => exact h1.symm

/-- Where the magnitudes total at most 2²⁴ − 1, the result is the sum of the products, scaled and cut at zero. -/
theorem T_apply (c : Dev nD) (i : S4096x512.Idx) (hm : mag A c i ≤ 2 ^ 24 - 1) : T A c i = fin1 (scl A c) (BitVec.ofInt 32 (dot A c i)) := by
  have key : ∀ r n : ℕ, r ≤ (i 0).val → (i 0).val < r + n → tile A c r n i = fin1 (scl A c) (BitVec.ofInt 32 (dot A c i)) := fun r n h1 h2 => by
    unfold tile relu
    rw [dif_pos (by omega)]
    rw [mm_apply (r := r) A c (rowsOf A r n) (fun j i' => rowsOf_apply A j i') (ix2 ⟨(i 0).val - r, by omega⟩ (i 1)) i (by show _ = r + ((i 0).val - r); omega) rfl hm]
  have hb : (i 0).val / 128 < 32 := by have : (i 0).val < 4096 := (i 0).isLt; omega
  unfold T
  rcases rows_cover c ⟨(i 0).val / 128, hb⟩ with h | ⟨k, hk, h1, h2⟩
  · have h' : (i 0).val / 128 / 2 = c.val := h
    rw [span_own (by rw [mem_rows]; omega)]
    exact key _ _ (by dsimp only; omega) (by dsimp only; omega)
  · have h1' : rrow k c ≤ 128 * ((i 0).val / 128) := h1
    have h2' : 128 * ((i 0).val / 128) + 128 ≤ rrow k c + nr k := h2
    rw [span_lane hk (by rw [mem_rows]; omega)]
    exact key _ _ (by dsimp only; omega) (by dsimp only; omega)

/-! ## Reading and writing rows -/

section Views

variable {a b : ℕ} {e : EltTy}

/-- A rectangle of full rows, read through a buffer of the same shape, and its index's rows. -/
theorem unit_emb {n r : ℕ} {off size : Fin 2 → ℕ} {inb} (ho : off = ![r, 0]) (hs : size = ![n, b])
    (j : (Rect.unit (s := ⟨2, ![a, b]⟩) off size inb).shape.Idx) :
    ((Rect.unit (s := ⟨2, ![a, b]⟩) off size inb).emb j 0).val = r + (j 0).val
      ∧ ((Rect.unit (s := ⟨2, ![a, b]⟩) off size inb).emb j 1).val = (j 1).val := by
  subst ho hs
  constructor
  · rw [Rect.emb_apply]; show r + 1 * _ = _; rw [Nat.one_mul]
  · rw [Rect.emb_apply]; show 0 + 1 * _ = _; rw [Nat.one_mul, Nat.zero_add]

end Views

abbrev gSl (off size : Fin 2 → ℕ) (inb : ∀ a, off a + size a ≤ S4096x4096.size a) :=
  gM.slice (Rect.unit (s := S4096x4096) off size inb) (fun _ => rfl)
abbrev xSl (off size : Fin 2 → ℕ) (inb : ∀ a, off a + size a ≤ S256x4096.size a) :=
  xM.slice (Rect.unit (s := S256x4096) off size inb) (fun _ => rfl)

theorem gSl_set {n r : ℕ} {off size inb} (ho : off = ![r, 0]) (hs : size = ![n, 4096]) :
    (gSl off size inb).view.set = rows r n :=
  (View.set_slice_whole _ _).trans (unit_set ho hs)
theorem xSl_set {n r : ℕ} {off size inb} (ho : off = ![r, 0]) (hs : size = ![n, 4096]) :
    (xSl off size inb).view.set = rows r n :=
  (View.set_slice_whole _ _).trans (unit_set ho hs)

/-- Rows of `GA` copied to the rows of the same numbers. -/
theorem land_g {n r : ℕ} {off size : Fin 2 → ℕ} {inb} (ho : off = ![r, 0]) (hs : size = ![n, 4096])
    (fd : cc0_scratch0.ty.Contents (Elt F)) (i : S4096x4096.Idx) (hi : i ∈ (rows r n : Finset S4096x4096.Idx)) :
    (gSl off size inb).view.write (Elt F) fd ((gSl off size inb).view.read (Elt F) (GA A)) Finset.univ i = GA A i := by
  rw [← gSl_set ho hs (inb := inb)] at hi
  obtain ⟨x, -, rfl⟩ := Finset.mem_map.mp hi
  rw [View.write_emb_of_mem _ _ (Finset.mem_univ x), View.read_apply]
  rfl

/-- A device's own rows, or half of them, copied to where they lie in `GA`. -/
theorem land_x {n r b : ℕ} (c : Dev nD) {off size off' : Fin 2 → ℕ} {inb inb'} (ho : off = ![r, 0]) (hs : size = ![n, 4096]) (ho' : off' = ![b, 0])
    (hb : r = 256 * c.val + b) (hn : b + n ≤ 256)
    (fd : cc0_scratch0.ty.Contents (Elt F)) (i : S4096x4096.Idx) (hi : i ∈ (rows r n : Finset S4096x4096.Idx)) :
    (gSl off size inb).view.write (Elt F) fd ((xSl off' size inb').view.read (Elt F) (A.X c)) Finset.univ i = GA A i := by
  rw [← gSl_set ho hs (inb := inb)] at hi
  obtain ⟨x, -, rfl⟩ := Finset.mem_map.mp hi
  rw [View.write_emb_of_mem _ _ (Finset.mem_univ x), View.read_apply]
  obtain ⟨h0, h1⟩ := unit_emb ho hs x (inb := inb)
  obtain ⟨h0', h1'⟩ := unit_emb ho' hs x (inb := inb')
  have hx : (x 0).val < n := by
    have := (x 0).isLt
    subst hs
    exact this
  show A.X c ((Rect.unit (s := S256x4096) off' size inb').emb x) = GA A ((Rect.unit (s := S4096x4096) off size inb).emb x)
  unfold GA
  have hd : (⟨((Rect.unit (s := S4096x4096) off size inb).emb x 0).val / 256, dev_lt (Fin.isLt _)⟩ : Dev nD) = c := by
    apply Fin.ext
    show ((Rect.unit (s := S4096x4096) off size inb).emb x 0).val / 256 = c.val
    rw [h0]; omega
  rw [hd]
  congr 1
  funext d; apply Fin.ext
  match d with
  | ⟨0, _⟩ =>
    show ((Rect.unit (s := S256x4096) off' size inb').emb x 0).val = ((Rect.unit (s := S4096x4096) off size inb).emb x 0).val % 256
    rw [h0, h0']; omega
  | ⟨1, _⟩ =>
    show ((Rect.unit (s := S256x4096) off' size inb').emb x 1).val = ((Rect.unit (s := S4096x4096) off size inb).emb x 1).val
    rw [h1, h1']

/-- Loaded rows of `GA`. -/
theorem load_g {n r : ℕ} {off size : Fin 2 → ℕ} {inb} (ho : off = ![r, 0]) (hs : size = ![n, 4096])
    (j : (Rect.unit (s := S4096x4096) off size inb).shape.Idx) (i : S4096x4096.Idx) (h0 : (i 0).val = r + (j 0).val) (h1 : (i 1).val = (j 1).val) :
    gM.view.readAt (Elt F) (Rect.unit (s := S4096x4096) off size inb).toLoadRect (GA A) j = GA A i := by
  obtain ⟨e0, e1⟩ := unit_emb ho hs j (inb := inb)
  show GA A ((Rect.unit (s := S4096x4096) off size inb).emb j) = GA A i
  congr 1
  funext d; apply Fin.ext
  match d with
  | ⟨0, _⟩ => exact e0.trans h0.symm
  | ⟨1, _⟩ => exact e1.trans h1.symm

/-- A tile stored: the rows it covers take it, the others keep what they had. -/
theorem store_o {n r : ℕ} {off size : Fin 2 → ℕ} {inb} (ho : off = ![r, 0]) (hs : size = ![n, 512])
    (f : cc0_stg4_0.ty.Contents (Elt F)) (w : (Rect.unit (s := S4096x512) off size inb).shape.Idx → Elt F .f32) :
    (∀ i : S4096x512.Idx, i ∉ (rows r n : Finset S4096x512.Idx) → (oM.access (Rect.unit (s := S4096x512) off size inb)).write (Elt F) f w Finset.univ i = f i)
    ∧ ∀ i : S4096x512.Idx, i ∈ (rows r n : Finset S4096x512.Idx) → ∃ j : (Rect.unit (s := S4096x512) off size inb).shape.Idx,
        (i 0).val = r + (j 0).val ∧ (i 1).val = (j 1).val ∧ (oM.access (Rect.unit (s := S4096x512) off size inb)).write (Elt F) f w Finset.univ i = w j := by
  have hset : (oM.access (Rect.unit (s := S4096x512) off size inb)).set = rows r n := (View.set_slice_whole _ _).trans (unit_set ho hs)
  constructor
  · intro i hi
    exact View.write_of_not_mem _ _ _ (by rw [View.setOn_univ, hset]; exact hi)
  · intro i hi
    rw [← hset] at hi
    obtain ⟨x, -, rfl⟩ := Finset.mem_map.mp hi
    obtain ⟨e0, e1⟩ := unit_emb ho hs x (inb := inb)
    exact ⟨x, e0, e1, View.write_emb_of_mem _ _ (Finset.mem_univ x)⟩

end Cert.KernelIdeal.AG

end
-- ==== Proof.Sched.lean ====
/-
  The protocol of the kernel's semaphores: which transfer or signal raises which cell, by how much, and what it hands to the
  cell's owner.

  A send cell hands back the share of the rows that was read; a receive cell hands over the rows that arrived, holding the
  gathered operand; a barrier unit from device d hands its receiver the right to write the rows of d that the receiver's
  copies go to.
-/
module

public import proofs.«01_k».proof.Proof.Tile
public import proofs.«01_k».proof.Proof.Kids
public import proofs.«01_k».proof.Proof.Gen.KernelIdeal.Launch
public import Idealize.ShloMosaic.Lib.Rounds
public import Idealize.ShloMosaic.Lib.Tactic

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

abbrev UU : Type := URounds (GSem nD τ sig) Unit × URounds (GSem nD τ sig) (Dev nD)
local notation "𝕄" => MT nD τ sig Unit (Elt F) ℕ UU ℕ

abbrev EP : Emb (URounds (GSem nD τ sig) Unit) 𝕄 := embL
abbrev ER : Emb (URounds (GSem nD τ sig) (Dev nD)) 𝕄 := embR

variable (A : Ops F)

/-! ## Cells -/

abbrev barS : Sem sig := (SemArray.scalar (sig.barrier 0 rfl) : Sems sig S_).sem
abbrev sSem (k : Lane) : DmaSem sig := ⟨sIdx k, sIdx_lt k⟩
abbrev rSem (k : Lane) : DmaSem sig := ⟨rIdx k, rIdx_lt k⟩
abbrev barCell (c : Dev nD) : GSem nD τ sig := ((c : Thread nD τ), .reg barS)
abbrev sCell (k : Lane) (c : Dev nD) : GSem nD τ sig := ((c : Thread nD τ), .dma (sSem k))
abbrev rCell (k : Lane) (c : Dev nD) : GSem nD τ sig := ((c : Thread nD τ), .dma (rSem k))

/-- What a transfer of lane k counts for. -/
def amt (k : Lane) : ℕ := sig.dmaCredit .tc (Kind.tc.table Space.vmem) gM.view.buf ⟨2, ![nr k, 4096]⟩ .i8
theorem amt_pos (k : Lane) : 0 < amt k := by
  refine sig.dmaCredit_pos _ _ _ _ _ ?_
  show 0 < (⟨2, ![nr k, 4096]⟩ : Shape).numel
  rcases hk : isZ k with _ | _
  · rw [nr_P k hk]; decide
  · rw [nr_Z k hk]; decide

/-! ## Regions -/

abbrev gP (c : Dev nD) (S : Finset S4096x4096.Idx) (q : PosShare TreeShare) (f : cc0_scratch0.ty.Contents (Elt F)) : sProp 𝕄 :=
  ((c : Thread nD τ).loc cc0_scratch0) ↦[S]{q} f
abbrev xP (c : Dev nD) (S : Finset S256x4096.Idx) (q : PosShare TreeShare) (f : cc0_stg0_0.ty.Contents (Elt F)) : sProp 𝕄 :=
  ((c : Thread nD τ).loc cc0_stg0_0) ↦[S]{q} f

abbrev qll : PosShare TreeShare := fullShare.left.left
abbrev qlr : PosShare TreeShare := fullShare.left.right
abbrev qr : PosShare TreeShare := fullShare.right

/-- The share of the device's own block that lane k reads, k a lane that starts from it. -/
def xq (k : Lane) : PosShare TreeShare := if k = 42 then qlr.left else if k = 43 then qlr.right else qr
/-- The share of the rows that arrived that lane k reads. -/
def gq (k : Lane) : PosShare TreeShare := if isZ k = true then qlr else qr

/-- What lane k reads at device c. -/
def Src (k : Lane) (c : Dev nD) : sProp 𝕄 :=
  match parent k with
  | none => xP c (rows (xoff k) (nr k)) (xq k) (A.X c)
  | some _ => gP c (rows (row k c) (nr k)) (gq k) (GA A)

/-- What arrives on lane k at device c. -/
def Got (k : Lane) (c : Dev nD) : sProp 𝕄 := gP c (rows (rrow k c) (nr k)) fullShare (GA A)

/-- The right to write, at its peer, the rows device c sends on lane k. -/
def Dst (k : Lane) (c : Dev nD) : sProp 𝕄 :=
  iprop((∃ f, gP (F := F) (peer k c) (rows (row k c) (nr k)) fullShare f) ∗ reached ER (rCell k (peer k c)) 0)

/-- What a barrier unit from d brings c. -/
def barPay (c d : Dev nD) : sProp 𝕄 :=
  bigSep (Finset.univ.filter fun k : Lane => out k c = true ∧ peer k c = d) fun k => Dst (F := F) k c

/-! ## The schedule -/

def duties (g : GSem nD τ sig) (r : ℕ) : Finset (Dev nD) :=
  if g.1.2 = .tc ∧ r = 0 then
    match g.2 with
    | .reg _ => nbrs g.1.1
    | .dma n => match laneOf n.val with
      | some (k, false) => if out k g.1.1 = true then {0} else ∅
      | some (k, true) => if inc k g.1.1 = true then {0} else ∅
      | none => ∅
  else ∅

def amount (g : GSem nD τ sig) : ℕ :=
  match g.2 with
  | .reg _ => 1
  | .dma n => match laneOf n.val with
    | some (k, _) => amt k
    | none => 1

def payload (g : GSem nD τ sig) (d : Dev nD) : sProp 𝕄 :=
  match g.2 with
  | .reg _ => barPay g.1.1 d
  | .dma n => match laneOf n.val with
    | some (k, false) => Src A k g.1.1
    | some (k, true) => Got A k g.1.1
    | none => iprop(emp)

theorem amount_pos (g : GSem nD τ sig) : 0 < amount g := by
  unfold amount
  split
  · exact Nat.one_pos
  · split
    · exact amt_pos _
    · exact Nat.one_pos

def Rd : Rounds.Schedule (GSem nD τ sig) (Dev nD) 𝕄 where
  duties := duties
  amount g _ _ := amount g
  payload g _ d := payload A g d
  amount_pos g _ _ _ := amount_pos g

omit [FloatOps F] in
instance barPay_storable (c d : Dev nD) : BI.Storable (upEmb : UEmb _ 𝕄) (barPay (F := F) c d) := by
  unfold barPay Dst; infer_instance
omit [FloatOps F] in
instance Src_storable (k : Lane) (c : Dev nD) : BI.Storable (upEmb : UEmb _ 𝕄) (Src A k c) := by
  unfold Src; split <;> infer_instance
omit [FloatOps F] in
instance Got_storable (k : Lane) (c : Dev nD) : BI.Storable (upEmb : UEmb _ 𝕄) (Got A k c) := by
  unfold Got; infer_instance
omit [FloatOps F] in
instance Rd_storable (g : GSem nD τ sig) (r : ℕ) (d : Dev nD) : BI.Storable (upEmb : UEmb _ 𝕄) ((Rd A).payload g r d) := by
  show BI.Storable upEmb (payload A g d)
  unfold payload
  split
  · infer_instance
  · split <;> infer_instance

section Facts
omit [FloatOps F]
variable (k : Lane) (c d : Dev nD)

theorem duties_bar : (Rd A).duties (barCell c) 0 = nbrs c := by
  dsimp only [Rd]; unfold duties; rw [if_pos ⟨rfl, rfl⟩]
theorem duties_s : (Rd A).duties (sCell k c) 0 = if out k c = true then {0} else ∅ := by
  dsimp only [Rd]; unfold duties; rw [if_pos ⟨rfl, rfl⟩]
  show (match laneOf (sIdx k) with | some (k, false) => if out k c = true then {0} else ∅ | some (k, true) => if inc k c = true then {0} else ∅ | none => ∅) = (_ : Finset (Dev nD))
  rw [laneOf_s]
theorem duties_r : (Rd A).duties (rCell k c) 0 = if inc k c = true then {0} else ∅ := by
  dsimp only [Rd]; unfold duties; rw [if_pos ⟨rfl, rfl⟩]
  show (match laneOf (rIdx k) with | some (k, false) => if out k c = true then {0} else ∅ | some (k, true) => if inc k c = true then {0} else ∅ | none => ∅) = (_ : Finset (Dev nD))
  rw [laneOf_r]
theorem duties_later (g : GSem nD τ sig) (r : ℕ) (h : 1 ≤ r) : (Rd A).duties g r = ∅ := by
  dsimp only [Rd]; unfold duties; rw [if_neg]; omega
theorem duties_s_pos (h : out k c = true) : (Rd A).duties (sCell k c) 0 = {0} := by rw [duties_s, if_pos h]
theorem duties_r_pos (h : inc k c = true) : (Rd A).duties (rCell k c) 0 = {0} := by rw [duties_r, if_pos h]

theorem amount_bar (r : ℕ) : (Rd A).amount (barCell c) r d = 1 := rfl
theorem amount_s (r : ℕ) : (Rd A).amount (sCell k c) r d = amt k := by
  dsimp only [Rd]; unfold amount
  show (match laneOf (sIdx k) with | some (k, _) => amt k | none => 1) = _
  rw [laneOf_s]
theorem amount_r (r : ℕ) : (Rd A).amount (rCell k c) r d = amt k := by
  dsimp only [Rd]; unfold amount
  show (match laneOf (rIdx k) with | some (k, _) => amt k | none => 1) = _
  rw [laneOf_r]

theorem payload_bar (r : ℕ) : (Rd A).payload (barCell c) r d = barPay c d := rfl
theorem payload_s (r : ℕ) : (Rd A).payload (sCell k c) r d = Src A k c := by
  dsimp only [Rd]; unfold payload
  show (match laneOf (sIdx k) with | some (k, false) => Src A k c | some (k, true) => Got A k c | none => iprop(emp)) = _
  rw [laneOf_s]
theorem payload_r (r : ℕ) : (Rd A).payload (rCell k c) r d = Got A k c := by
  dsimp only [Rd]; unfold payload
  show (match laneOf (rIdx k) with | some (k, false) => Src A k c | some (k, true) => Got A k c | none => iprop(emp)) = _
  rw [laneOf_r]

theorem expect_bar : (Rd A).expect (barCell c) 0 = (nbrs c).card := by
  unfold Schedule.expect Schedule.amountOf; rw [duties_bar, Finset.sum_congr rfl fun d _ => amount_bar A c d 0, Finset.sum_const, smul_eq_mul, Nat.mul_one]
theorem expect_s (h : out k c = true) : (Rd A).expect (sCell k c) 0 = amt k := by
  unfold Schedule.expect Schedule.amountOf; rw [duties_s_pos A k c h, Finset.sum_singleton, amount_s]
theorem expect_r (h : inc k c = true) : (Rd A).expect (rCell k c) 0 = amt k := by
  unfold Schedule.expect Schedule.amountOf; rw [duties_r_pos A k c h, Finset.sum_singleton, amount_r]

theorem rest_s (h : out k c = true) : bigSep ((Rd A).duties (sCell k c) 0 \ ∅) (fun d => (Rd A).payload (sCell k c) 0 d) = Src A k c := by
  rw [Finset.sdiff_empty, duties_s_pos A k c h, bigSep_singleton, payload_s]
theorem rest_r (h : inc k c = true) : bigSep ((Rd A).duties (rCell k c) 0 \ ∅) (fun d => (Rd A).payload (rCell k c) 0 d) = Got A k c := by
  rw [Finset.sdiff_empty, duties_r_pos A k c h, bigSep_singleton, payload_r]

end Facts

/-! ## Levels -/

def L (g : GSem nD τ sig) : Finset Unit := if g.1.2 = .tc then {()} else ∅
/-- Barriers at 1; an arrival above the arrivals it waits on; the rest at 0. -/
def lv (g : GSem nD τ sig) (_ : Unit) : ℕ :=
  match g.2 with
  | .reg _ => 1
  | .dma n => match laneOf n.val with
    | some (k, true) => 1 + arr k
    | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) : lv (barCell c) () = 1 := rfl
theorem lv_s (k : Lane) (c : Dev nD) : lv (sCell k c) () = 0 := by
  unfold lv
  show (match laneOf (sIdx k) with | some (k, true) => 1 + arr k | _ => 0) = _
  rw [laneOf_s]
theorem lv_r (k : Lane) (c : Dev nD) : lv (rCell k c) () = 1 + arr k := by
  unfold lv
  show (match laneOf (rIdx k) with | some (k, true) => 1 + arr k | _ => 0) = _
  rw [laneOf_r]

/-- What device c owes when the lanes in `P` are still to be sent. -/
def owe (c : Dev nD) (P : Finset Lane) : CellTallies nD τ sig Unit :=
  ∑ k ∈ P, tallyAt (rCell k (peer k c)) () (amt k)

theorem owe_pos {c : Dev nD} {P : Finset Lane} {g : GSem nD τ sig} {u : Unit} (h : 0 < owe c P g u) :
    ∃ k ∈ P, g = rCell k (peer k c) := by
  classical
  induction P using Finset.induction_on with
  | empty => exact absurd h (Nat.lt_irrefl 0)
  | insert k P hk ih =>
    unfold owe at h ih
    rw [Finset.sum_insert hk, Pi.add_apply, Finsupp.add_apply] at h
    rcases Nat.add_pos_iff_pos_or_pos.mp h with h | h
    · rw [tallyAt_apply] at h
      split at h
      · next hg => exact ⟨k, Finset.mem_insert_self _ _, hg.1⟩
      · exact absurd h (Nat.lt_irrefl 0)
    · obtain ⟨j, hj, hg⟩ := ih h
      exact ⟨j, Finset.mem_insert_of_mem hj, hg⟩

/-- A wait on a cell below every lane still to be sent. -/
theorem mayWait (c : Dev nD) (sm : SemLoc sig) (P : Finset Lane) (h : ∀ k ∈ P, lv ((c : Thread nD τ), sm) () < 1 + arr k) :
    (levAts L lv : sProp 𝕄) ⊢ MayWait (c : Thread nD τ) sm () (owe c P) :=
  MayOwe.of_cut (L := L) (lev := lv) (lv ((c : Thread nD τ), sm) ()) (fun p hp => by rw [Finset.mem_singleton.mp hp, L_tc]; exact Finset.mem_singleton_self _)
    (fun g u hg => by
      obtain ⟨k, -, rfl⟩ := owe_pos hg
      rw [L_tc]; exact Finset.mem_singleton_self _)
    (fun p hp => by rw [Finset.mem_singleton.mp hp])
    (fun g u hg => by
      obtain ⟨k, hk, rfl⟩ := owe_pos hg
      rw [lv_r]; exact h k hk)

end Cert.KernelIdeal.AG

end
-- ==== Proof.State.lean ====
/-
  What device c holds at time t of its program: of every lane what is still to be sent, what is under way, what has arrived
  and what has come back; and the rows of the result that are there.
-/
module

public import proofs.«01_k».proof.Proof.Sched

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

abbrev 𝒱₀ : Variants := Variants.none

variable (A : Ops F) (K : GSem nD τ sig → ℕ)

/-! ## One lane -/

/-- The sending side of lane k. -/
def snd (k : Lane) (c : Dev nD) (t : ℕ) : sProp 𝕄 :=
  if out k c = true then
    if t ≤ sendTime k then
      iprop(dutyTok ER (sCell k c) 0 0 ∗ dutyTok ER (rCell k (peer k c)) 0 0 ∗ Dst k c ∗ atPos ER (sCell k c) 0 ∅ 0)
    else if t ≤ drainTime k then iprop(cred (tallyAt (sCell k c) () (amt k)) ∗ atPos ER (sCell k c) 0 ∅ 0)
    else atPos ER (sCell k c) 1 ∅ 0
  else atPos ER (sCell k c) 0 ∅ 0

/-- The rows lane k sends are there at time t. -/
def avail (k : Lane) (t : ℕ) : Prop := ∀ j, parent k = some j → recvTime j < t
instance (k : Lane) (t : ℕ) : Decidable (avail k t) := by unfold avail; infer_instance

/-- The share of the rows lane k reads, when device c has it. -/
def shr (k : Lane) (c : Dev nD) (t : ℕ) : sProp 𝕄 :=
  if out k c = true ∧ avail k t ∧ (t ≤ sendTime k ∨ drainTime k < t) then Src A k c else iprop(emp)

/-- What of the rows that arrived on lane k is not read by a lane. -/
def Keep (k : Lane) (c : Dev nD) : sProp 𝕄 :=
  iprop(gP c (rows (rrow k c) (nr k)) qll (GA A)
    ∗ (if zk k c = true then iprop(emp) else gP c (rows (rrow k c) (nr k)) qlr (GA A))
    ∗ (if pk k = true then iprop(emp) else gP c (rows (rrow k c) (nr k)) qr (GA A)))

/-- The receiving side of lane k. -/
def rcv (k : Lane) (c : Dev nD) (t : ℕ) : sProp 𝕄 :=
  if inc k c = true then
    if t ≤ recvTime k then iprop(cred (tallyAt (rCell k c) () (amt k)) ∗ atPos ER (rCell k c) 0 ∅ 0)
    else iprop(atPos ER (rCell k c) 1 ∅ 0 ∗ Keep A k c)
  else atPos ER (rCell k c) 0 ∅ 0

/-! ## The device -/

/-- The lanes still to be sent. -/
def pend (c : Dev nD) (t : ℕ) : Finset Lane := Finset.univ.filter fun k => out k c = true ∧ t ≤ sendTime k

/-- The rows of the result that are there at time t are the result's. -/
def Agree (c : Dev nD) (t : ℕ) (f : cc0_stg4_0.ty.Contents (Elt F)) : Prop :=
  ∀ i : S4096x512.Idx,
    ((ownTime < t ∧ i ∈ (rows (256 * c.val) 256 : Finset S4096x512.Idx))
      ∨ ∃ k : Lane, inc k c = true ∧ compTime k < t ∧ i ∈ (rows (rrow k c) (nr k) : Finset S4096x512.Idx)) → f i = T A c i

/-- The records of one lane. -/
def recs (k : Lane) (c : Dev nD) : sProp 𝕄 :=
  iprop(cellInv ER (Rd A) (K (sCell k c)) (sCell k c) ∗ cellInv ER (Rd A) (K (rCell k c)) (rCell k c)
    ∗ cellInv ER (Rd A) (K (rCell k (peer k c))) (rCell k (peer k c)) ∗ reached ER (sCell k c) 0)

instance recs_persistent (k : Lane) (c : Dev nD) : BI.Persistent (recs A K k c) := by unfold recs; infer_instance

def Inv (c : Dev nD) : sProp 𝕄 := iprop((bigSep Finset.univ fun k : Lane => recs A K k c) ∗ levAts L lv)

instance Inv_persistent (c : Dev nD) : BI.Persistent (Inv A K c) := by unfold Inv; infer_instance

/-- The device's own block, as far as no lane reads it. -/
def xKeep (c : Dev nD) : sProp 𝕄 :=
  iprop(xP c (rows 0 256) qll (A.X c)
    ∗ (if out 42 c = true then iprop(emp) else xP c (rows 0 256) (xq 42) (A.X c))
    ∗ (if out 43 c = true then iprop(emp) else xP c (rows 0 256) (xq 43) (A.X c)))

/-- What does not change. -/
def Rest (c : Dev nD) : sProp 𝕄 :=
  iprop((∃ f, gP (F := F) c (rows (256 * c.val) 256) fullShare f) ∗ xKeep A c
    ∗ (((c : Thread nD τ).loc cc0_stg1_0) ↦{fullShare} A.Wt c)
    ∗ (((c : Thread nD τ).loc cc0_stg2_0) ↦{fullShare} A.sx c)
    ∗ (((c : Thread nD τ).loc cc0_stg3_0) ↦{fullShare} A.sw c)
    ∗ (∃ r, prngReg c r) ∗ atPos ER (barCell c) 1 ∅ 0)

/-- The result's buffer. -/
def outB (c : Dev nD) (t : ℕ) : sProp 𝕄 :=
  iprop(∃ f, ⌜Agree A c t f⌝ ∗ (((c : Thread nD τ).loc cc0_stg4_0) ↦{fullShare} f))

def St (c : Dev nD) (t : ℕ) : sProp 𝕄 :=
  iprop(Inv A K c ∗ (∃ W, owes (c : Thread nD τ) (owe c (pend c t)) W)
    ∗ (bigSep Finset.univ fun k => snd k c t) ∗ (bigSep Finset.univ fun k => shr A k c t) ∗ (bigSep Finset.univ fun k => rcv A k c t)
    ∗ outB A c t ∗ Rest A c)

/-! ## What passes from one time to the next -/

section Step
omit [FloatOps F]
variable {k : Lane} {c : Dev nD} {t : ℕ}

/-- Two families of lanes that agree away from one lane. -/
theorem bigSep_one (k : Lane) (Φ Ψ : Lane → sProp 𝕄) (h : ∀ j, j ≠ k → Φ j = Ψ j) :
    ∃ R : sProp 𝕄, bigSep Finset.univ Φ = iprop(Φ k ∗ R) ∧ bigSep Finset.univ Ψ = iprop(Ψ k ∗ R) :=
  ⟨bigSep (Finset.univ.erase k) Φ, bigSep_univ_at Φ k, by
    rw [bigSep_univ_at Ψ k, bigSep_congr fun j hj => (h j (Finset.ne_of_mem_erase hj))]⟩

theorem snd_keep (h : out k c = true → sendTime k ≠ t ∧ drainTime k ≠ t) : snd (F := F) k c t = snd k c (t + 1) := by
  unfold snd
  by_cases ho : out k c = true
  · obtain ⟨h1, h2⟩ := h ho
    rw [if_pos ho, if_pos ho]
    by_cases a : t ≤ sendTime k
    · rw [if_pos a, if_pos (by omega)]
    · rw [if_neg a, if_neg (show ¬ t + 1 ≤ sendTime k by omega)]
      by_cases b : t ≤ drainTime k
      · rw [if_pos b, if_pos (show t + 1 ≤ drainTime k by omega)]
      · rw [if_neg b, if_neg (show ¬ t + 1 ≤ drainTime k by omega)]
  · rw [if_neg ho, if_neg ho]

theorem rcv_keep (h : inc k c = true → recvTime k ≠ t) : rcv A k c t = rcv A k c (t + 1) := by
  unfold rcv
  by_cases ho : inc k c = true
  · have := h ho
    rw [if_pos ho, if_pos ho]
    by_cases a : t ≤ recvTime k
    · rw [if_pos a, if_pos (by omega)]
    · rw [if_neg a, if_neg (by omega)]
  · rw [if_neg ho, if_neg ho]

theorem shr_keep (h : out k c = true → sendTime k ≠ t ∧ drainTime k ≠ t ∧ ∀ j, parent k = some j → recvTime j ≠ t) :
    shr A k c t = shr A k c (t + 1) := by
  unfold shr
  by_cases ho : out k c = true
  · obtain ⟨h1, h2, h3⟩ := h ho
    refine if_congr ?_ rfl rfl
    refine and_congr Iff.rfl (and_congr ?_ ?_)
    · unfold avail
      exact ⟨fun a j hj => Nat.lt_succ_of_lt (a j hj), fun a j hj => by have := a j hj; have := h3 j hj; omega⟩
    · omega
  · rw [if_neg (fun x => ho x.1), if_neg (fun x => ho x.1)]

theorem pend_keep (h : ∀ k, out k c = true → sendTime k ≠ t) : pend c t = pend c (t + 1) := by
  unfold pend
  refine Finset.filter_congr fun k _ => ?_
  exact and_congr_right fun ho => by have := h k ho; omega

end Step

theorem Agree_keep {c : Dev nD} {t : ℕ} (ho : ownTime ≠ t) (h : ∀ k, inc k c = true → compTime k ≠ t) (f) : Agree A c t f ↔ Agree A c (t + 1) f := by
  unfold Agree
  refine forall_congr' fun i => imp_congr (or_congr (and_congr ?_ Iff.rfl) (exists_congr fun k => ?_)) Iff.rfl
  · omega
  · exact and_congr_right fun hi => by have := h k hi; exact and_congr (by omega) Iff.rfl

theorem outB_keep {c : Dev nD} {t : ℕ} (ho : ownTime ≠ t) (h : ∀ k, inc k c = true → compTime k ≠ t) : outB A c t = outB A c (t + 1) := by
  unfold outB
  congr 1; funext f
  rw [propext (Agree_keep A ho h f)]

/-- Nothing happens at a time none of the device's lanes has. -/
theorem St_skip {c : Dev nD} {t : ℕ} (ho : ownTime ≠ t) (hs : ∀ k, out k c = true → sendTime k ≠ t) (hd : ∀ k, out k c = true → drainTime k ≠ t)
    (hr : ∀ k, inc k c = true → recvTime k ≠ t) (hc : ∀ k, inc k c = true → compTime k ≠ t) : St A K c t = St A K c (t + 1) := by
  unfold St
  rw [pend_keep hs, outB_keep A ho hc,
    bigSep_congr fun k _ => snd_keep (F := F) (fun o => ⟨hs k o, hd k o⟩),
    bigSep_congr fun k _ => shr_keep A (fun o => ⟨hs k o, hd k o, fun j hj => hr j (out_parent k j c hj o)⟩),
    bigSep_congr fun k _ => rcv_keep A (hr k)]

/-! ## Shares -/

section Shares
omit [FloatOps F]

theorem eSep (P : sProp 𝕄) : iprop(emp ∗ P) = P := BI.Entails.antisymm (emp_sep (PROP := sProp 𝕄)).1 (emp_sep (PROP := sProp 𝕄)).2
theorem sepE (P : sProp 𝕄) : iprop(P ∗ emp) = P := BI.Entails.antisymm (sep_emp (PROP := sProp 𝕄)).1 (sep_emp (PROP := sProp 𝕄)).2
theorem sepC (P Q : sProp 𝕄) : iprop(P ∗ Q) = iprop(Q ∗ P) := BI.Entails.antisymm (sep_comm (PROP := sProp 𝕄)).1 (sep_comm (PROP := sProp 𝕄)).2
theorem sepA (P Q R : sProp 𝕄) : iprop((P ∗ Q) ∗ R) = iprop(P ∗ Q ∗ R) := BI.Entails.antisymm (sep_assoc (PROP := sProp 𝕄)).1 (sep_assoc (PROP := sProp 𝕄)).2
theorem sepL (P Q R : sProp 𝕄) : iprop(P ∗ Q ∗ R) = iprop(Q ∗ P ∗ R) := by rw [← sepA, sepC P Q, sepA]
theorem bigUnion {I : Type} [DecidableEq I] {s t : Finset I} (h : Disjoint s t) {Φ : I → sProp 𝕄} : bigSep (s ∪ t) Φ = iprop(bigSep s Φ ∗ bigSep t Φ) :=
  bigSep_union h
theorem bigIns {I : Type} [DecidableEq I] {s : Finset I} {i : I} (h : i ∉ s) {Φ : I → sProp 𝕄} : bigSep (insert i s) Φ = iprop(Φ i ∗ bigSep s Φ) :=
  bigSep_insert h
theorem bigNone (Φ : Lane → sProp 𝕄) : bigSep ∅ Φ = iprop(emp) := bigSep_empty

theorem share_split {ℓ : Loc nD τ sig} (S : Finset _) (q : PosShare TreeShare) (f : Buf (Elt F) ℓ) :
    ((ℓ ↦[S]{q} f : sProp 𝕄)) = iprop((ℓ ↦[S]{q.left} f) ∗ (ℓ ↦[S]{q.right} f)) :=
  BI.Entails.antisymm (pointsTo_share (PosShare.mem_left_op_right q)).1 (pointsTo_share (PosShare.mem_left_op_right q)).2

/-- Rows cut in two. -/
theorem g_split (c : Dev nD) {r n n' : ℕ} (h : n' ≤ n) (q : PosShare TreeShare) (f) :
    gP (F := F) c (rows r n) q f = iprop(gP c (rows r n') q f ∗ gP c (rows (r + n') (n - n')) q f) := by
  unfold gP
  rw [rows_split h]
  have hd := rows_disjoint (a := 4096) (b := 4096) (r := r) (n := n') (r' := r + n') (n' := n - n') (Or.inl (le_refl _))
  exact BI.Entails.antisymm (pointsTo_union hd).1 (pointsTo_union hd).2

theorem x_split (c : Dev nD) {r n n' : ℕ} (h : n' ≤ n) (q : PosShare TreeShare) (f) :
    xP (F := F) c (rows r n) q f = iprop(xP c (rows r n') q f ∗ xP c (rows (r + n') (n - n')) q f) := by
  unfold xP
  rw [rows_split h]
  have hd := rows_disjoint (a := 256) (b := 4096) (r := r) (n := n') (r' := r + n') (n' := n - n') (Or.inl (le_refl _))
  exact BI.Entails.antisymm (pointsTo_union hd).1 (pointsTo_union hd).2

theorem Src_kid {k j : Lane} {c : Dev nD} (h : parent j = some k) : Src A j c = gP c (rows (row j c) (nr j)) (gq j) (GA A) := by
  unfold Src; rw [h]
theorem Src_root {k : Lane} {c : Dev nD} (h : parent k = none) : Src A k c = xP c (rows (xoff k) (nr k)) (xq k) (A.X c) := by
  unfold Src; rw [h]

/-- The share the lane along the other axis reads. -/
theorem z_part (k : Lane) (c : Dev nD) (hi : inc k c = true) :
    iprop((if zk k c = true then iprop(emp) else gP c (rows (rrow k c) (nr k)) qlr (GA A)) ∗ bigSep (zkids k c) fun j => Src A j c)
      = gP c (rows (rrow k c) (nr k)) qlr (GA A) := by
  unfold zkids
  by_cases h : zk k c = true
  · obtain ⟨h1, h2, h3⟩ := next_parent k c h
    rw [if_pos h, if_pos h, bigSep_singleton, eSep, Src_kid A h1, h3 hi, nr_Z _ h2, nr_Z _ (next_isZ k c h)]
    unfold gq; rw [if_pos h2]
  · rw [if_neg h, if_neg h, bigNone, sepE]

/-- The share the lanes along the ring read. -/
theorem p_part (k : Lane) (c : Dev nD) (hi : inc k c = true) :
    iprop((if pk k = true then iprop(emp) else gP c (rows (rrow k c) (nr k)) qr (GA A)) ∗ bigSep (pkids k) fun j => Src A j c)
      = gP c (rows (rrow k c) (nr k)) qr (GA A) := by
  unfold pkids
  by_cases h : pk k = true
  · obtain ⟨h1, h2⟩ := p0_parent k h
    rw [if_pos h, if_pos h, eSep]
    by_cases hz : isZ k = true
    · obtain ⟨h3, h4⟩ := p1_parent k hz
      rw [if_pos hz, bigIns (by rw [Finset.mem_singleton]; exact p0_ne_p1 k), bigSep_singleton, Src_kid A h1, Src_kid A h3,
        p0_row k c h hi, p1_row k c hz hi, nr_P _ h2, nr_P _ h4, nr_Z _ hz, g_split c (r := rrow k c) (n := 256) (n' := 128) (by decide)]
      unfold gq; rw [if_neg (by rw [h2]; decide), if_neg (by rw [h4]; decide)]
    · rw [if_neg hz, bigSep_singleton, Src_kid A h1, p0_row k c h hi, nr_P _ h2, nr_P k (by simpa using hz)]
      unfold gq; rw [if_neg (by rw [h2]; decide)]
  · rw [if_neg h, if_neg h, bigNone, sepE]

/-- What arrives on a lane is what the lanes that pass it on read, and the rest. -/
theorem Got_split (k : Lane) (c : Dev nD) (hi : inc k c = true) :
    Got A k c = iprop(Keep A k c ∗ bigSep (kids k c) fun j => Src A j c) := by
  have e : Got A k c = iprop(gP c (rows (rrow k c) (nr k)) qll (GA A) ∗ gP c (rows (rrow k c) (nr k)) qlr (GA A) ∗ gP c (rows (rrow k c) (nr k)) qr (GA A)) := by
    unfold Got gP
    rw [share_split _ fullShare, share_split _ fullShare.left, sepA]
  rw [e, kids_eq k c hi, bigUnion (kids_disj k c), ← z_part A k c hi, ← p_part A k c hi]
  unfold Keep
  simp only [sepA]
  refine congrArg _ (congrArg _ ?_)
  rw [sepL]

end Shares

end Cert.KernelIdeal.AG

end
-- ==== Proof.Moves.lean ====
/-
  What one event takes out of a device's state and what it puts back: a send, an arrival, a send drained, a tile computed.
-/
module

public import proofs.«01_k».proof.Proof.State

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

variable (A : Ops F) (K : GSem nD τ sig → ℕ)

omit [FloatOps F] in
theorem filt (p : Lane → Prop) [DecidablePred p] (Φ : Lane → sProp 𝕄) :
    bigSep (Finset.univ.filter p) Φ = bigSep Finset.univ fun i => if p i then Φ i else iprop(emp) := bigSep_filter _ _ _

instance sep_assoc_inst : Std.Associative (α := sProp 𝕄) BIBase.sep := ⟨fun P Q R => sepA P Q R⟩
instance sep_comm_inst : Std.Commutative (α := sProp 𝕄) BIBase.sep := ⟨fun P Q => sepC P Q⟩

/-- What the device still owes at time t. -/
def dues (c : Dev nD) (t : ℕ) : sProp 𝕄 := iprop(∃ W, owes (c : Thread nD τ) (owe c (pend c t)) W)

variable {k : Lane} {c : Dev nD} {t : ℕ}

omit [FloatOps F] in
theorem Inv_elim (k : Lane) : Inv A K c ⊢ iprop(recs A K k c ∗ levAts L lv) := by
  unfold Inv
  exact sep_mono_left (bigSep_elim (Finset.mem_univ k))

/-- Whether some lane has an event at time t, read off the times being distinct. -/
theorem pend_send (h : sendTime k = t) (ho : out k c = true) : pend c t = insert k (pend c (t + 1)) ∧ k ∉ pend c (t + 1) := by
  unfold pend
  constructor
  · ext j
    rw [Finset.mem_insert, Finset.mem_filter, Finset.mem_filter]
    constructor
    · rintro ⟨-, h1, h2⟩
      by_cases hj : j = k
      · exact Or.inl hj
      · refine Or.inr ⟨Finset.mem_univ _, h1, ?_⟩
        have : sendTime j ≠ t := fun e => hj (sendTime_inj (e.trans h.symm))
        omega
    · rintro (rfl | ⟨-, h1, h2⟩)
      · exact ⟨Finset.mem_univ _, ho, by omega⟩
      · exact ⟨Finset.mem_univ _, h1, by omega⟩
  · rw [Finset.mem_filter]; rintro ⟨-, -, h2⟩; omega

theorem owe_send (h : sendTime k = t) (ho : out k c = true) :
    owe c (pend c t) = owe c (pend c (t + 1)) + tallyAt (rCell k (peer k c)) () (amt k) := by
  obtain ⟨e, hn⟩ := pend_send h ho
  rw [e]; unfold owe
  rw [Finset.sum_insert hn, add_comm]

/-- A send. -/
theorem St_send (h : sendTime k = t) (ho : out k c = true) : ∃ R : sProp 𝕄,
    St A K c t = iprop(Inv A K c ∗ dues c t
      ∗ (dutyTok ER (sCell k c) 0 0 ∗ dutyTok ER (rCell k (peer k c)) 0 0 ∗ Dst k c ∗ atPos ER (sCell k c) 0 ∅ 0) ∗ Src A k c ∗ R)
    ∧ St A K c (t + 1) = iprop(Inv A K c ∗ dues c (t + 1) ∗ (cred (tallyAt (sCell k c) () (amt k)) ∗ atPos ER (sCell k c) 0 ∅ 0) ∗ R) := by
  subst h
  have hd := fun j => (times_lt_drain k j).1
  obtain ⟨R1, a1, a2⟩ := bigSep_one (F := F) k (fun j => snd j c (sendTime k)) (fun j => snd j c (sendTime k + 1))
    (fun j hj => snd_keep fun _ => ⟨fun e => hj (sendTime_inj e), fun e => absurd (hd j) (by omega)⟩)
  obtain ⟨R2, b1, b2⟩ := bigSep_one (F := F) k (fun j => shr A j c (sendTime k)) (fun j => shr A j c (sendTime k + 1))
    (fun j hj => shr_keep A fun _ => ⟨fun e => hj (sendTime_inj e), fun e => absurd (hd j) (by omega), fun i _ e => send_ne_recv k i e.symm⟩)
  refine ⟨iprop(R1 ∗ R2 ∗ (bigSep Finset.univ fun j => rcv A j c (sendTime k)) ∗ outB A c (sendTime k) ∗ Rest A c), ?_, ?_⟩
  · unfold St
    rw [a1, b1]
    have e1 : snd (F := F) k c (sendTime k) = iprop(dutyTok ER (sCell k c) 0 0 ∗ dutyTok ER (rCell k (peer k c)) 0 0 ∗ Dst k c ∗ atPos ER (sCell k c) 0 ∅ 0) := by
      unfold snd; rw [if_pos ho, if_pos (le_refl _)]
    have e2 : shr A k c (sendTime k) = Src A k c := by
      unfold shr; rw [if_pos ⟨ho, fun j hj => parent_recv k j hj, Or.inl (le_refl _)⟩]
    rw [e1, e2]
    unfold dues
    ac_rfl
  · unfold St
    rw [a2, b2, ← outB_keep A (fun e => (own_ne k).1 e.symm) (fun j _ e => send_ne_comp k j e.symm),
      ← bigSep_congr fun j _ => rcv_keep A (k := j) (fun _ e => send_ne_recv k j e.symm)]
    have e1 : snd (F := F) k c (sendTime k + 1) = iprop(cred (tallyAt (sCell k c) () (amt k)) ∗ atPos ER (sCell k c) 0 ∅ 0) := by
      unfold snd; rw [if_pos ho, if_neg (by omega), if_pos (show sendTime k + 1 ≤ drainTime k from hd k)]
    have e2 : shr A k c (sendTime k + 1) = iprop(emp) := by
      unfold shr; rw [if_neg]; rintro ⟨-, -, h | h⟩
      · omega
      · have := hd k; omega
    rw [e1, e2, eSep]
    unfold dues
    ac_rfl

/-- An arrival. -/
theorem St_recv (h : recvTime k = t) (hi : inc k c = true) : ∃ R : sProp 𝕄,
    St A K c t = iprop(Inv A K c ∗ dues c t ∗ (cred (tallyAt (rCell k c) () (amt k)) ∗ atPos ER (rCell k c) 0 ∅ 0) ∗ R)
    ∧ St A K c (t + 1) = iprop(Inv A K c ∗ dues c t ∗ atPos ER (rCell k c) 1 ∅ 0 ∗ Got A k c ∗ R) := by
  subst h
  have hd := fun j => (times_lt_drain k j).2.1
  obtain ⟨R1, a1, a2⟩ := bigSep_one (F := F) k (fun j => rcv A j c (recvTime k)) (fun j => rcv A j c (recvTime k + 1))
    (fun j hj => rcv_keep A fun _ e => hj (recvTime_inj e))
  have hs : (fun j => shr A j c (recvTime k + 1)) = fun j => iprop(shr A j c (recvTime k) ∗ if parent j = some k ∧ out j c = true then Src A j c else iprop(emp)) := by
    funext j
    by_cases hj : parent j = some k ∧ out j c = true
    · rw [if_pos hj]
      have e1 : shr A j c (recvTime k) = iprop(emp) := by
        unfold shr; rw [if_neg]; rintro ⟨-, h, -⟩; exact absurd (h k hj.1) (lt_irrefl _)
      have e2 : shr A j c (recvTime k + 1) = Src A j c := by
        unfold shr; rw [if_pos]
        refine ⟨hj.2, fun i hi' => ?_, Or.inl (parent_recv j k hj.1)⟩
        rw [hj.1] at hi'; cases hi'; exact Nat.lt_succ_self _
      rw [e1, e2, eSep]
    · rw [if_neg hj, sepE]
      refine (shr_keep A fun o => ⟨send_ne_recv j k, fun e => absurd (hd j) (by omega), fun i hi' e => ?_⟩).symm
      rw [recvTime_inj e] at hi'; exact hj ⟨hi', o⟩
  refine ⟨iprop((bigSep Finset.univ fun j => snd j c (recvTime k)) ∗ (bigSep Finset.univ fun j => shr A j c (recvTime k)) ∗ R1
    ∗ outB A c (recvTime k) ∗ Rest A c), ?_, ?_⟩
  · unfold St
    rw [a1]
    have e1 : rcv A k c (recvTime k) = iprop(cred (tallyAt (rCell k c) () (amt k)) ∗ atPos ER (rCell k c) 0 ∅ 0) := by
      unfold rcv; rw [if_pos hi, if_pos (le_refl _)]
    rw [e1]
    unfold dues
    ac_rfl
  · unfold St
    rw [a2, hs, bigSep_sep', ← filt, ← outB_keep A (fun e => (own_ne k).2.1 e.symm) (fun j _ e => recv_ne_comp k j e.symm),
      ← bigSep_congr fun j _ => snd_keep (F := F) (k := j) (fun _ => ⟨send_ne_recv j k, fun e => absurd (hd j) (by omega)⟩),
      ← pend_keep (c := c) (fun j _ => send_ne_recv j k), Got_split A k c hi]
    have e1 : rcv A k c (recvTime k + 1) = iprop(atPos ER (rCell k c) 1 ∅ 0 ∗ Keep A k c) := by
      unfold rcv; rw [if_pos hi, if_neg (by omega)]
    rw [e1]
    unfold dues kids
    ac_rfl

/-- A send drained. -/
theorem St_drain (h : drainTime k = t) (ho : out k c = true) : ∃ R : sProp 𝕄,
    St A K c t = iprop(Inv A K c ∗ dues c t ∗ (cred (tallyAt (sCell k c) () (amt k)) ∗ atPos ER (sCell k c) 0 ∅ 0) ∗ R)
    ∧ St A K c (t + 1) = iprop(Inv A K c ∗ dues c t ∗ atPos ER (sCell k c) 1 ∅ 0 ∗ Src A k c ∗ R) := by
  subst h
  have hd := fun j => times_lt_drain j k
  obtain ⟨R1, a1, a2⟩ := bigSep_one (F := F) k (fun j => snd j c (drainTime k)) (fun j => snd j c (drainTime k + 1))
    (fun j hj => snd_keep fun _ => ⟨fun e => absurd (hd j).1 (by omega), fun e => hj (drainTime_inj e)⟩)
  obtain ⟨R2, b1, b2⟩ := bigSep_one (F := F) k (fun j => shr A j c (drainTime k)) (fun j => shr A j c (drainTime k + 1))
    (fun j hj => shr_keep A fun _ => ⟨fun e => absurd (hd j).1 (by omega), fun e => hj (drainTime_inj e), fun i _ e => absurd (hd i).2.1 (by omega)⟩)
  have hk := (hd k).1
  refine ⟨iprop(R1 ∗ R2 ∗ (bigSep Finset.univ fun j => rcv A j c (drainTime k)) ∗ outB A c (drainTime k) ∗ Rest A c), ?_, ?_⟩
  · unfold St
    rw [a1, b1]
    have e1 : snd (F := F) k c (drainTime k) = iprop(cred (tallyAt (sCell k c) () (amt k)) ∗ atPos ER (sCell k c) 0 ∅ 0) := by
      unfold snd; rw [if_pos ho, if_neg (by omega), if_pos (le_refl _)]
    have e2 : shr A k c (drainTime k) = iprop(emp) := by
      unfold shr; rw [if_neg]; rintro ⟨-, -, h | h⟩ <;> omega
    rw [e1, e2, eSep]
    unfold dues
    ac_rfl
  · unfold St
    rw [a2, b2, ← outB_keep A (fun e => (own_ne k).2.2.2 e.symm) (fun j _ e => absurd (hd j).2.2 (by omega)),
      ← bigSep_congr fun j _ => rcv_keep A (k := j) (fun _ e => absurd (hd j).2.1 (by omega)),
      ← pend_keep (c := c) (fun j _ e => absurd (hd j).1 (by omega))]
    have e1 : snd (F := F) k c (drainTime k + 1) = atPos ER (sCell k c) 1 ∅ 0 := by
      unfold snd; rw [if_pos ho, if_neg (by omega), if_neg (by omega)]
    have e2 : shr A k c (drainTime k + 1) = Src A k c := by
      unfold shr; rw [if_pos ⟨ho, fun j hj => by have := parent_recv k j hj; omega, Or.inr (Nat.lt_succ_self _)⟩]
    rw [e1, e2]
    unfold dues
    ac_rfl

/-- The result's buffer, the weights and a scale, in any state. -/
theorem St_out : ∃ R : sProp 𝕄, St A K c t = iprop(outB A c t ∗ R) :=
  ⟨iprop(Inv A K c ∗ dues c t ∗ (bigSep Finset.univ fun j => snd j c t) ∗ (bigSep Finset.univ fun j => shr A j c t)
    ∗ (bigSep Finset.univ fun j => rcv A j c t) ∗ Rest A c), by unfold St dues; ac_rfl⟩

theorem St_rest : ∃ R : sProp 𝕄, St A K c t = iprop(Rest A c ∗ R) :=
  ⟨iprop(Inv A K c ∗ dues c t ∗ (bigSep Finset.univ fun j => snd j c t) ∗ (bigSep Finset.univ fun j => shr A j c t)
    ∗ (bigSep Finset.univ fun j => rcv A j c t) ∗ outB A c t), by unfold St dues; ac_rfl⟩

theorem St_w : ∃ R : sProp 𝕄, St A K c t = iprop((((c : Thread nD τ).loc cc0_stg1_0) ↦{fullShare} A.Wt c) ∗ R) := by
  obtain ⟨R, e⟩ := St_rest A K (c := c) (t := t)
  exact ⟨iprop((∃ f, gP (F := F) c (rows (256 * c.val) 256) fullShare f) ∗ xKeep A c
    ∗ (((c : Thread nD τ).loc cc0_stg2_0) ↦{fullShare} A.sx c)
    ∗ (((c : Thread nD τ).loc cc0_stg3_0) ↦{fullShare} A.sw c)
    ∗ (∃ r, prngReg c r) ∗ atPos ER (barCell c) 1 ∅ 0 ∗ R), by rw [e]; unfold Rest; ac_rfl⟩

theorem St_sx : ∃ R : sProp 𝕄, St A K c t = iprop((((c : Thread nD τ).loc cc0_stg2_0) ↦{fullShare} A.sx c) ∗ R) := by
  obtain ⟨R, e⟩ := St_rest A K (c := c) (t := t)
  exact ⟨iprop((∃ f, gP (F := F) c (rows (256 * c.val) 256) fullShare f) ∗ xKeep A c
    ∗ (((c : Thread nD τ).loc cc0_stg1_0) ↦{fullShare} A.Wt c)
    ∗ (((c : Thread nD τ).loc cc0_stg3_0) ↦{fullShare} A.sw c)
    ∗ (∃ r, prngReg c r) ∗ atPos ER (barCell c) 1 ∅ 0 ∗ R), by rw [e]; unfold Rest; ac_rfl⟩

theorem St_sw : ∃ R : sProp 𝕄, St A K c t = iprop((((c : Thread nD τ).loc cc0_stg3_0) ↦{fullShare} A.sw c) ∗ R) := by
  obtain ⟨R, e⟩ := St_rest A K (c := c) (t := t)
  exact ⟨iprop((∃ f, gP (F := F) c (rows (256 * c.val) 256) fullShare f) ∗ xKeep A c
    ∗ (((c : Thread nD τ).loc cc0_stg1_0) ↦{fullShare} A.Wt c)
    ∗ (((c : Thread nD τ).loc cc0_stg2_0) ↦{fullShare} A.sx c)
    ∗ (∃ r, prngReg c r) ∗ atPos ER (barCell c) 1 ∅ 0 ∗ R), by rw [e]; unfold Rest; ac_rfl⟩

/-- The device's own block. -/
theorem St_x : ∃ R : sProp 𝕄, St A K c t = iprop(xP c (rows 0 256) qll (A.X c) ∗ R) := by
  obtain ⟨R, e⟩ := St_rest A K (c := c) (t := t)
  exact ⟨iprop((∃ f, gP (F := F) c (rows (256 * c.val) 256) fullShare f)
    ∗ (if out 42 c = true then iprop(emp) else xP c (rows 0 256) (xq 42) (A.X c))
    ∗ (if out 43 c = true then iprop(emp) else xP c (rows 0 256) (xq 43) (A.X c))
    ∗ (((c : Thread nD τ).loc cc0_stg1_0) ↦{fullShare} A.Wt c)
    ∗ (((c : Thread nD τ).loc cc0_stg2_0) ↦{fullShare} A.sx c)
    ∗ (((c : Thread nD τ).loc cc0_stg3_0) ↦{fullShare} A.sw c)
    ∗ (∃ r, prngReg c r) ∗ atPos ER (barCell c) 1 ∅ 0 ∗ R), by rw [e]; unfold Rest xKeep; ac_rfl⟩

/-- The rows that arrived on a lane. -/
theorem St_rows (h : recvTime k < t) (hi : inc k c = true) : ∃ R : sProp 𝕄,
    St A K c t = iprop(gP c (rows (rrow k c) (nr k)) qll (GA A) ∗ R) := by
  have e1 : rcv A k c t = iprop(atPos ER (rCell k c) 1 ∅ 0 ∗ Keep A k c) := by
    unfold rcv; rw [if_pos hi, if_neg (by omega)]
  refine ⟨iprop(Inv A K c ∗ dues c t ∗ (bigSep Finset.univ fun j => snd j c t) ∗ (bigSep Finset.univ fun j => shr A j c t)
    ∗ (bigSep (Finset.univ.erase k) fun j => rcv A j c t) ∗ atPos ER (rCell k c) 1 ∅ 0
    ∗ (if zk k c = true then iprop(emp) else gP c (rows (rrow k c) (nr k)) qlr (GA A))
    ∗ (if pk k = true then iprop(emp) else gP c (rows (rrow k c) (nr k)) qr (GA A)) ∗ outB A c t ∗ Rest A c), ?_⟩
  unfold St dues
  rw [bigSep_univ_at (fun j => rcv A j c t) k, e1]
  unfold Keep
  ac_rfl

/-- A tile of the rows of an arrival stored. -/
theorem St_comp (h : compTime k = t) : ∃ R : sProp 𝕄,
    St A K c t = iprop(outB A c t ∗ R) ∧ St A K c (t + 1) = iprop(outB A c (t + 1) ∗ R) := by
  subst h
  have hd := fun j => (times_lt_drain k j).2.2
  refine ⟨iprop(Inv A K c ∗ dues c (compTime k) ∗ (bigSep Finset.univ fun j => snd j c (compTime k)) ∗ (bigSep Finset.univ fun j => shr A j c (compTime k))
    ∗ (bigSep Finset.univ fun j => rcv A j c (compTime k)) ∗ Rest A c), ?_, ?_⟩
  · unfold St dues; ac_rfl
  · unfold St
    rw [← bigSep_congr fun j _ => snd_keep (F := F) (k := j) (fun _ => ⟨send_ne_comp j k, fun e => absurd (hd j) (by omega)⟩),
      ← bigSep_congr fun j _ => shr_keep A (k := j) (fun _ => ⟨send_ne_comp j k, fun e => absurd (hd j) (by omega), fun i _ => recv_ne_comp i k⟩),
      ← bigSep_congr fun j _ => rcv_keep A (k := j) (fun _ => recv_ne_comp j k),
      ← pend_keep (c := c) (fun j _ => send_ne_comp j k)]
    unfold dues; ac_rfl

/-- The tile of the device's own rows stored. -/
theorem St_own : ∃ R : sProp 𝕄,
    St A K c ownTime = iprop(outB A c ownTime ∗ R) ∧ St A K c (ownTime + 1) = iprop(outB A c (ownTime + 1) ∗ R) := by
  refine ⟨iprop(Inv A K c ∗ dues c ownTime ∗ (bigSep Finset.univ fun j => snd j c ownTime) ∗ (bigSep Finset.univ fun j => shr A j c ownTime)
    ∗ (bigSep Finset.univ fun j => rcv A j c ownTime) ∗ Rest A c), ?_, ?_⟩
  · unfold St dues; ac_rfl
  · unfold St
    rw [← bigSep_congr fun j _ => snd_keep (F := F) (k := j) (fun _ => ⟨(own_ne j).1, (own_ne j).2.2.2⟩),
      ← bigSep_congr fun j _ => shr_keep A (k := j) (fun _ => ⟨(own_ne j).1, (own_ne j).2.2.2, fun i _ => (own_ne i).2.1⟩),
      ← bigSep_congr fun j _ => rcv_keep A (k := j) (fun _ => (own_ne j).2.1),
      ← pend_keep (c := c) (fun j _ => (own_ne j).1)]
    unfold dues; ac_rfl

/-- Storing the tile of lane k's rows. -/
theorem Agree_comp (h : compTime k = t) {f g : cc0_stg4_0.ty.Contents (Elt F)} (hf : Agree A c t f)
    (h0 : ∀ i : S4096x512.Idx, i ∉ (rows (rrow k c) (nr k) : Finset S4096x512.Idx) → g i = f i)
    (h1 : ∀ i : S4096x512.Idx, i ∈ (rows (rrow k c) (nr k) : Finset S4096x512.Idx) → g i = T A c i) : Agree A c (t + 1) g := by
  intro i hi
  by_cases hk : i ∈ (rows (rrow k c) (nr k) : Finset S4096x512.Idx)
  · exact h1 i hk
  · rw [h0 i hk]
    refine hf i ?_
    rcases hi with ⟨a, b⟩ | ⟨j, a, b, d⟩
    · have := (own_ne k).2.2.1
      exact Or.inl ⟨by omega, b⟩
    · by_cases hj : j = k
      · subst hj; exact absurd d hk
      · have : compTime j ≠ t := fun e => hj (compTime_inj (e.trans h.symm))
        exact Or.inr ⟨j, a, by omega, d⟩

/-- Storing the tile of the device's own rows. -/
theorem Agree_own {f g : cc0_stg4_0.ty.Contents (Elt F)} (hf : Agree A c ownTime f)
    (h0 : ∀ i : S4096x512.Idx, i ∉ (rows (256 * c.val) 256 : Finset S4096x512.Idx) → g i = f i)
    (h1 : ∀ i : S4096x512.Idx, i ∈ (rows (256 * c.val) 256 : Finset S4096x512.Idx) → g i = T A c i) : Agree A c (ownTime + 1) g := by
  intro i hi
  by_cases hk : i ∈ (rows (256 * c.val) 256 : Finset S4096x512.Idx)
  · exact h1 i hk
  · rw [h0 i hk]
    refine hf i ?_
    rcases hi with ⟨a, b⟩ | ⟨j, a, b, d⟩
    · exact absurd b hk
    · have := (own_ne j).2.2.1
      exact Or.inr ⟨j, a, by omega, d⟩

/-- At the end every row is there. -/
theorem Agree_end {f : cc0_stg4_0.ty.Contents (Elt F)} (hf : Agree A c endTime f) (i : S4096x512.Idx) : f i = T A c i := by
  refine hf i ?_
  have hb : (i 0).val / 128 < 32 := by have : (i 0).val < 4096 := (i 0).isLt; omega
  rcases rows_cover c ⟨(i 0).val / 128, hb⟩ with h | ⟨k, h1, h2, h3⟩
  · left
    refine ⟨by decide, ?_⟩
    rw [mem_rows]
    have : (i 0).val / 128 / 2 = c.val := h
    omega
  · right
    refine ⟨k, h1, lt_trans (times_lt_drain k k).2.2 (times_lt_end k), ?_⟩
    rw [mem_rows]
    have h2' : rrow k c ≤ 128 * ((i 0).val / 128) := h2
    have h3' : 128 * ((i 0).val / 128) + 128 ≤ rrow k c + nr k := h3
    omega

end Cert.KernelIdeal.AG

end
-- ==== Proof.Steps.lean ====
/-
  The body's instructions as steps of a device's state.
-/
module

public import proofs.«01_k».proof.Proof.Moves

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ
local notation "ℙ" => Prog (TpuEff nD τ sig (Elt F) Λ₀ Proc.tc)

/-- Device c runs p to Q. -/
@[reducible] def runs (c : Dev nD) {α : Type} (p : ℙ α) (Q : α → sProp 𝕄) : sProp 𝕄 :=
  wp frame (wpE (defs₀ (F := F)) 𝒱₀ (c : Thread nD τ) none) Set.univ p Q

variable {A : Ops F} {K : GSem nD τ sig → ℕ} {c : Dev nD}
variable {α : Type}

theorem lift_bind {β : Type} (e : TpuEff nD τ sig (Elt F) Λ₀ Proc.tc β) (kt : β → ℙ α) : (Prog.lift e >>= kt) = .op e kt := rfl

theorem runs_bind {Q : α → sProp 𝕄} {β : Type} {P : sProp 𝕄} {p : ℙ β} {q : β → ℙ α} (Q' : β → sProp 𝕄)
    (h : P ⊢ runs c p Q') (hq : ∀ b, Q' b ⊢ runs c (q b) Q) : P ⊢ runs c (p >>= q) Q :=
  (h.trans (wp_mono frame _ _ hq)).trans (Entails.of_eq (wp_bind frame _ _ p q Q).symm)

/-- A send on lane k, of whatever view of the rows it reads. -/
theorem step_send {Q : α → sProp 𝕄} (k : Lane) {t : ℕ} (ht : sendTime k = t) (ho : out k c = true) {s : Shape} (src dst : Memref sig .tc .vmem s .i8)
    {sS sR : DmaSem sig} {d : Dev nD} (hd : d = peer k c) (hsS : sS = sSem k) (hsR : sR = rSem k)
    (q : PosShare TreeShare) (fs : Buf (Elt F) (src.view.loc (c : Thread nD τ)))
    (hs : Src A k c = (src.view.loc (c : Thread nD τ) ↦[src.view.set]{q} fs))
    (hw : ∀ fd, (dst.view.loc (peer k c : Thread nD τ) ↦[dst.view.set]{fullShare} dst.view.write (Elt F) fd (src.view.read (Elt F) fs) Finset.univ) ⊢ Got A k (peer k c))
    (hdst : Dst (F := F) k c ⊢ iprop((∃ f, (dst.view.loc (peer k c : Thread nD τ) ↦[dst.view.set]{fullShare} f)) ∗ reached ER (rCell k (peer k c)) 0))
    (hN : dst.view.amount (.dma (rSem k) : SemLoc sig) = amt k)
    {hsc} {hsrc : src.view.WordExact} {hdw hsem} {kt : PUnit → ℙ α} (next : St A K c (t + 1) ⊢ runs c (kt ⟨⟩) Q) :
    St A K c t ⊢ runs c (Prog.lift (.enqueueDma src (.remote (Dev.tc d) dst (.dma sS) hsc) (.dma sR) hsrc hdw hsem) >>= kt) Q := by
  subst hd hsS hsR
  obtain ⟨R, e1, e2⟩ := St_send A K ht ho
  rw [e1, hs]
  rw [e2] at next
  change _ ⊢ runs c (.op (.enqueueDma src (.remote (Dev.tc (peer k c)) dst (.dma (sSem k)) hsc) (.dma (rSem k)) hsrc hdw hsem) kt) Q
  unfold dues
  iintro ⟨#HI, ⟨%W, Ho⟩, ⟨Ht1, Ht2, Hd, Hat⟩, Hs, HR⟩
  ihave ⟨#Hrec, -⟩ := (Inv_elim A K k) $$ HI
  unfold recs
  icases Hrec with ⟨#Hi1, -, #Hi2, #Hre⟩
  ihave ⟨⟨%fd, Hd⟩, Hr⟩ := hdst $$ Hd
  iapply (Rounds.wp_send_pointsTo 𝒱₀ ER (Rd A) (c : Thread nD τ) none (κ₁ := K (sCell k c)) (κ₂ := K (rCell k (peer k c)))
    (c' := (peer k c : Thread nD τ)) (r₁ := 0) (r₂ := 0) (d₁ := 0) (d₂ := 0) (src := src) (dst := dst) (fd := fd) (fs := fs) (q := q)
    (by rw [duties_s_pos A k c ho]; exact Finset.mem_singleton_self _) (by rw [duties_r_pos A k _ (out_peer k c ho)]; exact Finset.mem_singleton_self _)
    () () (amt k) hN (amount_s A k c 0 0) (amount_r A k (peer k c) 0 0) (owe c (pend c (t + 1))) (owe_send ht ho) (W := W)
    (by rw [payload_s, hs]) (by rw [payload_r]; exact hw fd)) $$ [Hs Hd Ho Ht1 Ht2 Hr]
  · isplitl []; · iexact Hi1
    isplitl []; · iexact Hi2
    isplitl [Hs]; · iexact Hs
    isplitl [Hd]; · iexact Hd
    isplitl [Ho]; · iexact Ho
    isplitl [Ht1]; · iexact Ht1
    isplitl []; · iexact Hre
    isplitl [Ht2]; · iexact Ht2
    iexact Hr
  iintro ⟨Hc, Ho⟩
  iapply next
  isplitl []; · iexact HI
  isplitl [Ho]; · unfold dues; iexists W; iexact Ho
  isplitl [Hc Hat]
  · isplitl [Hc]; · iexact Hc
    iexact Hat
  iexact HR

/-- A send of rows that arrived. -/
theorem send_g {Q : α → sProp 𝕄} (k j : Lane) {t : ℕ} (ht : sendTime k = t) (hp : parent k = some j) (ho : out k c = true)
    {off size : Fin 2 → ℕ} {inb} (hoff : off = ![row k c, 0]) (hsz : size = ![nr k, 4096])
    {d : Dev nD} (hd : d = peer k c) {sS sR : DmaSem sig} (hsS : sS = sSem k) (hsR : sR = rSem k)
    {hsc hsrc hdw hsem} {kt : PUnit → ℙ α} (next : St A K c (t + 1) ⊢ runs c (kt ⟨⟩) Q) :
    St A K c t ⊢ runs c (Prog.lift (.enqueueDma (gSl off size inb) (.remote (Dev.tc d) (gSl off size inb) (.dma sS) hsc) (.dma sR) hsrc hdw hsem) >>= kt) Q :=
  step_send k ht ho _ _ hd hsS hsR (gq k) (GA A)
    (by rw [gSl_set hoff hsz]; exact Src_kid A hp)
    (fun fd => by
      rw [gSl_set hoff hsz]; unfold Got rrow; rw [sender_peer]
      exact Entails.of_eq (pointsTo_congr fun i hi => land_g A hoff hsz fd i hi))
    (by rw [gSl_set hoff hsz]; unfold Dst; exact BI.Entails.refl _)
    (by subst hsz; rfl) next

/-- A send of the device's own rows. -/
theorem send_x {Q : α → sProp 𝕄} (k : Lane) {t : ℕ} (ht : sendTime k = t) (hp : parent k = none) (ho : out k c = true)
    {off off' size : Fin 2 → ℕ} {inb inb'} (hoff : off = ![row k c, 0]) (hoff' : off' = ![xoff k, 0]) (hsz : size = ![nr k, 4096])
    {d : Dev nD} (hd : d = peer k c) {sS sR : DmaSem sig} (hsS : sS = sSem k) (hsR : sR = rSem k)
    {hsc hsrc hdw hsem} {kt : PUnit → ℙ α} (next : St A K c (t + 1) ⊢ runs c (kt ⟨⟩) Q) :
    St A K c t ⊢ runs c (Prog.lift (.enqueueDma (xSl off' size inb') (.remote (Dev.tc d) (gSl off size inb) (.dma sS) hsc) (.dma sR) hsrc hdw hsem) >>= kt) Q :=
  step_send k ht ho _ _ hd hsS hsR (xq k) (A.X c)
    (by rw [xSl_set hoff' hsz]; exact Src_root A hp)
    (fun fd => by
      rw [gSl_set hoff hsz]; unfold Got rrow; rw [sender_peer]
      exact Entails.of_eq (pointsTo_congr fun i hi => land_x A c hoff hsz hoff' (root_row k c hp ho) (root_fit k hp) fd i hi))
    (by rw [gSl_set hoff hsz]; unfold Dst; exact BI.Entails.refl _)
    (by subst hsz; rfl) next

/-- A wait for an arrival. -/
theorem wait_r {Q : α → sProp 𝕄} (k : Lane) {t : ℕ} (ht : recvTime k = t) (hi : inc k c = true)
    {off size : Fin 2 → ℕ} {inb} (hsz : size = ![nr k, 4096]) {sR : DmaSem sig} (hsR : sR = rSem k)
    {sp : Space} {s : Shape} {e : EltTy} {src : Memref sig .tc sp s e}
    {hsrc hdw} {kt : PUnit → ℙ α} (next : St A K c (t + 1) ⊢ runs c (kt ⟨⟩) Q) :
    St A K c t ⊢ runs c (Prog.lift (.waitDma2 sR src (gSl off size inb) hsrc hdw) >>= kt) Q := by
  subst hsR
  obtain ⟨R, e1, e2⟩ := St_recv A K ht hi
  rw [e1]
  rw [e2] at next
  change _ ⊢ runs c (.op (.waitDma2 (rSem k) src (gSl off size inb) hsrc hdw) kt) Q
  unfold dues
  iintro ⟨#HI, ⟨%W, Ho⟩, ⟨Hc, Hat⟩, HR⟩
  ihave ⟨#Hrec, #Hlev⟩ := (Inv_elim A K k) $$ HI
  unfold recs
  icases Hrec with ⟨-, #Hi1, -, -⟩
  iapply (Rounds.wp_wait_rest_token 𝒱₀ ER (Rd A) (c : Thread nD τ) none (κ := K (rCell k c))
      (wpE_waitDma2_eq 𝒱₀ (c : Thread nD τ) none Set.univ) (Set.mem_univ _) () (O := owe c (pend c t)) (W := W) (R := 0) (m := 0) (T := ∅)
      (by rw [Nat.zero_add, expect_r A k c hi]; subst hsz; rfl)) $$ [Hc Ho Hat]
  · isplitl []; · iexact Hi1
    isplitl [Hc]; · rw [show (gSl off size inb).view.dmaCredit = amt k by subst hsz; rfl]; iexact Hc
    isplitl [Ho]; · iexact Ho
    isplitl []
    · iapply (mayWait c (.dma (rSem k)) (pend c t) (fun j hj => by
        have e := lv_r k c
        have hj' := (Finset.mem_filter.mp hj).2.2
        have := send_ne_recv j k
        have := arr_lt k j (by omega)
        show lv (rCell k c) () < _
        rw [e]; omega)); iexact Hlev
    iexact Hat
  rw [rest_r A k c hi]
  iintro ⟨Ho, Hat, -, Hg⟩
  iapply next
  isplitl []; · iexact HI
  isplitl [Ho]; · unfold dues; iexists _; iexact Ho
  isplitl [Hat]; · iexact Hat
  isplitl [Hg]; · iexact Hg
  iexact HR

/-- A wait for a send to have been read, told by any view of as many bytes. -/
theorem step_drain {Q : α → sProp 𝕄} (k : Lane) {t : ℕ} (ht : drainTime k = t) (ho : out k c = true)
    {sp' : Space} {s' : Shape} {e' : EltTy} {dst : Memref sig .tc sp' s' e'} (hcr : dst.view.dmaCredit = amt k) {sS : DmaSem sig} (hsS : sS = sSem k)
    {sp : Space} {s : Shape} {e : EltTy} {src : Memref sig .tc sp s e}
    {hsrc hdw} {kt : PUnit → ℙ α} (next : St A K c (t + 1) ⊢ runs c (kt ⟨⟩) Q) :
    St A K c t ⊢ runs c (Prog.lift (.waitDma2 sS src dst hsrc hdw) >>= kt) Q := by
  subst hsS
  obtain ⟨R, e1, e2⟩ := St_drain A K ht ho
  rw [e1]
  rw [e2] at next
  change _ ⊢ runs c (.op (.waitDma2 (sSem k) src dst hsrc hdw) kt) Q
  unfold dues
  iintro ⟨#HI, ⟨%W, Ho⟩, ⟨Hc, Hat⟩, HR⟩
  ihave ⟨#Hrec, #Hlev⟩ := (Inv_elim A K k) $$ HI
  unfold recs
  icases Hrec with ⟨#Hi1, -, -, -⟩
  iapply (Rounds.wp_wait_rest_token 𝒱₀ ER (Rd A) (c : Thread nD τ) none (κ := K (sCell k c))
      (wpE_waitDma2_eq 𝒱₀ (c : Thread nD τ) none Set.univ) (Set.mem_univ _) () (O := owe c (pend c t)) (W := W) (R := 0) (m := 0) (T := ∅)
      (by rw [Nat.zero_add, expect_s A k c ho]; exact hcr)) $$ [Hc Ho Hat]
  · isplitl []; · iexact Hi1
    isplitl [Hc]; · rw [show dst.view.dmaCredit = amt k from hcr]; iexact Hc
    isplitl [Ho]; · iexact Ho
    isplitl []
    · iapply (mayWait c (.dma (sSem k)) (pend c t) (fun j hj => by
        have e := lv_s k c
        show lv (sCell k c) () < _
        rw [e]; omega)); iexact Hlev
    iexact Hat
  rw [rest_s A k c ho]
  iintro ⟨Ho, Hat, -, Hg⟩
  iapply next
  isplitl []; · iexact HI
  isplitl [Ho]; · unfold dues; iexists _; iexact Ho
  isplitl [Hat]; · iexact Hat
  isplitl [Hg]; · iexact Hg
  iexact HR

/-- A wait for a send to have been read. -/
theorem wait_s {Q : α → sProp 𝕄} (k : Lane) {t : ℕ} (ht : drainTime k = t) (ho : out k c = true)
    {off size : Fin 2 → ℕ} {inb} (hsz : size = ![nr k, 4096]) {sS : DmaSem sig} (hsS : sS = sSem k)
    {sp : Space} {s : Shape} {e : EltTy} {src : Memref sig .tc sp s e}
    {hsrc hdw} {kt : PUnit → ℙ α} (next : St A K c (t + 1) ⊢ runs c (kt ⟨⟩) Q) :
    St A K c t ⊢ runs c (Prog.lift (.waitDma2 sS src (gSl off size inb) hsrc hdw) >>= kt) Q :=
  step_drain k ht ho (by subst hsz; rfl) hsS next

/-- The same for a send of the device's whole block. -/
theorem wait_sx {Q : α → sProp 𝕄} (k : Lane) {t : ℕ} (ht : drainTime k = t) (ho : out k c = true) (hn : nr k = 256) {sS : DmaSem sig} (hsS : sS = sSem k)
    {inb} {sp : Space} {s : Shape} {e : EltTy} {src : Memref sig .tc sp s e}
    {hsrc hdw} {kt : PUnit → ℙ α} (next : St A K c (t + 1) ⊢ runs c (kt ⟨⟩) Q) :
    St A K c t ⊢ runs c (Prog.lift (.waitDma2 sS src (xSl ![0, 0] S256x4096.size inb) hsrc hdw) >>= kt) Q :=
  step_drain k ht ho (by unfold amt; rw [hn]; rfl) hsS next

/-- A load of a part of a buffer the state holds elements of. -/
theorem step_load {Q : α → sProp 𝕄} {t : ℕ} {s : Shape} {e : EltTy} {m : Memref sig .tc .vmem s e} {r : Rect s} {hl : m.view.LoadsAt r.toLoadRect}
    {S : Finset (Idx (m.view.loc (c : Thread nD τ)))} {q : PosShare TreeShare} {f : Buf (Elt F) (m.view.loc (c : Thread nD τ))} {R : sProp 𝕄}
    (hR : St A K c t = iprop((m.view.loc (c : Thread nD τ) ↦[S]{q} f) ∗ R)) (hS : (m.access r).set ⊆ S)
    {kt : (r.toLoadRect.shape.Idx → Elt F e) → ℙ α} (next : St A K c t ⊢ runs c (kt (m.view.readAt (Elt F) r.toLoadRect f)) Q) :
    St A K c t ⊢ runs c (Prog.lift (.load m r.toLoadRect hl) >>= kt) Q := by
  rw [lift_bind]
  rw [hR] at next ⊢
  iintro ⟨Hp, HR⟩
  iapply (wp_load 𝒱₀ (c : Thread nD τ) none Set.univ (m := m) (r := r.toLoadRect) (S := S) (q := q) (f := f) (by rwa [View.set_slice] at hS)) $$ Hp
  iintro Hp
  iapply next
  isplitl [Hp]; · iexact Hp
  iexact HR

/-- A load of rows that arrived on lane k. -/
theorem load_rows {Q : α → sProp 𝕄} (k : Lane) {t n r : ℕ} (ht : recvTime k < t) (hi : inc k c = true)
    {off size : Fin 2 → ℕ} {inb} (hoff : off = ![r, 0]) (hsz : size = ![n, 4096]) (hn : n = nr k) (hr : r = rrow k c) {hl}
    {kt : ((Rect.unit (s := S4096x4096) off size inb).toLoadRect.shape.Idx → Elt F .i8) → ℙ α}
    (next : St A K c t ⊢ runs c (kt (gM.view.readAt (Elt F) (Rect.unit (s := S4096x4096) off size inb).toLoadRect (GA A))) Q) :
    St A K c t ⊢ runs c (Prog.lift (.load gM (Rect.unit (s := S4096x4096) off size inb).toLoadRect hl) >>= kt) Q := by
  obtain ⟨R, e⟩ := St_rows A K (k := k) ht hi
  refine step_load (m := gM) (r := Rect.unit (s := S4096x4096) off size inb) (S := rows (rrow k c) (nr k)) (q := qll) (f := GA A) (R := R) e ?_ next
  rw [View.set_slice_whole, unit_set hoff hsz, hn, hr]

/-- The load of the weights. -/
theorem load_w {Q : α → sProp 𝕄} {t : ℕ} {inb hl}
    {kt : Vec F S4096x512 .i8 → ℙ α} (next : St A K c t ⊢ runs c (kt (A.Wt c)) Q) :
    St A K c t ⊢ runs c (Prog.lift (.load wM (Rect.unit (s := S4096x512) ![0, 0] S4096x512.size inb).toLoadRect hl) >>= kt) Q := by
  obtain ⟨R, e⟩ := St_w A K (c := c) (t := t)
  refine step_load (m := wM) (r := Rect.unit (s := S4096x512) ![0, 0] S4096x512.size inb) (S := Finset.univ) (q := fullShare) (f := A.Wt c) (R := R) e (Finset.subset_univ _) ?_
  have : wM.view.readAt (Elt F) (Rect.unit (s := S4096x512) ![0, 0] S4096x512.size inb).toLoadRect (A.Wt c) = A.Wt c :=
    Memref.readAt_unit_zero (Elt F) cc0_stg1_0 (funext fun a => by fin_cases a <;> rfl) _ _
  rw [this]; exact next

/-- The load of the device's own rows. -/
theorem load_own {Q : α → sProp 𝕄} {t : ℕ} {inb hl}
    {kt : Vec F S256x4096 .i8 → ℙ α} (next : St A K c t ⊢ runs c (kt (A.X c)) Q) :
    St A K c t ⊢ runs c (Prog.lift (.load xM (Rect.unit (s := S256x4096) ![0, 0] S256x4096.size inb).toLoadRect hl) >>= kt) Q := by
  obtain ⟨R, e⟩ := St_x A K (c := c) (t := t)
  refine step_load (m := xM) (r := Rect.unit (s := S256x4096) ![0, 0] S256x4096.size inb) (S := rows 0 256) (q := qll) (f := A.X c) (R := R) e (by rw [rows_all]; exact Finset.subset_univ _) ?_
  have : xM.view.readAt (Elt F) (Rect.unit (s := S256x4096) ![0, 0] S256x4096.size inb).toLoadRect (A.X c) = A.X c :=
    Memref.readAt_unit_zero (Elt F) cc0_stg0_0 (funext fun a => by fin_cases a <;> rfl) _ _
  rw [this]; exact next

/-- A load of the result's buffer whose value is not used. -/
theorem load_out {Q : α → sProp 𝕄} {t : ℕ} {off size : Fin 2 → ℕ} {inb hl}
    {kt : ((Rect.unit (s := S4096x512) off size inb).toLoadRect.shape.Idx → Elt F .f32) → ℙ α} (next : ∀ v, St A K c t ⊢ runs c (kt v) Q) :
    St A K c t ⊢ runs c (Prog.lift (.load oM (Rect.unit (s := S4096x512) off size inb).toLoadRect hl) >>= kt) Q := by
  rw [lift_bind]
  obtain ⟨R, e⟩ := St_out A K (c := c) (t := t)
  rw [e] at next ⊢
  unfold outB at next ⊢
  iintro ⟨⟨%f, %hf, Hp⟩, HR⟩
  iapply (wp_load 𝒱₀ (c : Thread nD τ) none Set.univ (m := oM) (Finset.subset_univ _)) $$ Hp
  iintro Hp
  iapply (next _)
  isplitl [Hp]
  · iexists f
    isplitl []; · ipureintro; exact hf
    iexact Hp
  iexact HR

theorem step_store {Q : α → sProp 𝕄} {t t' n r : ℕ} {R : sProp 𝕄} (e1 : St A K c t = iprop(outB A c t ∗ R)) (e2 : St A K c t' = iprop(outB A c t' ∗ R))
    {off size : Fin 2 → ℕ} {inb} {w : (Rect.unit (s := S4096x512) off size inb).shape.Idx → Elt F .f32}
    (hag : ∀ f, Agree A c t f → Agree A c t' ((oM.access (Rect.unit (s := S4096x512) off size inb)).write (Elt F) f w Finset.univ)) {hx hm}
    {kt : PUnit → ℙ α} (next : St A K c t' ⊢ runs c (kt ⟨⟩) Q) :
    St A K c t ⊢ runs c (Prog.lift (.store oM (Rect.unit (s := S4096x512) off size inb) w Finset.univ hx hm) >>= kt) Q := by
  rw [lift_bind]
  rw [e2] at next
  rw [e1]
  unfold outB at next ⊢
  iintro ⟨⟨%f, %hf, Hp⟩, HR⟩
  iapply (wp_store 𝒱₀ (c : Thread nD τ) none Set.univ (m := oM) (r := Rect.unit (s := S4096x512) off size inb) (S := Finset.univ) (f := f) (w := w) (Mk := Finset.univ) (Finset.subset_univ _)) $$ Hp
  iintro Hp
  iapply next
  isplitl [Hp]
  · iexists _
    isplitl []; · ipureintro; exact hag f hf
    iexact Hp
  iexact HR

/-- The store of the tile of lane k's rows. -/
theorem store_rows {Q : α → sProp 𝕄} (k : Lane) (n : ℕ) {t : ℕ} (hin : inc k c = true) (ht : compTime k = t) (hn : n = nr k)
    {off : Fin 2 → ℕ} {inb} (hoff : off = ![rrow k c, 0]) (lhs : Vec F ⟨2, ![n, 4096]⟩ .i8)
    (hl : ∀ (j : (⟨2, ![n, 4096]⟩ : Shape).Idx) (i : S4096x4096.Idx), (i 0).val = rrow k c + (j 0).val → (i 1).val = (j 1).val → lhs j = GA A i)
    {w : (Rect.unit (s := S4096x512) off ![n, 512] inb).shape.Idx → Elt F .f32} (hw : w = relu (scl A c) (mm n lhs (A.Wt c))) {hx hm}
    {kt : PUnit → ℙ α} (next : St A K c (t + 1) ⊢ runs c (kt ⟨⟩) Q) :
    St A K c t ⊢ runs c (Prog.lift (.store oM (Rect.unit (s := S4096x512) off ![n, 512] inb) w Finset.univ hx hm) >>= kt) Q := by
  obtain ⟨R, e1, e2⟩ := St_comp A K (c := c) ht
  refine step_store (n := n) (r := rrow k c) e1 e2 (fun f hf => ?_) next
  obtain ⟨h0, h1⟩ := store_o hoff rfl f w (inb := inb)
  subst hn
  refine Agree_comp A ht hf h0 fun i hi => ?_
  obtain ⟨j, a, b, e⟩ := h1 i hi
  rw [e, hw]
  unfold T
  rw [span_lane hin hi]
  exact relu_tile A c lhs hl (rrow_le k c hin) j i a b

/-- The store of the tile of the device's own rows. -/
theorem store_own {Q : α → sProp 𝕄} {off : Fin 2 → ℕ} {inb} (hoff : off = ![256 * c.val, 0])
    {w : (Rect.unit (s := S4096x512) off ![256, 512] inb).shape.Idx → Elt F .f32} (hw : w = relu (scl A c) (mm 256 (A.X c) (A.Wt c))) {hx hm}
    {kt : PUnit → ℙ α} (next : St A K c (ownTime + 1) ⊢ runs c (kt ⟨⟩) Q) :
    St A K c ownTime ⊢ runs c (Prog.lift (.store oM (Rect.unit (s := S4096x512) off ![256, 512] inb) w Finset.univ hx hm) >>= kt) Q := by
  obtain ⟨R, e1, e2⟩ := St_own A K (c := c)
  refine step_store (n := 256) (r := 256 * c.val) e1 e2 (fun f hf => ?_) next
  obtain ⟨h0, h1⟩ := store_o hoff rfl f w (inb := inb)
  refine Agree_own A hf h0 fun i hi => ?_
  obtain ⟨j, a, b, e⟩ := h1 i hi
  rw [e, hw]
  unfold T
  rw [span_own hi]
  have hc : c.val < 16 := c.isLt
  refine relu_tile (r := 256 * c.val) A c (A.X c) (fun j i g0 g1 => ?_) (by omega) j i a b
  have hj : (j 0).val < 256 := (j 0).isLt
  unfold GA
  have hd : (⟨(i 0).val / 256, dev_lt (i 0).isLt⟩ : Dev nD) = c := Fin.ext (by show (i 0).val / 256 = c.val; omega)
  rw [hd]
  congr 1
  funext d; apply Fin.ext
  match d with
  | ⟨0, _⟩ => show (j 0).val = (i 0).val % 256; omega
  | ⟨1, _⟩ => exact g1.symm

end Cert.KernelIdeal.AG

end
-- ==== Proof.Walk.lean ====
/-
  What the windows of the body's text are walked with: operations a device leaves out, blocks under a condition, and the
  instruction sequences that recur (forward a copy, take the product of rows that have arrived, wait for departures).
-/
module

public import proofs.«01_k».proof.Proof.Steps

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ
local notation "ℙ" => Prog (TpuEff nD τ sig (Elt F) Λ₀ Proc.tc)

variable {A : Ops F} {K : GSem nD τ sig → ℕ} {c : Dev nD}
variable {α : Type}

/-- Device c does nothing at place t of the program. -/
def idle (c : Dev nD) (t : ℕ) : Prop :=
  ownTime ≠ t ∧ ∀ k : Lane, (out k c = true → sendTime k ≠ t ∧ drainTime k ≠ t) ∧ (inc k c = true → recvTime k ≠ t ∧ compTime k ≠ t)

instance (c : Dev nD) (t : ℕ) : Decidable (idle c t) := by unfold idle; infer_instance

theorem St_idle {t : ℕ} (h : idle c t) : St A K c t = St A K c (t + 1) :=
  St_skip A K h.1 (fun k o => (h.2 k).1 o |>.1) (fun k o => (h.2 k).1 o |>.2) (fun k o => (h.2 k).2 o |>.1) (fun k o => (h.2 k).2 o |>.2)

theorem St_idles {t : ℕ} : ∀ n : ℕ, (∀ i, i < n → idle c (t + i)) → St A K c t = St A K c (t + n)
  | 0, _ => rfl
  | n + 1, h => (St_idles n fun i hi => h i (by omega)).trans (St_idle (h n (by omega)))

/-- A block under a condition that takes n places of the program; the rest q follows it. -/
theorem block {Q : α → sProp 𝕄} (n : ℕ) {t : ℕ} {p : Prop} {_ : Decidable p} {B : p → ℙ α} {q : ℙ α}
    (hq : St A K c (t + n) ⊢ runs c q Q) (idles : ¬ p → ∀ i, i < n → idle c (t + i))
    (hB : ∀ h, (St A K c (t + n) ⊢ runs c q Q) → (St A K c t ⊢ runs c (B h) Q)) :
    St A K c t ⊢ runs c (if h : p then B h else q) Q := by
  by_cases h : p
  · rw [dif_pos h]; exact hB h hq
  · rw [dif_neg h, St_idles n (idles h)]; exact hq

theorem runs_pure {Q : α → sProp 𝕄} {P : sProp 𝕄} (v : α) (h : P ⊢ Q v) : P ⊢ runs c (pure v) Q := by
  change P ⊢ wp _ _ _ (.ret v) _
  rw [wp_ret]; exact h.trans fupd_intro

/-- Two parts of the program, one after the other, read as one. -/
theorem runs_assoc {Q : α → sProp 𝕄} {P : sProp 𝕄} {β γ : Type} {p : ℙ β} {k : β → ℙ γ} {f : γ → ℙ α}
    (h : P ⊢ runs c (p >>= fun x => k x >>= f) Q) : P ⊢ runs c ((p >>= k) >>= f) Q := by
  rwa [bind_assoc]

/-- The end of a part that is gone on from with f. -/
theorem runs_ret {Q : α → sProp 𝕄} {P : sProp 𝕄} {β : Type} {v : β} {f : β → ℙ α} (h : P ⊢ runs c (f v) Q) : P ⊢ runs c (pure v >>= f) Q := by
  rwa [pure_bind]

/-- A part that begins by waiting for the 128 rows that arrive on lane a and passing them on on lane b. -/
theorem fwd {Q : α → sProp 𝕄} (a b : Lane) {t : ℕ} (ta : recvTime a = t) (tb : sendTime b = t + 1) (hp : parent b = some a) (na : nr a = 128) (nb : nr b = 128)
    {off₀ off : Fin 2 → ℕ} {inb₀ inb} {n : ℕ} {hn : n < nD} (h : inc a c = true ∧ out b c = true ∧ off = ![row b c, 0] ∧ n = (peer b c).val)
    {s₀ sS sR : DmaSem sig} (e₀ : s₀ = rSem a) (eS : sS = sSem b) (eR : sR = rSem b)
    {src : Memref sig .tc .vmem S128x4096 .i8} {h₁ h₂ h₃ h₄ h₅ h₆} {β : Type} {kt : PUnit → ℙ β} {f : β → ℙ α} (next : St A K c (t + 2) ⊢ runs c (kt ⟨⟩ >>= f) Q) :
    St A K c t ⊢ runs c ((Prog.lift (.waitDma2 s₀ src (gSl off₀ S128x4096.size inb₀) h₁ h₂) >>= fun _ =>
      Prog.lift (.enqueueDma (gSl off S128x4096.size inb) (.remote (Dev.tc (⟨n, hn⟩ : Dev nD)) (gSl off S128x4096.size inb) (.dma sS) h₃) (.dma sR) h₄ h₅ h₆) >>= kt) >>= f) Q :=
  runs_assoc (wait_r a ta h.1 (by rw [na]) e₀ (runs_assoc (send_g b a tb hp h.2.1 h.2.2.1 (by rw [nb]) (Fin.ext h.2.2.2) eS eR next)))

/-- A part that begins by waiting for the 128 rows that arrive on lane a, and those that arrive on lane b. -/
theorem wait2 {Q : α → sProp 𝕄} (a b : Lane) {t : ℕ} (ta : recvTime a = t) (tb : recvTime b = t + 1) (na : nr a = 128) (nb : nr b = 128)
    {off₀ off : Fin 2 → ℕ} {inb₀ inb} (h : inc a c = true ∧ inc b c = true) {sa sb : DmaSem sig} (ea : sa = rSem a) (eb : sb = rSem b)
    {src src' : Memref sig .tc .vmem S128x4096 .i8} {h₁ h₂ h₃ h₄} {β : Type} {kt : PUnit → ℙ β} {f : β → ℙ α} (next : St A K c (t + 2) ⊢ runs c (kt ⟨⟩ >>= f) Q) :
    St A K c t ⊢ runs c ((Prog.lift (.waitDma2 sa src (gSl off₀ S128x4096.size inb₀) h₁ h₂) >>= fun _ =>
      Prog.lift (.waitDma2 sb src' (gSl off S128x4096.size inb) h₃ h₄) >>= kt) >>= f) Q :=
  runs_assoc (wait_r a ta h.1 (by rw [na]) ea (runs_assoc (wait_r b tb h.2 (by rw [nb]) eb next)))

/-- The product of the 128 rows that arrived on lane a is taken. -/
theorem comp {Q : α → sProp 𝕄} (a : Lane) {t : ℕ} (ta : recvTime a < t) (tc : compTime a = t) (na : nr a = 128)
    {off off' : Fin 2 → ℕ} {inb inb' hl hw ho hx hm} (h : inc a c = true ∧ off = ![rrow a c, 0] ∧ off' = ![rrow a c, 0])
    (pay : F .f32 → Vec F S128x4096 .i8 → Vec F S4096x512 .i8 → Vec F S128x512 .f32) (hpay : pay = Gen.k0_pay5)
    {kt : PUnit → ℙ α} (next : St A K c (t + 1) ⊢ runs c (kt ⟨⟩) Q) :
    St A K c t ⊢ runs c (Prog.lift (.load gM (Rect.unit (s := S4096x4096) off S128x4096.size inb).toLoadRect hl) >>= fun l : Vec F S128x4096 .i8 =>
      Prog.lift (.load wM (Rect.unit (s := S4096x512) ![0, 0] S4096x512.size Gen.inb_S4096x512_S4096x512_0_0).toLoadRect hw) >>= fun w : Vec F S4096x512 .i8 =>
      Prog.lift (.load oM (Rect.unit (s := S4096x512) off' S128x512.size inb').toLoadRect ho) >>= fun _ : Vec F S128x512 .f32 =>
      Prog.lift (.store oM (Rect.unit (s := S4096x512) off' S128x512.size inb') (pay (scl A c) l w) Finset.univ hx hm) >>= kt) Q := by
  refine load_rows a ta h.1 h.2.1 rfl na.symm rfl (load_w (load_out fun _ => ?_))
  subst hpay
  exact store_rows a 128 h.1 tc na.symm h.2.2 _ (fun j i h0 h1 => load_g A h.2.1 rfl j i h0 h1) (pay_half _ _ _) next

/-- The same inside a part. -/
theorem comp_in {Q : α → sProp 𝕄} (a : Lane) {t : ℕ} (ta : recvTime a < t) (tc : compTime a = t) (na : nr a = 128)
    {off off' : Fin 2 → ℕ} {inb inb' hl hw ho hx hm} (h : inc a c = true ∧ off = ![rrow a c, 0] ∧ off' = ![rrow a c, 0])
    (pay : F .f32 → Vec F S128x4096 .i8 → Vec F S4096x512 .i8 → Vec F S128x512 .f32) (hpay : pay = Gen.k0_pay5)
    {β : Type} {kt : PUnit → ℙ β} {f : β → ℙ α} (next : St A K c (t + 1) ⊢ runs c (kt ⟨⟩ >>= f) Q) :
    St A K c t ⊢ runs c ((Prog.lift (.load gM (Rect.unit (s := S4096x4096) off S128x4096.size inb).toLoadRect hl) >>= fun l : Vec F S128x4096 .i8 =>
      Prog.lift (.load wM (Rect.unit (s := S4096x512) ![0, 0] S4096x512.size Gen.inb_S4096x512_S4096x512_0_0).toLoadRect hw) >>= fun w : Vec F S4096x512 .i8 =>
      Prog.lift (.load oM (Rect.unit (s := S4096x512) off' S128x512.size inb').toLoadRect ho) >>= fun _ : Vec F S128x512 .f32 =>
      Prog.lift (.store oM (Rect.unit (s := S4096x512) off' S128x512.size inb') (pay (scl A c) l w) Finset.univ hx hm) >>= kt) >>= f) Q := by
  simp only [bind_assoc]
  exact comp a ta tc na h pay hpay next

/-- A part that begins by passing on, on lane b, 128 of the rows that arrived on lane a. -/
theorem send_in {Q : α → sProp 𝕄} (b a : Lane) {t : ℕ} (tb : sendTime b = t) (hp : parent b = some a) (nb : nr b = 128)
    {off : Fin 2 → ℕ} {inb} {n : ℕ} {hn : n < nD} (h : out b c = true ∧ off = ![row b c, 0] ∧ n = (peer b c).val)
    {sS sR : DmaSem sig} (eS : sS = sSem b) (eR : sR = rSem b)
    {h₃ h₄ h₅ h₆} {β : Type} {kt : PUnit → ℙ β} {f : β → ℙ α} (next : St A K c (t + 1) ⊢ runs c (kt ⟨⟩ >>= f) Q) :
    St A K c t ⊢ runs c ((Prog.lift (.enqueueDma (gSl off S128x4096.size inb) (.remote (Dev.tc (⟨n, hn⟩ : Dev nD)) (gSl off S128x4096.size inb) (.dma sS) h₃) (.dma sR) h₄ h₅ h₆) >>= kt) >>= f) Q :=
  runs_assoc (send_g b a tb hp h.1 h.2.1 (by rw [nb]) (Fin.ext h.2.2) eS eR next)

/-- A part that begins by loading the 256 rows that arrived on lane a, and the weights. -/
theorem load_in {Q : α → sProp 𝕄} (a : Lane) {t : ℕ} (ta : recvTime a < t) (na : nr a = 256)
    {off : Fin 2 → ℕ} {inb hl hw} (h : inc a c = true ∧ off = ![rrow a c, 0])
    {β : Type} {kt : Vec F S256x4096 .i8 → Vec F S4096x512 .i8 → ℙ β} {f : β → ℙ α}
    (next : St A K c t ⊢ runs c (kt (gM.view.readAt (Elt F) (Rect.unit (s := S4096x4096) off S256x4096.size inb).toLoadRect (GA A)) (A.Wt c) >>= f) Q) :
    St A K c t ⊢ runs c ((Prog.lift (.load gM (Rect.unit (s := S4096x4096) off S256x4096.size inb).toLoadRect hl) >>= fun l : Vec F S256x4096 .i8 =>
      Prog.lift (.load wM (Rect.unit (s := S4096x512) ![0, 0] S4096x512.size Gen.inb_S4096x512_S4096x512_0_0).toLoadRect hw) >>= fun w : Vec F S4096x512 .i8 =>
      kt l w) >>= f) Q :=
  runs_assoc (load_rows a ta h.1 h.2 rfl na.symm rfl (runs_assoc (load_w next)))

/-- The store of the product of the 256 rows that arrived on lane a. -/
theorem store_whole {Q : α → sProp 𝕄} (a : Lane) {t : ℕ} (tc : compTime a = t) (na : nr a = 256)
    {off off' : Fin 2 → ℕ} {inb inb' hx hm} (h : inc a c = true ∧ off = ![rrow a c, 0] ∧ off' = ![rrow a c, 0])
    (p₁ : Vec F S256x4096 .i8 → Vec F S4096x512 .i8 → Vec F S256x512 .f32) (p₂ : F .f32 → Vec F S256x512 .f32)
    (p₃ : Vec F S256x512 .f32 → Vec F S256x512 .f32 → Vec F S256x512 .f32) (h₁ : p₁ = Gen.k0_pay1) (h₂ : p₂ = Gen.k0_pay2) (h₃ : p₃ = Gen.k0_pay29)
    {kt : PUnit → ℙ α} (next : St A K c (t + 1) ⊢ runs c (kt ⟨⟩) Q) :
    St A K c t ⊢ runs c (Prog.lift (.store oM (Rect.unit (s := S4096x512) off' S256x512.size inb')
      (p₃ (p₁ (gM.view.readAt (Elt F) (Rect.unit (s := S4096x4096) off S256x4096.size inb).toLoadRect (GA A)) (A.Wt c)) (p₂ (scl A c))) Finset.univ hx hm) >>= kt) Q := by
  subst h₁ h₂ h₃
  exact store_rows a 256 h.1 tc na.symm h.2.2 _ (fun j i h0 h1 => load_g A h.2.1 rfl j i h0 h1) (pay_whole _ _ _) next

/-- The departures on lanes a and b are waited for. -/
theorem drain2 {Q : α → sProp 𝕄} (a b : Lane) {t : ℕ} (ta : drainTime a = t) (tb : drainTime b = t + 1) (na : nr a = 128) (nb : nr b = 128)
    {off off' : Fin 2 → ℕ} {inb inb'} (h : out a c = true ∧ out b c = true) {sa sb : DmaSem sig} (ea : sa = sSem a) (eb : sb = sSem b)
    {sp sp' : Space} {s s' : Shape} {e e' : EltTy} {src : Memref sig .tc sp s e} {src' : Memref sig .tc sp' s' e'}
    {h₁ h₂ h₃ h₄} {kt : PUnit → ℙ α} (next : St A K c (t + 2) ⊢ runs c (kt ⟨⟩) Q) :
    St A K c t ⊢ runs c (Prog.lift (.waitDma2 sa src (gSl off S128x4096.size inb) h₁ h₂) >>= fun _ =>
      Prog.lift (.waitDma2 sb src' (gSl off' S128x4096.size inb') h₃ h₄) >>= kt) Q :=
  wait_s a ta h.1 (by rw [na]) ea (wait_s b tb h.2 (by rw [nb]) eb next)

end Cert.KernelIdeal.AG
-- ==== Proof.Windows.lean ====
/-
  The body's windows after the barrier: each takes the state of a device from one place of the program to a later one.
  Every block of the text is one of: wait for a copy, pass it on, take the product of what came, wait for a departure.
-/
module

public import proofs.«01_k».proof.Proof.Walk

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]
variable {A : Ops F} {K : GSem nD τ sig → ℕ} {c : Dev nD}

attribute [local irreducible] k0_cond1 k0_cond2 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34 k0_cond35 k0_cond36 k0_cond37 k0_cond38 k0_cond39 k0_cond40 k0_cond41 k0_cond42 k0_cond43 k0_cond44 k0_cond45 k0_cond46 k0_cond47 k0_cond48 k0_cond49 k0_cond50 k0_cond51 k0_cond52 k0_cond53 k0_cond54 k0_cond55 k0_cond56 k0_cond57 k0_cond58 k0_cond59 k0_cond60 k0_cond61 k0_cond62 k0_cond63 k0_cond64 k0_cond65 k0_cond66 k0_cond67 k0_cond68 k0_cond69

theorem win44 (v2 : BitVec 32) (v3 : BitVec 32) (v4 : BitVec 32) (v8 : BitVec 32) (v12 : BitVec 32) (v14 : BitVec 32) (v17 : BitVec 32) (v18 : BitVec 1) (v19 : BitVec 1) :
    St A K c 3 ⊢ runs c (k0_part44 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v2 v3 v4 v8 v12 v14 v17 v18 v19 (scl A c)) (fun _ => St A K c 15) := by
  rw [Gen.k0_part44_eq_skeleton]; unfold Gen.k0_part44_skel
  refine send_x 1 (by decide +kernel) rfl (by revert c; decide +kernel) (by revert c; decide +kernel) rfl rfl (Fin.ext (by revert c; decide +kernel)) rfl rfl ?_
  refine load_own (load_w (load_out fun v => ?_)); clear v
  refine store_own (by revert c; decide +kernel) (pay_own _ _ _) ?_
  refine block 1 ?_ (fun h => by revert c; decide +kernel) fun h hq => wait_r 42 (by decide +kernel) (by clear hq; revert c; decide +kernel) rfl rfl hq
  refine block 1 ?_ (fun h => by revert c; decide +kernel) fun h hq => send_g 44 42 (by decide +kernel) rfl (by clear hq; revert c; decide +kernel) (by clear hq; revert c; decide +kernel) rfl (Fin.ext (by clear hq; revert c; decide +kernel)) rfl rfl hq
  refine block 3 ?_ (fun h => by revert c; decide +kernel) fun h hq => ?_ ; rotate_left
  · rw [Gen.k0_part1_eq_skeleton]; unfold Gen.k0_part1_skel
    refine send_in 6 42 (by decide +kernel) rfl rfl (by clear hq; revert c; decide +kernel) rfl rfl ?_
    refine send_in 7 42 (by decide +kernel) rfl rfl (by clear hq; revert c; decide +kernel) rfl rfl ?_
    refine load_in 42 (by decide +kernel) rfl (by clear hq; revert c; decide +kernel) (runs_ret (load_out fun v => ?_))
    clear v; exact store_whole 42 (by decide +kernel) rfl (by clear hq; revert c; decide +kernel) Gen.k0_pay1 Gen.k0_pay2 Gen.k0_pay29 rfl rfl rfl hq
  refine block 1 ?_ (fun h => by revert c; decide +kernel) fun h hq => wait_r 43 (by decide +kernel) (by clear hq; revert c; decide +kernel) rfl rfl hq
  refine block 1 ?_ (fun h => by revert c; decide +kernel) fun h hq => send_g 45 43 (by decide +kernel) rfl (by clear hq; revert c; decide +kernel) (by clear hq; revert c; decide +kernel) rfl (Fin.ext (by clear hq; revert c; decide +kernel)) rfl rfl hq
  refine block 3 ?_ (fun h => by revert c; decide +kernel) fun h hq => ?_ ; rotate_left
  · rw [Gen.k0_part2_eq_skeleton]; unfold Gen.k0_part2_skel
    refine send_in 12 43 (by decide +kernel) rfl rfl (by clear hq; revert c; decide +kernel) rfl rfl ?_
    refine send_in 13 43 (by decide +kernel) rfl rfl (by clear hq; revert c; decide +kernel) rfl rfl ?_
    refine load_in 43 (by decide +kernel) rfl (by clear hq; revert c; decide +kernel) (runs_ret (load_out fun v => ?_))
    clear v; exact store_whole 43 (by decide +kernel) rfl (by clear hq; revert c; decide +kernel) Gen.k0_pay3 Gen.k0_pay4 Gen.k0_pay30 rfl rfl rfl hq
  exact runs_pure _ (BI.Entails.refl _)

theorem win45 (v3 : BitVec 32) (v4 : BitVec 32) (v8 : BitVec 32) (v12 : BitVec 32) (v14 : BitVec 32) (v17 : BitVec 32) (v18 : BitVec 1) (v19 : BitVec 1) :
    St A K c 15 ⊢ runs c (k0_part45 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v8 v12 v14 v17 v18 v19 (scl A c)) (fun _ => St A K c 37) := by
  rw [Gen.k0_part45_eq_skeleton]; unfold Gen.k0_part45_skel
  refine block 6 ?_ (fun h => by revert c; decide +kernel) fun h hq => ?_ ; rotate_left
  · rw [Gen.k0_part3_eq_skeleton, Gen.k0_part4_eq_skeleton]; unfold Gen.k0_part3_skel Gen.k0_part4_skel
    refine fwd 0 2 (by decide +kernel) (by decide +kernel) rfl rfl rfl (by clear hq; revert c; decide +kernel) rfl rfl rfl (runs_ret ?_)
    refine fwd 1 3 (by decide +kernel) (by decide +kernel) rfl rfl rfl (by clear hq; revert c; decide +kernel) rfl rfl rfl ?_
    refine comp_in 0 (by decide +kernel) (by decide +kernel) rfl (by clear hq; revert c; decide +kernel) Gen.k0_pay5 rfl (runs_ret ?_)
    exact comp 1 (by decide +kernel) (by decide +kernel) rfl (by clear hq; revert c; decide +kernel) Gen.k0_pay31 rfl hq
  refine block 1 ?_ (fun h => by revert c; decide +kernel) fun h hq => wait_r 44 (by decide +kernel) (by clear hq; revert c; decide +kernel) rfl rfl hq
  refine block 1 ?_ (fun h => by revert c; decide +kernel) fun h hq => send_g 46 44 (by decide +kernel) rfl (by clear hq; revert c; decide +kernel) (by clear hq; revert c; decide +kernel) rfl (Fin.ext (by clear hq; revert c; decide +kernel)) rfl rfl hq
  refine block 3 ?_ (fun h => by revert c; decide +kernel) fun h hq => ?_ ; rotate_left
  · rw [Gen.k0_part5_eq_skeleton]; unfold Gen.k0_part5_skel
    refine send_in 18 44 (by decide +kernel) rfl rfl (by clear hq; revert c; decide +kernel) rfl rfl ?_
    refine send_in 19 44 (by decide +kernel) rfl rfl (by clear hq; revert c; decide +kernel) rfl rfl ?_
    refine load_in 44 (by decide +kernel) rfl (by clear hq; revert c; decide +kernel) (runs_ret (load_out fun v => ?_))
    clear v; exact store_whole 44 (by decide +kernel) rfl (by clear hq; revert c; decide +kernel) Gen.k0_pay6 Gen.k0_pay7 Gen.k0_pay32 rfl rfl rfl hq
  refine block 1 ?_ (fun h => by revert c; decide +kernel) fun h hq => wait_r 45 (by decide +kernel) (by clear hq; revert c; decide +kernel) rfl rfl hq
  refine block 1 ?_ (fun h => by revert c; decide +kernel) fun h hq => send_g 47 45 (by decide +kernel) rfl (by clear hq; revert c; decide +kernel) (by clear hq; revert c; decide +kernel) rfl (Fin.ext (by clear hq; revert c; decide +kernel)) rfl rfl hq
  refine block 3 ?_ (fun h => by revert c; decide +kernel) fun h hq => ?_ ; rotate_left
  · rw [Gen.k0_part6_eq_skeleton]; unfold Gen.k0_part6_skel
    refine send_in 24 45 (by decide +kernel) rfl rfl (by clear hq; revert c; decide +kernel) rfl rfl ?_
    refine send_in 25 45 (by decide +kernel) rfl rfl (by clear hq; revert c; decide +kernel) rfl rfl ?_
    refine load_in 45 (by decide +kernel) rfl (by clear hq; revert c; decide +kernel) (runs_ret (load_out fun v => ?_))
    clear v; exact store_whole 45 (by decide +kernel) rfl (by clear hq; revert c; decide +kernel) Gen.k0_pay8 Gen.k0_pay9 Gen.k0_pay33 rfl rfl rfl hq
  refine block 6 ?_ (fun h => by revert c; decide +kernel) fun h hq => ?_ ; rotate_left
  · rw [Gen.k0_part7_eq_skeleton, Gen.k0_part8_eq_skeleton]; unfold Gen.k0_part7_skel Gen.k0_part8_skel
    refine fwd 2 4 (by decide +kernel) (by decide +kernel) rfl rfl rfl (by clear hq; revert c; decide +kernel) rfl rfl rfl (runs_ret ?_)
    refine fwd 3 5 (by decide +kernel) (by decide +kernel) rfl rfl rfl (by clear hq; revert c; decide +kernel) rfl rfl rfl ?_
    refine comp_in 2 (by decide +kernel) (by decide +kernel) rfl (by clear hq; revert c; decide +kernel) Gen.k0_pay10 rfl (runs_ret ?_)
    exact comp 3 (by decide +kernel) (by decide +kernel) rfl (by clear hq; revert c; decide +kernel) Gen.k0_pay34 rfl hq
  exact runs_pure _ (BI.Entails.refl _)

theorem win46 (v3 : BitVec 32) (v4 : BitVec 32) (v8 : BitVec 32) (v12 : BitVec 32) (v14 : BitVec 32) (v17 : BitVec 32) (v119 : BitVec 1) (v120 : BitVec 1) :
    St A K c 37 ⊢ runs c (k0_part46 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v8 v12 v14 v17 (scl A c) v119 v120) (fun _ => St A K c 67) := by
  rw [Gen.k0_part46_eq_skeleton]; unfold Gen.k0_part46_skel
  refine block 6 ?_ (fun h => by revert c; decide +kernel) fun h hq => ?_ ; rotate_left
  · rw [Gen.k0_part9_eq_skeleton, Gen.k0_part10_eq_skeleton]; unfold Gen.k0_part9_skel Gen.k0_part10_skel
    refine fwd 6 8 (by decide +kernel) (by decide +kernel) rfl rfl rfl (by clear hq; revert c; decide +kernel) rfl rfl rfl (runs_ret ?_)
    refine fwd 7 9 (by decide +kernel) (by decide +kernel) rfl rfl rfl (by clear hq; revert c; decide +kernel) rfl rfl rfl ?_
    refine comp_in 6 (by decide +kernel) (by decide +kernel) rfl (by clear hq; revert c; decide +kernel) Gen.k0_pay11 rfl (runs_ret ?_)
    exact comp 7 (by decide +kernel) (by decide +kernel) rfl (by clear hq; revert c; decide +kernel) Gen.k0_pay35 rfl hq
  refine block 6 ?_ (fun h => by revert c; decide +kernel) fun h hq => ?_ ; rotate_left
  · rw [Gen.k0_part11_eq_skeleton, Gen.k0_part12_eq_skeleton]; unfold Gen.k0_part11_skel Gen.k0_part12_skel
    refine fwd 12 14 (by decide +kernel) (by decide +kernel) rfl rfl rfl (by clear hq; revert c; decide +kernel) rfl rfl rfl (runs_ret ?_)
    refine fwd 13 15 (by decide +kernel) (by decide +kernel) rfl rfl rfl (by clear hq; revert c; decide +kernel) rfl rfl rfl ?_
    refine comp_in 12 (by decide +kernel) (by decide +kernel) rfl (by clear hq; revert c; decide +kernel) Gen.k0_pay12 rfl (runs_ret ?_)
    exact comp 13 (by decide +kernel) (by decide +kernel) rfl (by clear hq; revert c; decide +kernel) Gen.k0_pay36 rfl hq
  refine block 1 ?_ (fun h => by revert c; decide +kernel) fun h hq => wait_r 46 (by decide +kernel) (by clear hq; revert c; decide +kernel) rfl rfl hq
  refine block 3 ?_ (fun h => by revert c; decide +kernel) fun h hq => ?_ ; rotate_left
  · rw [Gen.k0_part13_eq_skeleton]; unfold Gen.k0_part13_skel
    refine send_in 30 46 (by decide +kernel) rfl rfl (by clear hq; revert c; decide +kernel) rfl rfl ?_
    refine send_in 31 46 (by decide +kernel) rfl rfl (by clear hq; revert c; decide +kernel) rfl rfl ?_
    refine load_in 46 (by decide +kernel) rfl (by clear hq; revert c; decide +kernel) (runs_ret (load_out fun v => ?_))
    clear v; exact store_whole 46 (by decide +kernel) rfl (by clear hq; revert c; decide +kernel) Gen.k0_pay13 Gen.k0_pay14 Gen.k0_pay37 rfl rfl rfl hq
  refine block 1 ?_ (fun h => by revert c; decide +kernel) fun h hq => wait_r 47 (by decide +kernel) (by clear hq; revert c; decide +kernel) rfl rfl hq
  refine block 3 ?_ (fun h => by revert c; decide +kernel) fun h hq => ?_ ; rotate_left
  · rw [Gen.k0_part14_eq_skeleton]; unfold Gen.k0_part14_skel
    refine send_in 36 47 (by decide +kernel) rfl rfl (by clear hq; revert c; decide +kernel) rfl rfl ?_
    refine send_in 37 47 (by decide +kernel) rfl rfl (by clear hq; revert c; decide +kernel) rfl rfl ?_
    refine load_in 47 (by decide +kernel) rfl (by clear hq; revert c; decide +kernel) (runs_ret (load_out fun v => ?_))
    clear v; exact store_whole 47 (by decide +kernel) rfl (by clear hq; revert c; decide +kernel) Gen.k0_pay15 Gen.k0_pay16 Gen.k0_pay38 rfl rfl rfl hq
  refine block 4 ?_ (fun h => by revert c; decide +kernel) fun h hq => ?_ ; rotate_left
  · rw [Gen.k0_part15_eq_skeleton]; unfold Gen.k0_part15_skel
    refine wait2 4 5 (by decide +kernel) (by decide +kernel) rfl rfl (by clear hq; revert c; decide +kernel) rfl rfl (runs_ret ?_)
    refine comp 4 (by decide +kernel) (by decide +kernel) rfl (by clear hq; revert c; decide +kernel) Gen.k0_pay39 rfl ?_
    exact comp 5 (by decide +kernel) (by decide +kernel) rfl (by clear hq; revert c; decide +kernel) Gen.k0_pay40 rfl hq
  refine block 6 ?_ (fun h => by revert c; decide +kernel) fun h hq => ?_ ; rotate_left
  · rw [Gen.k0_part16_eq_skeleton, Gen.k0_part17_eq_skeleton]; unfold Gen.k0_part16_skel Gen.k0_part17_skel
    refine fwd 8 10 (by decide +kernel) (by decide +kernel) rfl rfl rfl (by clear hq; revert c; decide +kernel) rfl rfl rfl (runs_ret ?_)
    refine fwd 9 11 (by decide +kernel) (by decide +kernel) rfl rfl rfl (by clear hq; revert c; decide +kernel) rfl rfl rfl ?_
    refine comp_in 8 (by decide +kernel) (by decide +kernel) rfl (by clear hq; revert c; decide +kernel) Gen.k0_pay17 rfl (runs_ret ?_)
    exact comp 9 (by decide +kernel) (by decide +kernel) rfl (by clear hq; revert c; decide +kernel) Gen.k0_pay41 rfl hq
  exact runs_pure _ (BI.Entails.refl _)

theorem win47 (v3 : BitVec 32) (v4 : BitVec 32) (v8 : BitVec 32) (v12 : BitVec 32) :
    St A K c 67 ⊢ runs c (k0_part47 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v8 v12 (scl A c)) (fun _ => St A K c 93) := by
  rw [Gen.k0_part47_eq_skeleton]; unfold Gen.k0_part47_skel
  refine block 6 ?_ (fun h => by revert c; decide +kernel) fun h hq => ?_ ; rotate_left
  · rw [Gen.k0_part18_eq_skeleton, Gen.k0_part19_eq_skeleton]; unfold Gen.k0_part18_skel Gen.k0_part19_skel
    refine fwd 14 16 (by decide +kernel) (by decide +kernel) rfl rfl rfl (by clear hq; revert c; decide +kernel) rfl rfl rfl (runs_ret ?_)
    refine fwd 15 17 (by decide +kernel) (by decide +kernel) rfl rfl rfl (by clear hq; revert c; decide +kernel) rfl rfl rfl ?_
    refine comp_in 14 (by decide +kernel) (by decide +kernel) rfl (by clear hq; revert c; decide +kernel) Gen.k0_pay18 rfl (runs_ret ?_)
    exact comp 15 (by decide +kernel) (by decide +kernel) rfl (by clear hq; revert c; decide +kernel) Gen.k0_pay42 rfl hq
  refine block 6 ?_ (fun h => by revert c; decide +kernel) fun h hq => ?_ ; rotate_left
  · rw [Gen.k0_part20_eq_skeleton, Gen.k0_part21_eq_skeleton]; unfold Gen.k0_part20_skel Gen.k0_part21_skel
    refine fwd 18 20 (by decide +kernel) (by decide +kernel) rfl rfl rfl (by clear hq; revert c; decide +kernel) rfl rfl rfl (runs_ret ?_)
    refine fwd 19 21 (by decide +kernel) (by decide +kernel) rfl rfl rfl (by clear hq; revert c; decide +kernel) rfl rfl rfl ?_
    refine comp_in 18 (by decide +kernel) (by decide +kernel) rfl (by clear hq; revert c; decide +kernel) Gen.k0_pay19 rfl (runs_ret ?_)
    exact comp 19 (by decide +kernel) (by decide +kernel) rfl (by clear hq; revert c; decide +kernel) Gen.k0_pay43 rfl hq
  refine block 6 ?_ (fun h => by revert c; decide +kernel) fun h hq => ?_ ; rotate_left
  · rw [Gen.k0_part22_eq_skeleton, Gen.k0_part23_eq_skeleton]; unfold Gen.k0_part22_skel Gen.k0_part23_skel
    refine fwd 24 26 (by decide +kernel) (by decide +kernel) rfl rfl rfl (by clear hq; revert c; decide +kernel) rfl rfl rfl (runs_ret ?_)
    refine fwd 25 27 (by decide +kernel) (by decide +kernel) rfl rfl rfl (by clear hq; revert c; decide +kernel) rfl rfl rfl ?_
    refine comp_in 24 (by decide +kernel) (by decide +kernel) rfl (by clear hq; revert c; decide +kernel) Gen.k0_pay20 rfl (runs_ret ?_)
    exact comp 25 (by decide +kernel) (by decide +kernel) rfl (by clear hq; revert c; decide +kernel) Gen.k0_pay44 rfl hq
  refine block 4 ?_ (fun h => by revert c; decide +kernel) fun h hq => ?_ ; rotate_left
  · rw [Gen.k0_part24_eq_skeleton]; unfold Gen.k0_part24_skel
    refine wait2 10 11 (by decide +kernel) (by decide +kernel) rfl rfl (by clear hq; revert c; decide +kernel) rfl rfl (runs_ret ?_)
    refine comp 10 (by decide +kernel) (by decide +kernel) rfl (by clear hq; revert c; decide +kernel) Gen.k0_pay45 rfl ?_
    exact comp 11 (by decide +kernel) (by decide +kernel) rfl (by clear hq; revert c; decide +kernel) Gen.k0_pay46 rfl hq
  refine block 4 ?_ (fun h => by revert c; decide +kernel) fun h hq => ?_ ; rotate_left
  · rw [Gen.k0_part25_eq_skeleton]; unfold Gen.k0_part25_skel
    refine wait2 16 17 (by decide +kernel) (by decide +kernel) rfl rfl (by clear hq; revert c; decide +kernel) rfl rfl (runs_ret ?_)
    refine comp 16 (by decide +kernel) (by decide +kernel) rfl (by clear hq; revert c; decide +kernel) Gen.k0_pay47 rfl ?_
    exact comp 17 (by decide +kernel) (by decide +kernel) rfl (by clear hq; revert c; decide +kernel) Gen.k0_pay48 rfl hq
  exact runs_pure _ (BI.Entails.refl _)

theorem win48 (v3 : BitVec 32) (v4 : BitVec 32) (v8 : BitVec 32) (v12 : BitVec 32) (v183 : BitVec 32) (v184 : BitVec 1) (c3_i32_122 : BitVec 32) :
    St A K c 93 ⊢ runs c (k0_part48 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v8 v12 (scl A c) v183 v184 c3_i32_122) (fun _ => St A K c 121) := by
  rw [Gen.k0_part48_eq_skeleton]; unfold Gen.k0_part48_skel
  refine block 6 ?_ (fun h => by revert c; decide +kernel) fun h hq => ?_ ; rotate_left
  · rw [Gen.k0_part26_eq_skeleton, Gen.k0_part27_eq_skeleton]; unfold Gen.k0_part26_skel Gen.k0_part27_skel
    refine fwd 20 22 (by decide +kernel) (by decide +kernel) rfl rfl rfl (by clear hq; revert c; decide +kernel) rfl rfl rfl (runs_ret ?_)
    refine fwd 21 23 (by decide +kernel) (by decide +kernel) rfl rfl rfl (by clear hq; revert c; decide +kernel) rfl rfl rfl ?_
    refine comp_in 20 (by decide +kernel) (by decide +kernel) rfl (by clear hq; revert c; decide +kernel) Gen.k0_pay21 rfl (runs_ret ?_)
    exact comp 21 (by decide +kernel) (by decide +kernel) rfl (by clear hq; revert c; decide +kernel) Gen.k0_pay49 rfl hq
  refine block 6 ?_ (fun h => by revert c; decide +kernel) fun h hq => ?_ ; rotate_left
  · rw [Gen.k0_part28_eq_skeleton, Gen.k0_part29_eq_skeleton]; unfold Gen.k0_part28_skel Gen.k0_part29_skel
    refine fwd 26 28 (by decide +kernel) (by decide +kernel) rfl rfl rfl (by clear hq; revert c; decide +kernel) rfl rfl rfl (runs_ret ?_)
    refine fwd 27 29 (by decide +kernel) (by decide +kernel) rfl rfl rfl (by clear hq; revert c; decide +kernel) rfl rfl rfl ?_
    refine comp_in 26 (by decide +kernel) (by decide +kernel) rfl (by clear hq; revert c; decide +kernel) Gen.k0_pay22 rfl (runs_ret ?_)
    exact comp 27 (by decide +kernel) (by decide +kernel) rfl (by clear hq; revert c; decide +kernel) Gen.k0_pay50 rfl hq
  refine block 6 ?_ (fun h => by revert c; decide +kernel) fun h hq => ?_ ; rotate_left
  · rw [Gen.k0_part30_eq_skeleton, Gen.k0_part31_eq_skeleton]; unfold Gen.k0_part30_skel Gen.k0_part31_skel
    refine fwd 30 32 (by decide +kernel) (by decide +kernel) rfl rfl rfl (by clear hq; revert c; decide +kernel) rfl rfl rfl (runs_ret ?_)
    refine fwd 31 33 (by decide +kernel) (by decide +kernel) rfl rfl rfl (by clear hq; revert c; decide +kernel) rfl rfl rfl ?_
    refine comp_in 30 (by decide +kernel) (by decide +kernel) rfl (by clear hq; revert c; decide +kernel) Gen.k0_pay23 rfl (runs_ret ?_)
    exact comp 31 (by decide +kernel) (by decide +kernel) rfl (by clear hq; revert c; decide +kernel) Gen.k0_pay51 rfl hq
  refine block 6 ?_ (fun h => by revert c; decide +kernel) fun h hq => ?_ ; rotate_left
  · rw [Gen.k0_part32_eq_skeleton, Gen.k0_part33_eq_skeleton]; unfold Gen.k0_part32_skel Gen.k0_part33_skel
    refine fwd 36 38 (by decide +kernel) (by decide +kernel) rfl rfl rfl (by clear hq; revert c; decide +kernel) rfl rfl rfl (runs_ret ?_)
    refine fwd 37 39 (by decide +kernel) (by decide +kernel) rfl rfl rfl (by clear hq; revert c; decide +kernel) rfl rfl rfl ?_
    refine comp_in 36 (by decide +kernel) (by decide +kernel) rfl (by clear hq; revert c; decide +kernel) Gen.k0_pay24 rfl (runs_ret ?_)
    exact comp 37 (by decide +kernel) (by decide +kernel) rfl (by clear hq; revert c; decide +kernel) Gen.k0_pay52 rfl hq
  refine block 4 ?_ (fun h => by revert c; decide +kernel) fun h hq => ?_ ; rotate_left
  · rw [Gen.k0_part34_eq_skeleton]; unfold Gen.k0_part34_skel
    refine wait2 22 23 (by decide +kernel) (by decide +kernel) rfl rfl (by clear hq; revert c; decide +kernel) rfl rfl (runs_ret ?_)
    refine comp 22 (by decide +kernel) (by decide +kernel) rfl (by clear hq; revert c; decide +kernel) Gen.k0_pay53 rfl ?_
    exact comp 23 (by decide +kernel) (by decide +kernel) rfl (by clear hq; revert c; decide +kernel) Gen.k0_pay54 rfl hq
  exact runs_pure _ (BI.Entails.refl _)

theorem win49 (v3 : BitVec 32) (v4 : BitVec 32) (v8 : BitVec 32) (v12 : BitVec 32) (v18 : BitVec 1) (v19 : BitVec 1) :
    St A K c 121 ⊢ runs c (k0_part49 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v8 v12 v18 v19 (scl A c)) (fun _ => St A K c 146) := by
  rw [Gen.k0_part49_eq_skeleton]; unfold Gen.k0_part49_skel
  refine block 4 ?_ (fun h => by revert c; decide +kernel) fun h hq => ?_ ; rotate_left
  · rw [Gen.k0_part35_eq_skeleton]; unfold Gen.k0_part35_skel
    refine wait2 28 29 (by decide +kernel) (by decide +kernel) rfl rfl (by clear hq; revert c; decide +kernel) rfl rfl (runs_ret ?_)
    refine comp 28 (by decide +kernel) (by decide +kernel) rfl (by clear hq; revert c; decide +kernel) Gen.k0_pay55 rfl ?_
    exact comp 29 (by decide +kernel) (by decide +kernel) rfl (by clear hq; revert c; decide +kernel) Gen.k0_pay56 rfl hq
  refine block 6 ?_ (fun h => by revert c; decide +kernel) fun h hq => ?_ ; rotate_left
  · rw [Gen.k0_part36_eq_skeleton, Gen.k0_part37_eq_skeleton]; unfold Gen.k0_part36_skel Gen.k0_part37_skel
    refine fwd 32 34 (by decide +kernel) (by decide +kernel) rfl rfl rfl (by clear hq; revert c; decide +kernel) rfl rfl rfl (runs_ret ?_)
    refine fwd 33 35 (by decide +kernel) (by decide +kernel) rfl rfl rfl (by clear hq; revert c; decide +kernel) rfl rfl rfl ?_
    refine comp_in 32 (by decide +kernel) (by decide +kernel) rfl (by clear hq; revert c; decide +kernel) Gen.k0_pay25 rfl (runs_ret ?_)
    exact comp 33 (by decide +kernel) (by decide +kernel) rfl (by clear hq; revert c; decide +kernel) Gen.k0_pay57 rfl hq
  refine block 6 ?_ (fun h => by revert c; decide +kernel) fun h hq => ?_ ; rotate_left
  · rw [Gen.k0_part38_eq_skeleton, Gen.k0_part39_eq_skeleton]; unfold Gen.k0_part38_skel Gen.k0_part39_skel
    refine fwd 38 40 (by decide +kernel) (by decide +kernel) rfl rfl rfl (by clear hq; revert c; decide +kernel) rfl rfl rfl (runs_ret ?_)
    refine fwd 39 41 (by decide +kernel) (by decide +kernel) rfl rfl rfl (by clear hq; revert c; decide +kernel) rfl rfl rfl ?_
    refine comp_in 38 (by decide +kernel) (by decide +kernel) rfl (by clear hq; revert c; decide +kernel) Gen.k0_pay26 rfl (runs_ret ?_)
    exact comp 39 (by decide +kernel) (by decide +kernel) rfl (by clear hq; revert c; decide +kernel) Gen.k0_pay58 rfl hq
  refine block 4 ?_ (fun h => by revert c; decide +kernel) fun h hq => ?_ ; rotate_left
  · rw [Gen.k0_part40_eq_skeleton]; unfold Gen.k0_part40_skel
    refine wait2 34 35 (by decide +kernel) (by decide +kernel) rfl rfl (by clear hq; revert c; decide +kernel) rfl rfl (runs_ret ?_)
    refine comp 34 (by decide +kernel) (by decide +kernel) rfl (by clear hq; revert c; decide +kernel) Gen.k0_pay59 rfl ?_
    exact comp 35 (by decide +kernel) (by decide +kernel) rfl (by clear hq; revert c; decide +kernel) Gen.k0_pay60 rfl hq
  refine block 4 ?_ (fun h => by revert c; decide +kernel) fun h hq => ?_ ; rotate_left
  · rw [Gen.k0_part41_eq_skeleton]; unfold Gen.k0_part41_skel
    refine wait2 40 41 (by decide +kernel) (by decide +kernel) rfl rfl (by clear hq; revert c; decide +kernel) rfl rfl (runs_ret ?_)
    refine comp 40 (by decide +kernel) (by decide +kernel) rfl (by clear hq; revert c; decide +kernel) Gen.k0_pay61 rfl ?_
    exact comp 41 (by decide +kernel) (by decide +kernel) rfl (by clear hq; revert c; decide +kernel) Gen.k0_pay62 rfl hq
  refine block 1 ?_ (fun h => by revert c; decide +kernel) fun h hq => wait_sx 42 (by decide +kernel) (by clear hq; revert c; decide +kernel) rfl rfl hq
  exact runs_pure _ (BI.Entails.refl _)

theorem win50 (v3 : BitVec 32) (v4 : BitVec 32) (v18 : BitVec 1) (v19 : BitVec 1) (v251 : BitVec 32) :
    St A K c 146 ⊢ runs c (k0_part50 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v18 v19 v251) (fun _ => St A K c 153) := by
  rw [Gen.k0_part50_eq_skeleton]; unfold Gen.k0_part50_skel
  refine block 1 ?_ (fun h => by revert c; decide +kernel) fun h hq => wait_sx 43 (by decide +kernel) (by clear hq; revert c; decide +kernel) rfl rfl hq
  refine block 1 ?_ (fun h => by revert c; decide +kernel) fun h hq => wait_s 44 (by decide +kernel) (by clear hq; revert c; decide +kernel) rfl rfl hq
  refine block 1 ?_ (fun h => by revert c; decide +kernel) fun h hq => wait_s 45 (by decide +kernel) (by clear hq; revert c; decide +kernel) rfl rfl hq
  refine block 1 ?_ (fun h => by revert c; decide +kernel) fun h hq => wait_s 46 (by decide +kernel) (by clear hq; revert c; decide +kernel) rfl rfl hq
  refine block 1 ?_ (fun h => by revert c; decide +kernel) fun h hq => wait_s 47 (by decide +kernel) (by clear hq; revert c; decide +kernel) rfl rfl hq
  refine block 2 ?_ (fun h => by revert c; decide +kernel) fun h hq => drain2 0 1 (by decide +kernel) (by decide +kernel) rfl rfl (by clear hq; revert c; decide +kernel) rfl rfl hq
  exact runs_pure _ (BI.Entails.refl _)

theorem win51 (v3 : BitVec 32) (v4 : BitVec 32) :
    St A K c 153 ⊢ runs c (k0_part51 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4) (fun _ => St A K c 165) := by
  rw [Gen.k0_part51_eq_skeleton]; unfold Gen.k0_part51_skel
  refine block 2 ?_ (fun h => by revert c; decide +kernel) fun h hq => drain2 2 3 (by decide +kernel) (by decide +kernel) rfl rfl (by clear hq; revert c; decide +kernel) rfl rfl hq
  refine block 2 ?_ (fun h => by revert c; decide +kernel) fun h hq => drain2 4 5 (by decide +kernel) (by decide +kernel) rfl rfl (by clear hq; revert c; decide +kernel) rfl rfl hq
  refine block 2 ?_ (fun h => by revert c; decide +kernel) fun h hq => drain2 6 7 (by decide +kernel) (by decide +kernel) rfl rfl (by clear hq; revert c; decide +kernel) rfl rfl hq
  refine block 2 ?_ (fun h => by revert c; decide +kernel) fun h hq => drain2 8 9 (by decide +kernel) (by decide +kernel) rfl rfl (by clear hq; revert c; decide +kernel) rfl rfl hq
  refine block 2 ?_ (fun h => by revert c; decide +kernel) fun h hq => drain2 10 11 (by decide +kernel) (by decide +kernel) rfl rfl (by clear hq; revert c; decide +kernel) rfl rfl hq
  refine block 2 ?_ (fun h => by revert c; decide +kernel) fun h hq => drain2 12 13 (by decide +kernel) (by decide +kernel) rfl rfl (by clear hq; revert c; decide +kernel) rfl rfl hq
  exact runs_pure _ (BI.Entails.refl _)

theorem win52 (v3 : BitVec 32) (v4 : BitVec 32) (v315 : BitVec 32) (v316 : BitVec 1) :
    St A K c 165 ⊢ runs c (k0_part52 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v315 v316) (fun _ => St A K c 175) := by
  rw [Gen.k0_part52_eq_skeleton]; unfold Gen.k0_part52_skel
  refine block 2 ?_ (fun h => by revert c; decide +kernel) fun h hq => drain2 14 15 (by decide +kernel) (by decide +kernel) rfl rfl (by clear hq; revert c; decide +kernel) rfl rfl hq
  refine block 2 ?_ (fun h => by revert c; decide +kernel) fun h hq => drain2 16 17 (by decide +kernel) (by decide +kernel) rfl rfl (by clear hq; revert c; decide +kernel) rfl rfl hq
  refine block 2 ?_ (fun h => by revert c; decide +kernel) fun h hq => drain2 18 19 (by decide +kernel) (by decide +kernel) rfl rfl (by clear hq; revert c; decide +kernel) rfl rfl hq
  refine block 2 ?_ (fun h => by revert c; decide +kernel) fun h hq => drain2 20 21 (by decide +kernel) (by decide +kernel) rfl rfl (by clear hq; revert c; decide +kernel) rfl rfl hq
  refine block 2 ?_ (fun h => by revert c; decide +kernel) fun h hq => drain2 22 23 (by decide +kernel) (by decide +kernel) rfl rfl (by clear hq; revert c; decide +kernel) rfl rfl hq
  exact runs_pure _ (BI.Entails.refl _)

theorem win53 (v3 : BitVec 32) (v4 : BitVec 32) (v349 : BitVec 32) (c0_i32_228 : BitVec 32) :
    St A K c 175 ⊢ runs c (k0_part53 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v3 v4 v349 c0_i32_228) (fun _ => St A K c 187) := by
  rw [Gen.k0_part53_eq_skeleton]; unfold Gen.k0_part53_skel
  refine block 2 ?_ (fun h => by revert c; decide +kernel) fun h hq => drain2 24 25 (by decide +kernel) (by decide +kernel) rfl rfl (by clear hq; revert c; decide +kernel) rfl rfl hq
  refine block 2 ?_ (fun h => by revert c; decide +kernel) fun h hq => drain2 26 27 (by decide +kernel) (by decide +kernel) rfl rfl (by clear hq; revert c; decide +kernel) rfl rfl hq
  refine block 2 ?_ (fun h => by revert c; decide +kernel) fun h hq => drain2 28 29 (by decide +kernel) (by decide +kernel) rfl rfl (by clear hq; revert c; decide +kernel) rfl rfl hq
  refine block 2 ?_ (fun h => by revert c; decide +kernel) fun h hq => drain2 30 31 (by decide +kernel) (by decide +kernel) rfl rfl (by clear hq; revert c; decide +kernel) rfl rfl hq
  refine block 2 ?_ (fun h => by revert c; decide +kernel) fun h hq => drain2 32 33 (by decide +kernel) (by decide +kernel) rfl rfl (by clear hq; revert c; decide +kernel) rfl rfl hq
  refine block 2 ?_ (fun h => by revert c; decide +kernel) fun h hq => drain2 34 35 (by decide +kernel) (by decide +kernel) rfl rfl (by clear hq; revert c; decide +kernel) rfl rfl hq
  exact runs_pure _ (BI.Entails.refl _)

end Cert.KernelIdeal.AG
-- ==== Proof.Barrier.lean ====
/-
  The barrier at the start of the body: a device tells its neighbours that they may write its rows, and waits until they
  have told it the same. What it holds before, and that it then holds the state at the first place of the program.
-/
module

public import proofs.«01_k».proof.Proof.Walk

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ
local notation "ℙ" => Prog (TpuEff nD τ sig (Elt F) Λ₀ Proc.tc)

theorem arr_pos : ∀ k : Lane, 1 < 1 + arr k := by decide +kernel
theorem peers_are : ∀ c : D16, (Finset.univ.filter fun k : Lane => out k c = true).image (fun k => peer k c) = nbrs c := by decide +kernel
theorem senders_are : ∀ c : D16, (Finset.univ.filter fun k : Lane => inc k c = true).image (fun k => sender k c) = nbrs c := by decide +kernel
theorem inc_iff : ∀ (c d : D16) (k : Lane), (inc k c = true ∧ sender k c = d) ↔ (out k d = true ∧ peer k d = c) := by decide +kernel

/-! ## Before the barrier -/

/-- The sending side of lane k but for the right to write at the peer. -/
def snd0 (k : Lane) (c : Dev nD) : sProp 𝕄 :=
  if out k c = true then
    iprop(dutyTok ER (sCell k c) 0 0 ∗ dutyTok ER (rCell k (peer k c)) 0 0 ∗ atPos ER (sCell k c) 0 ∅ 0)
  else atPos ER (sCell k c) 0 ∅ 0

variable (A : Ops F) (K : GSem nD τ sig → ℕ)

/-- What does not change, the barrier's cell apart. -/
def Rest0 (c : Dev nD) : sProp 𝕄 :=
  iprop((∃ f, gP (F := F) c (rows (256 * c.val) 256) fullShare f) ∗ xKeep A c
    ∗ (((c : Thread nD τ).loc cc0_stg1_0) ↦{fullShare} A.Wt c)
    ∗ (((c : Thread nD τ).loc cc0_stg2_0) ↦{fullShare} A.sx c)
    ∗ (((c : Thread nD τ).loc cc0_stg3_0) ↦{fullShare} A.sw c)
    ∗ (∃ r, prngReg c r))

/-- The records of the barriers device c signals, and of its own. -/
def BInv (c : Dev nD) : sProp 𝕄 :=
  iprop((bigSep (nbrs c) fun d => iprop(cellInv ER (Rd A) (K (barCell d)) (barCell d) ∗ reached ER (barCell d) 0))
    ∗ cellInv ER (Rd A) (K (barCell c)) (barCell c))

instance BInv_persistent (c : Dev nD) : BI.Persistent (BInv A K c) := by unfold BInv; infer_instance

/-- What device c owes while the neighbours in S are not yet signalled. -/
def oweB (c : Dev nD) (S : Finset (Dev nD)) : CellTallies nD τ sig Unit := owe c (pend c 0) + ∑ d ∈ S, tallyAt (barCell d) () 1

/-- The units device c waits for. -/
def credB (c : Dev nD) : sProp 𝕄 :=
  iprop(cred (tallyAt (barCell c) () 3) ∗ (if upB c = true ∧ dnB c = true then cred (tallyAt (barCell c) () 1) else iprop(emp)))

/-- What device c holds besides, all through the barrier. -/
def Mid (c : Dev nD) : sProp 𝕄 :=
  iprop((bigSep Finset.univ fun k => snd0 k c) ∗ (bigSep Finset.univ fun k => shr A k c 0) ∗ (bigSep Finset.univ fun k => rcv A k c 0)
    ∗ outB A c 0 ∗ Rest0 A c)

/-- Device c with the neighbours in S not yet signalled. -/
def BarS (c : Dev nD) (S : Finset (Dev nD)) : sProp 𝕄 :=
  iprop(BInv A K c ∗ Inv A K c ∗ (∃ W, owes (c : Thread nD τ) (oweB c S) W)
    ∗ (bigSep S fun d => iprop(dutyTok ER (barCell d) 0 c ∗ barPay d c))
    ∗ credB c ∗ atPos ER (barCell c) 0 ∅ 0 ∗ Mid A c)

variable {A K} {c : Dev nD} {α : Type}

/-! ## The signals -/

theorem BInv_elim {d : Dev nD} (hd : d ∈ nbrs c) : BInv A K c ⊢ iprop(cellInv ER (Rd A) (K (barCell d)) (barCell d) ∗ reached ER (barCell d) 0) := by
  have h : (bigSep (nbrs c) fun d => iprop(cellInv ER (Rd A) (K (barCell d)) (barCell d) ∗ reached ER (barCell d) 0))
      ⊢ iprop(cellInv ER (Rd A) (K (barCell d)) (barCell d) ∗ reached ER (barCell d) 0) := bigSep_elim hd
  unfold BInv
  iintro ⟨H, -⟩
  iapply h; iexact H

theorem oweB_erase {d : Dev nD} {S : Finset (Dev nD)} (hd : d ∈ S) : oweB c S = oweB c (S.erase d) + tallyAt (barCell d) () 1 := by
  unfold oweB; rw [← Finset.sum_erase_add S _ hd, add_assoc]

/-- The signal to neighbour d. -/
theorem step_signal {Q : α → sProp 𝕄} {S : Finset (Dev nD)} (d : Dev nD) (hn : d ∈ nbrs c) (hS : d ∈ S) {d' : Dev nD} (hd : d' = d)
    {kt : PUnit → ℙ α} (next : BarS A K c (S.erase d) ⊢ runs c (kt ⟨⟩) Q) :
    BarS A K c S ⊢ runs c (semSignalWord d' barS 1#32 >>= kt) Q := by
  subst hd
  change _ ⊢ runs c (.op (.semSignal (d' : Thread nD τ) barS 1) kt) Q
  unfold BarS
  rw [oweB_erase hS, ← Finset.insert_erase hS, bigIns (Finset.notMem_erase d' S), Finset.erase_insert (Finset.notMem_erase d' S)]
  iintro ⟨#HB, #HI, ⟨%W, Ho⟩, ⟨⟨Ht, Hp⟩, HS⟩, HR⟩
  ihave ⟨#Hi, #Hr⟩ := (BInv_elim hn) $$ HB
  iapply (Rounds.wp_signal 𝒱₀ ER (Rd A) (c : Thread nD τ) none (dst := (d' : Thread nD τ)) (sem := barS) (r := 0) (d := c) (κ := K (barCell d'))
    (by rw [duties_bar]; exact (nbrs_symm c d').mp hn) (amount_bar A d' c 0) () (oweB c (S.erase d')) rfl) $$ [Ho Ht Hp]
  · isplitl []; · iexact Hi
    isplitl [Ho]; · iexact Ho
    isplitl [Ht]; · iexact Ht
    isplitl [Hp]; · rw [payload_bar]; iexact Hp
    iexact Hr
  iintro Ho
  iapply next
  unfold BarS
  isplitl []; · iexact HB
  isplitl []; · iexact HI
  isplitl [Ho]; · iexists W; iexact Ho
  isplitl [HS]; · iexact HS
  iexact HR

/-- The signal to a neighbour that is there on condition. -/
theorem step_signal_if {Q : α → sProp 𝕄} {S : Finset (Dev nD)} (d : Dev nD) {p : Prop} {_ : Decidable p} (hp : p → d ∈ nbrs c ∧ d ∈ S) (hnp : ¬ p → d ∉ S)
    {B : p → ℙ α} {q : ℙ α} (next : BarS A K c (S.erase d) ⊢ runs c q Q)
    (hB : ∀ h, (BarS A K c (S.erase d) ⊢ runs c q Q) → BarS A K c S ⊢ runs c (B h) Q) :
    BarS A K c S ⊢ runs c (if h : p then B h else q) Q := by
  by_cases h : p
  · rw [dif_pos h]; exact hB h next
  · rw [dif_neg h, ← Finset.erase_eq_of_notMem (hnp h)]; exact next

/-! ## The waits -/

theorem snd_start (k : Lane) : snd (F := F) k c 0 = iprop(snd0 k c ∗ (if out k c = true then Dst k c else iprop(emp))) := by
  unfold snd snd0
  by_cases h : out k c = true
  · rw [if_pos h, if_pos h, if_pos h, if_pos (Nat.zero_le _)]; ac_rfl
  · rw [if_neg h, if_neg h, if_neg h, sepE]

/-- What the neighbours hand over is the right to write on every lane device c sends. -/
theorem pays_eq : (bigSep (nbrs c) fun d => barPay (F := F) c d) = bigSep Finset.univ fun k => (if out k c = true then Dst (F := F) k c else iprop(emp)) := by
  refine Eq.trans ?_ (bigSep_filter (p := fun k => out k c = true) Finset.univ _)
  rw [bigSep_fiberwise _ (fun k => peer k c), peers_are c]
  exact bigSep_congr fun d _ => by unfold barPay; rw [Finset.filter_filter]

/-- What a device hands its neighbours is the right to write the rows of every lane that arrives. -/
theorem gives_eq : (bigSep (nbrs c) fun d => barPay (F := F) d c) = bigSep Finset.univ fun k => (if inc k c = true then Dst (F := F) k (sender k c) else iprop(emp)) := by
  refine Eq.trans ?_ (bigSep_filter (p := fun k => inc k c = true) Finset.univ _)
  rw [bigSep_fiberwise _ (fun k => sender k c), senders_are c]
  refine bigSep_congr fun d _ => ?_
  unfold barPay
  rw [Finset.filter_filter, Finset.filter_congr fun k _ => inc_iff c d k]
  exact bigSep_congr fun k hk => by rw [((inc_iff c d k).mpr (Finset.mem_filter.mp hk).2).2]

/-- After the waits the device is at the first place of the program. -/
theorem after_wait {W : Waits sig Unit} :
    iprop(Inv A K c ∗ owes (c : Thread nD τ) (oweB c ∅) W ∗ atPos ER (barCell c) 1 ∅ 0 ∗ (bigSep (nbrs c) fun d => barPay c d) ∗ Mid A c) ⊢ St A K c 0 := by
  unfold St Mid Rest Rest0 oweB
  rw [pays_eq, Finset.sum_empty, add_zero, bigSep_congr (fun k _ => snd_start k), bigSep_sep']
  iintro ⟨#HI, Ho, Hat, Hp, Hs, Hsh, Hr, Hout, Hg, Hx, Hw, Hsx, Hsw, Hreg⟩
  isplitl []; · iexact HI
  isplitl [Ho]; · iexists W; iexact Ho
  isplitl [Hs Hp]; · isplitl [Hs] <;> iassumption
  isplitl [Hsh]; · iexact Hsh
  isplitl [Hr]; · iexact Hr
  isplitl [Hout]; · iexact Hout
  isplitl [Hg]; · iexact Hg
  isplitl [Hx]; · iexact Hx
  isplitl [Hw]; · iexact Hw
  isplitl [Hsx]; · iexact Hsx
  isplitl [Hsw]; · iexact Hsw
  isplitl [Hreg]; · iexact Hreg
  iexact Hat

theorem may_bar : (Inv A K c) ⊢ MayWait (c : Thread nD τ) (.reg barS) () (oweB c ∅) := by
  unfold Inv oweB
  rw [Finset.sum_empty, add_zero]
  iintro ⟨-, H⟩
  iapply (mayWait c (.reg barS) (pend c 0) fun k _ => arr_pos k); iexact H

/-- The wait of a device with three neighbours. -/
theorem wait_three {Q : α → sProp 𝕄} (h : ¬ (upB c = true ∧ dnB c = true)) {kt : PUnit → ℙ α} (next : St A K c 0 ⊢ runs c (kt ⟨⟩) Q) :
    BarS A K c ∅ ⊢ runs c (semWaitWord barS 3#32 >>= kt) Q := by
  change _ ⊢ runs c (.op (.semWait barS 3) kt) Q
  unfold BarS credB BInv
  rw [if_neg h]
  iintro ⟨⟨-, #Hi⟩, #HI, ⟨%W, Ho⟩, -, ⟨Hc, -⟩, Hat, HM⟩
  iapply (Rounds.wp_wait_rest_token 𝒱₀ ER (Rd A) (c : Thread nD τ) none (κ := K (barCell c))
      (wpE_semWait_eq 𝒱₀ (c : Thread nD τ) none Set.univ) (Set.mem_univ _) () (O := oweB c ∅) (W := W) (R := 0) (m := 0) (T := ∅)
      (by rw [expect_bar, nbrs_card, if_neg h])) $$ [Hc Ho Hat]
  · isplitl []; · iexact Hi
    isplitl [Hc]; · iexact Hc
    isplitl [Ho]; · iexact Ho
    isplitl []; · iapply may_bar; iexact HI
    iexact Hat
  iintro ⟨Ho, Hat, -, Hp⟩
  iapply next
  iapply after_wait
  isplitl []; · iexact HI
  isplitl [Ho]; · iexact Ho
  isplitl [Hat]; · iexact Hat
  isplitl [Hp]; · rw [Finset.sdiff_empty, duties_bar]; iexact Hp
  iexact HM

/-- The two waits of a device with four neighbours. -/
theorem wait_four {Q : α → sProp 𝕄} (h : upB c = true ∧ dnB c = true) {kt : PUnit → ℙ α} (next : St A K c 0 ⊢ runs c (kt ⟨⟩) Q) :
    BarS A K c ∅ ⊢ runs c (semWaitWord barS 3#32 >>= fun _ => semWaitWord barS 1#32 >>= kt) Q := by
  change _ ⊢ runs c (.op (.semWait barS 3) fun _ => .op (.semWait barS 1) kt) Q
  unfold BarS credB BInv
  rw [if_pos h]
  iintro ⟨⟨-, #Hi⟩, #HI, ⟨%W, Ho⟩, -, ⟨Hc, Hc1⟩, Hat, HM⟩
  iapply (Rounds.wp_wait 𝒱₀ ER (Rd A) (c : Thread nD τ) none (κ := K (barCell c))
      (wpE_semWait_eq 𝒱₀ (c : Thread nD τ) none Set.univ) (Set.mem_univ _) (cr := Finsupp.single () 3) (O := oweB c ∅) (W := W) {(SemLoc.reg barS, ())} (R := 0) (m := 0) (T := ∅)
      (Util.total_single () 3) (image_single_subset (SemLoc.reg barS) () 3)) $$ [Hc Ho Hat]
  · isplitl []; · iexact Hi
    isplitl [Hc]; · iexact Hc
    isplitl [Ho]; · iexact Ho
    isplitl []; · iapply may_bar; iexact HI
    iexact Hat
  iintro %S ⟨%hS, Ho, Hat, Hp⟩
  iapply (Rounds.wp_wait_rest_token 𝒱₀ ER (Rd A) (c : Thread nD τ) none (κ := K (barCell c))
      (wpE_semWait_eq 𝒱₀ (c : Thread nD τ) none Set.univ) (Set.mem_univ _) () (O := oweB c ∅) (R := 0) (m := 0 + 3) (T := S)
      (by rw [expect_bar, nbrs_card, if_pos h])) $$ [Hc1 Ho Hat]
  · isplitl []; · iexact Hi
    isplitl [Hc1]; · iexact Hc1
    isplitl [Ho]; · iexact Ho
    isplitl []; · iapply may_bar; iexact HI
    iexact Hat
  iintro ⟨Ho, Hat, -, Hp'⟩
  iapply next
  iapply after_wait
  isplitl []; · iexact HI
  isplitl [Ho]; · iexact Ho
  isplitl [Hat]; · iexact Hat
  isplitl [Hp Hp']
  · have e : (bigSep (nbrs c) fun d => barPay (F := F) c d)
        = iprop(bigSep (S \ ∅) (fun d => (Rd A).payload (barCell c) 0 d) ∗ bigSep ((Rd A).duties (barCell c) 0 \ S) (fun d => (Rd A).payload (barCell c) 0 d)) := by
      rw [Finset.sdiff_empty, duties_bar, ← bigUnion Finset.disjoint_sdiff, Finset.union_sdiff_of_subset (by rw [← duties_bar A c]; exact hS.2.1)]
      rfl
    rw [e]
    isplitl [Hp] <;> iassumption
  iexact HM

/-- The waits, the second on condition. -/
theorem waits {Q : α → sProp 𝕄} {p : Prop} {_ : Decidable p} (hp : p ↔ upB c = true ∧ dnB c = true) {q : ℙ α} (next : St A K c 0 ⊢ runs c q Q) :
    BarS A K c ∅ ⊢ runs c (semWaitWord barS 3#32 >>= fun _ => if _ : p then semWaitWord barS 1#32 >>= fun _ => q else q) Q := by
  by_cases h : p
  · simp only [dif_pos h]; exact wait_four (hp.mp h) next
  · simp only [dif_neg h]; exact wait_three (fun h' => h (hp.mpr h')) next

/-! ## The scales -/

theorem one_idx : ∀ i j : S1x1.Idx, i = j := by decide

theorem load_sx {Q : α → sProp 𝕄} {t : ℕ} {h₁ h₂} {kt : F .f32 → ℙ α} (next : St A K c t ⊢ runs c (kt (A.sx c i11)) Q) :
    St A K c t ⊢ runs c (smemLoad sxM (Rect.unit (s := S1x1) ![0, 0] S1x1.size Gen.inb_S1x1_S1x1_0_0) h₁ h₂ >>= kt) Q := by
  obtain ⟨R, e⟩ := St_sx A K (c := c) (t := t)
  rw [e] at next ⊢
  change _ ⊢ runs c (smemLoadElt sxM (Rect.unit (s := S1x1) ![0, 0] S1x1.size Gen.inb_S1x1_S1x1_0_0) (View.loads_smem_one h₂ h₁) (Shape.Idx.first (h₁.symm ▸ Nat.one_pos)) kt) Q
  iintro ⟨H, HR⟩
  iapply (wp_smemLoadElt 𝒱₀ (c : Thread nD τ) none Set.univ (m := sxM) (r := Rect.unit (s := S1x1) ![0, 0] S1x1.size Gen.inb_S1x1_S1x1_0_0)
    (x := Shape.Idx.first (h₁.symm ▸ Nat.one_pos)) (S := Finset.univ) (q := fullShare) (f := A.sx c) (Finset.subset_univ _)) $$ H
  iintro H
  rw [show (sxM.access (Rect.unit (s := S1x1) ![0, 0] S1x1.size Gen.inb_S1x1_S1x1_0_0)).read (Elt F) (A.sx c) (Shape.Idx.first (h₁.symm ▸ Nat.one_pos)) = A.sx c i11
    from congrArg (A.sx c) (one_idx _ _)]
  iapply next
  isplitl [H] <;> iassumption

theorem load_sw {Q : α → sProp 𝕄} {t : ℕ} {h₁ h₂} {kt : F .f32 → ℙ α} (next : St A K c t ⊢ runs c (kt (A.sw c i11)) Q) :
    St A K c t ⊢ runs c (smemLoad swM (Rect.unit (s := S1x1) ![0, 0] S1x1.size Gen.inb_S1x1_S1x1_0_0) h₁ h₂ >>= kt) Q := by
  obtain ⟨R, e⟩ := St_sw A K (c := c) (t := t)
  rw [e] at next ⊢
  change _ ⊢ runs c (smemLoadElt swM (Rect.unit (s := S1x1) ![0, 0] S1x1.size Gen.inb_S1x1_S1x1_0_0) (View.loads_smem_one h₂ h₁) (Shape.Idx.first (h₁.symm ▸ Nat.one_pos)) kt) Q
  iintro ⟨H, HR⟩
  iapply (wp_smemLoadElt 𝒱₀ (c : Thread nD τ) none Set.univ (m := swM) (r := Rect.unit (s := S1x1) ![0, 0] S1x1.size Gen.inb_S1x1_S1x1_0_0)
    (x := Shape.Idx.first (h₁.symm ▸ Nat.one_pos)) (S := Finset.univ) (q := fullShare) (f := A.sw c) (Finset.subset_univ _)) $$ H
  iintro H
  rw [show (swM.access (Rect.unit (s := S1x1) ![0, 0] S1x1.size Gen.inb_S1x1_S1x1_0_0)).read (Elt F) (A.sw c) (Shape.Idx.first (h₁.symm ▸ Nat.one_pos)) = A.sw c i11
    from congrArg (A.sw c) (one_idx _ _)]
  iapply next
  isplitl [H] <;> iassumption

end Cert.KernelIdeal.AG

end
-- ==== Proof.Start.lean ====
/-
  The body's first two windows: the barrier, then the first sends.
-/
module

public import proofs.«01_k».proof.Proof.Barrier

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]
variable {A : Ops F} {K : GSem nD τ sig → ℕ} {c : Dev nD}

attribute [local irreducible] k0_cond1 k0_cond2 k0_cond4 k0_cond5

theorem step_id {α : Type} {P : sProp (MT nD τ sig Unit (Elt F) ℕ UU ℕ)} {Q : α → sProp (MT nD τ sig Unit (Elt F) ℕ UU ℕ)}
    {kt : Dev nD → Prog (TpuEff nD τ sig (Elt F) Λ₀ Proc.tc) α} (next : P ⊢ runs c (kt c) Q) :
    P ⊢ runs c (Prog.lift .deviceId >>= kt) Q := by
  change P ⊢ wp frame (wpE (defs₀ (F := F)) 𝒱₀ (c : Thread nD τ) none) Set.univ (.op .deviceId kt) Q
  rw [wp_deviceId]; exact next

/-- What the first window returns: the device, whether it has a plane above and one below, and the barrier. -/
def Ret (c d : Dev nD) (a b : BitVec 1) (s : Sems sig S_) : Prop :=
  d = c ∧ ((Scalar.cmpi .ne (Scalar.extui (Scalar.andi a b) : BitVec 32) 0#32 = 1#1) ↔ (upB c = true ∧ dnB c = true)) ∧ s = SemArray.scalar (sig.barrier 0 rfl)

theorem ret_words : ∀ c : Dev nD, (Scalar.cmpi .ne (Scalar.extui (Scalar.andi
      (Scalar.cmpi .slt (Scalar.divsi (Scalar.remsi (Scalar.divsi (Dev.word c) 1#32) 16#32) 4#32) 3#32)
      (Scalar.cmpi .sgt (Scalar.divsi (Scalar.remsi (Scalar.divsi (Dev.word c) 1#32) 16#32) 4#32) 0#32)) : BitVec 32) 0#32 = 1#1)
    ↔ (upB c = true ∧ dnB c = true) := by decide +kernel

theorem win42 :
    BarS A K c (nbrs c) ⊢ runs c (k0_part42 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8)
      (fun r => iprop(⌜Ret c r.1 r.2.2.2.2.2.2.2.2.1 r.2.2.2.2.2.2.2.2.2.1 r.2.2.2.2.2.2.2.2.2.2⌝ ∗ BarS A K c ∅)) := by
  rw [Gen.k0_part42_eq_skeleton]; unfold Gen.k0_part42_skel
  refine step_id ?_
  refine step_signal (nxt c) (by revert c; decide +kernel) (by revert c; decide +kernel) (Fin.ext (by revert c; decide +kernel)) ?_
  refine step_signal (prv c) (by revert c; decide +kernel) (by revert c; decide +kernel) (Fin.ext (by revert c; decide +kernel)) ?_
  refine step_signal_if (up c) (by revert c; decide +kernel) (by revert c; decide +kernel) ?_ fun h hq => step_signal (up c) (by clear hq; revert c; decide +kernel) (by clear hq; revert c; decide +kernel) (Fin.ext (by clear hq; revert c; decide +kernel)) hq
  refine step_signal_if (dn c) (by revert c; decide +kernel) (by revert c; decide +kernel) ?_ fun h hq => step_signal (dn c) (by clear hq; revert c; decide +kernel) (by clear hq; revert c; decide +kernel) (Fin.ext (by clear hq; revert c; decide +kernel)) hq
  have e : ((((nbrs c).erase (nxt c)).erase (prv c)).erase (up c)).erase (dn c) = ∅ := by revert c; decide +kernel
  rw [e]
  refine runs_pure _ ?_
  iintro H
  isplitl []; · ipureintro; exact ⟨rfl, ret_words c, rfl⟩
  iexact H

theorem win43 (v2 : BitVec 32) (v3 : BitVec 32) (v4 : BitVec 32) (v8 : BitVec 32) (v12 : BitVec 32) (v14 : BitVec 32) (v17 : BitVec 32) (v18 : BitVec 1) (v19 : BitVec 1)
    (hv : (Scalar.cmpi .ne (Scalar.extui (Scalar.andi v18 v19) : BitVec 32) 0#32 = 1#1) ↔ (upB c = true ∧ dnB c = true)) :
    BarS A K c ∅ ⊢ runs c (k0_part43 xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8
      c v2 v3 v4 v8 v12 v14 v17 v18 v19 (SemArray.scalar (sig.barrier 0 rfl))) (fun r => iprop(⌜r = scl A c⌝ ∗ St A K c 3)) := by
  rw [Gen.k0_part43_eq_skeleton]; unfold Gen.k0_part43_skel
  refine waits hv ?_
  refine load_sx (load_sw ?_)
  refine block 1 ?_ (fun h => by clear hv; revert c; decide +kernel) fun h hq => send_x 42 (by decide +kernel) rfl (by clear hq hv; revert c; decide +kernel) (by clear hq hv; revert c; decide +kernel) rfl rfl (Fin.ext (by clear hq hv; revert c; decide +kernel)) rfl rfl hq
  refine block 1 ?_ (fun h => by clear hv; revert c; decide +kernel) fun h hq => send_x 43 (by decide +kernel) rfl (by clear hq hv; revert c; decide +kernel) (by clear hq hv; revert c; decide +kernel) rfl rfl (Fin.ext (by clear hq hv; revert c; decide +kernel)) rfl rfl hq
  refine send_x 0 (by decide +kernel) rfl (by clear hv; revert c; decide +kernel) (by clear hv; revert c; decide +kernel) rfl rfl (Fin.ext (by clear hv; revert c; decide +kernel)) rfl rfl ?_
  refine runs_pure _ ?_
  iintro H
  isplitl []; · ipureintro; rfl
  iexact H

end Cert.KernelIdeal.AG

end
-- ==== Proof.Body.lean ====
/-
  The whole body: from the barrier to the last wait.
-/
module

public import proofs.«01_k».proof.Proof.Windows
public import proofs.«01_k».proof.Proof.Start

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]
variable {A : Ops F} {K : GSem nD τ sig → ℕ} {c : Dev nD}

local notation "𝕄" => MT nD τ sig Unit (Elt F) ℕ UU ℕ

attribute [local irreducible] k0_cond67 k0_cond68 k0_cond69

theorem pure_out {φ : Prop} {P Q : sProp 𝕄} (h : φ → (P ⊢ Q)) : iprop(⌜φ⌝ ∗ P) ⊢ Q := by
  iintro ⟨%hφ, H⟩
  iapply (h hφ); iexact H

set_option maxHeartbeats 1000000 in
/-- The body takes a device from the barrier to the end of the program. -/
theorem body_run :
    BarS A K c (nbrs c) ⊢ runs c (cc0_body xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8)
      (fun _ => St A K c endTime) := by
  rw [Gen.cc0_body_eq_skeleton]; unfold Gen.cc0_body_skel
  refine runs_bind _ win42 ?_
  rintro ⟨d0, v2, v3, v4, v8, v12, v14, v17, v18, v19, v20⟩
  refine pure_out fun hr => ?_
  obtain ⟨h1, h2, h3⟩ := hr
  dsimp only at h1 h2 h3
  subst h1 h3
  refine runs_bind _ (win43 v2 v3 v4 v8 v12 v14 v17 v18 v19 h2) fun v34 => pure_out fun hv => ?_
  subst hv
  refine runs_bind _ (win44 v2 v3 v4 v8 v12 v14 v17 v18 v19) fun _ => ?_
  refine runs_bind _ (win45 v3 v4 v8 v12 v14 v17 v18 v19) ?_
  rintro ⟨v119, v120⟩
  refine runs_bind _ (win46 v3 v4 v8 v12 v14 v17 v119 v120) fun _ => ?_
  refine runs_bind _ (win47 v3 v4 v8 v12) ?_
  rintro ⟨v183, v184, c3⟩
  refine runs_bind _ (win48 v3 v4 v8 v12 v183 v184 c3) fun _ => ?_
  refine runs_bind _ (win49 v3 v4 v8 v12 v18 v19) fun v251 => ?_
  refine runs_bind _ (win50 v3 v4 v18 v19 v251) fun _ => ?_
  refine runs_bind _ (win51 v3 v4) ?_
  rintro ⟨v315, v316⟩
  refine runs_bind _ (win52 v3 v4 v315 v316) ?_
  rintro ⟨v349, c0⟩
  refine runs_bind _ (win53 v3 v4 v349 c0) ?_
  rintro ⟨v381, c0'⟩
  clear h2
  refine block 2 ?_ (fun h => by revert d0; decide +kernel) fun h hq => drain2 36 37 (by decide +kernel) (by decide +kernel) rfl rfl (by clear hq; revert d0; decide +kernel) rfl rfl hq
  refine block 2 ?_ (fun h => by revert d0; decide +kernel) fun h hq => drain2 38 39 (by decide +kernel) (by decide +kernel) rfl rfl (by clear hq; revert d0; decide +kernel) rfl rfl hq
  refine block 2 ?_ (fun h => by revert d0; decide +kernel) fun h hq => drain2 40 41 (by decide +kernel) (by decide +kernel) rfl rfl (by clear hq; revert d0; decide +kernel) rfl rfl hq
  exact runs_pure _ (BI.Entails.refl _)

theorem runs_frame {α : Type} {p : Prog (TpuEff nD τ sig (Elt F) Λ₀ Proc.tc) α} {Q : α → sProp 𝕄} {R : sProp 𝕄} :
    iprop(R ∗ runs c p Q) ⊢ runs c p (fun a => iprop(R ∗ Q a)) := by
  unfold runs
  exact wp_frame_l frame (wpE (defs₀ (F := F)) 𝒱₀ (c : Thread nD τ) none) Set.univ

/-- The records of the barriers stay. -/
theorem body_run' :
    BarS A K c (nbrs c) ⊢ runs c (cc0_body xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8)
      (fun _ => iprop(BInv A K c ∗ St A K c endTime)) := by
  have h : BarS A K c (nbrs c) ⊢ iprop(BInv A K c ∗ BarS A K c (nbrs c)) := by
    unfold BarS
    iintro ⟨#HB, H⟩
    isplitl []; · iexact HB
    isplitl []; · iexact HB
    iexact H
  refine (h.trans (BI.sep_mono (BI.Entails.refl _) body_run)).trans ?_
  exact runs_frame

end Cert.KernelIdeal.AG

end
-- ==== Proof.Ends.lean ====
/-
  A device's buffers as the shares and rows the lanes use, at the start and at the end of the body.
-/
module

public import proofs.«01_k».proof.Proof.Barrier

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

/-! ## The gathered operand's buffer -/

/-- The elements in S of device c's buffer, whatever they hold. -/
def gE (c : Dev nD) (S : Finset S4096x4096.Idx) : sProp 𝕄 := iprop(∃ f, gP (F := F) c S fullShare f)

theorem gE_union (c : Dev nD) {S T : Finset S4096x4096.Idx} (h : Disjoint S T) : gE (F := F) c (S ∪ T) = iprop(gE c S ∗ gE c T) := by
  unfold gE gP
  refine BI.Entails.antisymm ?_ ?_
  · show (_ : sProp 𝕄) ⊢ _
    iintro ⟨%f, H⟩
    ihave ⟨H1, H2⟩ := (pointsTo_union h).1 $$ H
    isplitl [H1]
    · iexists f; iexact H1
    · iexists f; iexact H2
  · show (_ : sProp 𝕄) ⊢ _
    iintro ⟨⟨%f, H1⟩, ⟨%g, H2⟩⟩
    iexists (fun i => if i ∈ S then f i else g i)
    iapply (pointsTo_union h).2
    isplitl [H1]
    · iapply (Entails.of_eq (pointsTo_congr (ℓ := (c : Thread nD τ).loc cc0_scratch0) (I := S) (q := fullShare) (f := f) (g := fun i => if i ∈ S then f i else g i) fun i hi => by rw [if_pos hi])); iexact H1
    · iapply (Entails.of_eq (pointsTo_congr (ℓ := (c : Thread nD τ).loc cc0_scratch0) (I := T) (q := fullShare) (f := g) (g := fun i => if i ∈ S then f i else g i) fun i hi => by
        rw [if_neg fun hs => (Finset.disjoint_left.mp h hs hi)])); iexact H2

theorem gE_empty (A : Ops F) (c : Dev nD) : gE (F := F) c ∅ = iprop(emp) := by
  unfold gE gP
  refine BI.Entails.antisymm ?_ ?_
  · show (_ : sProp 𝕄) ⊢ _
    iintro -; iempintro
  · show (_ : sProp 𝕄) ⊢ _
    iintro -
    iexists GA A
    iapply (Entails.of_eq (pointsTo_empty (ℓ := (c : Thread nD τ).loc cc0_scratch0) (q := fullShare) (f := GA A)).symm); iempintro

theorem gE_lanes (A : Ops F) (c : Dev nD) (P : Finset Lane) (h : ∀ k ∈ P, inc k c = true) :
    gE (F := F) c (P.biUnion fun k => rows (rrow k c) (nr k)) = bigSep P fun k => gE c (rows (rrow k c) (nr k)) := by
  induction P using Finset.induction_on with
  | empty => rw [Finset.biUnion_empty, gE_empty A, bigNone]
  | insert k P hk ih =>
    rw [Finset.biUnion_insert, gE_union, bigIns hk, ih fun j hj => h j (Finset.mem_insert_of_mem hj)]
    rw [Finset.disjoint_biUnion_right]
    intro j hj
    exact rows_disjoint (rows_apart c k j (h k (Finset.mem_insert_self _ _)) (h j (Finset.mem_insert_of_mem hj)) fun e => hk (e ▸ hj))

theorem g_cover (c : Dev nD) : (Finset.univ : Finset S4096x4096.Idx)
    = rows (256 * c.val) 256 ∪ (Finset.univ.filter fun k : Lane => inc k c = true).biUnion fun k => rows (rrow k c) (nr k) := by
  ext i
  refine ⟨fun _ => ?_, fun _ => Finset.mem_univ _⟩
  have hi : (i 0).val < 4096 := (i 0).isLt
  rw [Finset.mem_union, mem_rows, Finset.mem_biUnion]
  rcases rows_cover c ⟨(i 0).val / 128, by omega⟩ with h | ⟨k, hk, h1, h2⟩
  · left; dsimp only at h; omega
  · right
    refine ⟨k, Finset.mem_filter.mpr ⟨Finset.mem_univ _, hk⟩, ?_⟩
    rw [mem_rows]; dsimp only at h1 h2; omega

/-- The whole buffer is the device's own rows and those that arrive on the lanes. -/
theorem g_whole (A : Ops F) (c : Dev nD) : gE (F := F) c Finset.univ
    = iprop(gE c (rows (256 * c.val) 256) ∗ bigSep Finset.univ fun k => if inc k c = true then gE c (rows (rrow k c) (nr k)) else iprop(emp)) := by
  rw [g_cover c, gE_union, gE_lanes A c _ fun k hk => (Finset.mem_filter.mp hk).2]
  · exact congrArg _ (bigSep_filter (p := fun k => inc k c = true) Finset.univ _)
  · rw [Finset.disjoint_biUnion_right]
    intro k hk
    exact rows_disjoint (rows_apart_own c k (Finset.mem_filter.mp hk).2)

variable (A : Ops F)

/-! ## The device's own block -/

theorem roots_out : ∀ c : D16, (Finset.univ.filter fun k : Lane => out k c = true ∧ parent k = none)
    = {0, 1} ∪ ((if out 42 c = true then {42} else ∅) ∪ (if out 43 c = true then {43} else ∅)) := by decide +kernel

theorem roots_apart : ∀ c : D16, Disjoint ({0, 1} : Finset Lane) ((if out 42 c = true then {42} else ∅) ∪ (if out 43 c = true then {43} else ∅))
    ∧ Disjoint (if out 42 c = true then ({42} : Finset Lane) else ∅) (if out 43 c = true then {43} else ∅) := by decide +kernel

theorem x_whole (c : Dev nD) : xP c Finset.univ fullShare (A.X c)
    = iprop(xKeep A c ∗ bigSep (Finset.univ.filter fun k : Lane => out k c = true ∧ parent k = none) fun k => Src A k c) := by
  have e : xP c Finset.univ fullShare (A.X c) = iprop(xP c (rows 0 256) qll (A.X c) ∗ xP c (rows 0 256) (xq 42) (A.X c) ∗ xP c (rows 0 256) (xq 43) (A.X c)
      ∗ xP c (rows 0 128) (xq 0) (A.X c) ∗ xP c (rows 128 128) (xq 1) (A.X c)) := by
    rw [← rows_all]
    have h1 : xP c (rows 0 256) fullShare (A.X c) = iprop(xP c (rows 0 256) fullShare.left (A.X c) ∗ xP c (rows 0 256) qr (A.X c)) := share_split _ _ _
    have h2 : xP c (rows 0 256) fullShare.left (A.X c) = iprop(xP c (rows 0 256) qll (A.X c) ∗ xP c (rows 0 256) qlr (A.X c)) := share_split _ _ _
    have h3 : xP c (rows 0 256) qlr (A.X c) = iprop(xP c (rows 0 256) (xq 42) (A.X c) ∗ xP c (rows 0 256) (xq 43) (A.X c)) := share_split _ _ _
    have h4 : xP c (rows 0 256) qr (A.X c) = iprop(xP c (rows 0 128) (xq 0) (A.X c) ∗ xP c (rows 128 128) (xq 1) (A.X c)) := x_split c (r := 0) (n := 256) (n' := 128) (by decide) _ _
    rw [h1, h2, h3, h4]; ac_rfl
  have s0 : Src A 0 c = xP c (rows 0 128) (xq 0) (A.X c) := Src_root A (by decide +kernel)
  have s1 : Src A 1 c = xP c (rows 128 128) (xq 1) (A.X c) := Src_root A (by decide +kernel)
  have s42 : Src A 42 c = xP c (rows 0 256) (xq 42) (A.X c) := Src_root A (by decide +kernel)
  have s43 : Src A 43 c = xP c (rows 0 256) (xq 43) (A.X c) := Src_root A (by decide +kernel)
  have p0 : bigSep ({0, 1} : Finset Lane) (fun k => Src A k c) = iprop(Src A 0 c ∗ Src A 1 c) := by
    rw [bigIns (by decide), bigSep_singleton]
  have p42 : iprop((if out 42 c = true then iprop(emp) else xP c (rows 0 256) (xq 42) (A.X c)) ∗ bigSep (if out 42 c = true then {42} else (∅ : Finset Lane)) fun k => Src A k c)
      = xP c (rows 0 256) (xq 42) (A.X c) := by
    by_cases h : out 42 c = true
    · rw [if_pos h, if_pos h, eSep, bigSep_singleton, s42]
    · rw [if_neg h, if_neg h, bigNone, sepE]
  have p43 : iprop((if out 43 c = true then iprop(emp) else xP c (rows 0 256) (xq 43) (A.X c)) ∗ bigSep (if out 43 c = true then {43} else (∅ : Finset Lane)) fun k => Src A k c)
      = xP c (rows 0 256) (xq 43) (A.X c) := by
    by_cases h : out 43 c = true
    · rw [if_pos h, if_pos h, eSep, bigSep_singleton, s43]
    · rw [if_neg h, if_neg h, bigNone, sepE]
  rw [roots_out c, bigUnion (roots_apart c).1, bigUnion (roots_apart c).2, p0, e, ← p42, ← p43, s0, s1]
  unfold xKeep; ac_rfl

/-! ## The shares the lanes read -/

/-- At the start a device has of the lanes' shares those of its own block. -/
theorem shr_start (c : Dev nD) : (bigSep Finset.univ fun k => shr A k c 0)
    = bigSep (Finset.univ.filter fun k : Lane => out k c = true ∧ parent k = none) fun k => Src A k c := by
  rw [bigSep_filter]
  refine bigSep_congr fun k _ => ?_
  unfold shr
  have h : (out k c = true ∧ avail k 0 ∧ (0 ≤ sendTime k ∨ drainTime k < 0)) ↔ (out k c = true ∧ parent k = none) := by
    refine ⟨fun h => ⟨h.1, ?_⟩, fun h => ⟨h.1, (fun j hj => by rw [h.2] at hj; cases hj), Or.inl (Nat.zero_le _)⟩⟩
    cases e : parent k with
    | none => rfl
    | some j => exact absurd (h.2.1 j e) (Nat.not_lt_zero _)
  exact if_congr h rfl rfl

theorem outs_are : ∀ c : D16, (Finset.univ.filter fun k : Lane => out k c = true)
    = (Finset.univ.filter fun k : Lane => out k c = true ∧ parent k = none) ∪ (Finset.univ.filter fun k : Lane => inc k c = true).biUnion fun j => kids j c := by
  decide +kernel
theorem outs_apart : ∀ c : D16, Disjoint (Finset.univ.filter fun k : Lane => out k c = true ∧ parent k = none)
    ((Finset.univ.filter fun k : Lane => inc k c = true).biUnion fun j => kids j c) := by
  decide +kernel

theorem shr_end (c : Dev nD) : (bigSep Finset.univ fun k => shr A k c endTime)
    = iprop((bigSep (Finset.univ.filter fun k : Lane => out k c = true ∧ parent k = none) fun k => Src A k c)
      ∗ bigSep Finset.univ fun j => if inc j c = true then bigSep (kids j c) (fun k => Src A k c) else iprop(emp)) := by
  have h : ∀ k : Lane, shr A k c endTime = if out k c = true then Src A k c else iprop(emp) := fun k => by
    unfold shr
    refine if_congr ⟨fun h => h.1, fun h => ⟨h, fun j _ => lt_trans (times_lt_drain j j).2.1 (times_lt_end j), Or.inr (times_lt_end k)⟩⟩ rfl rfl
  rw [bigSep_congr fun k _ => h k]
  refine (bigSep_filter (p := fun k => out k c = true) Finset.univ _).symm.trans ?_
  rw [outs_are c, bigUnion (outs_apart c), bigSep_biUnion_eq]
  · exact congrArg _ (bigSep_filter (p := fun k => inc k c = true) Finset.univ _)
  · intro j _ j' _ hne
    unfold kids
    rw [Finset.disjoint_filter]
    rintro k _ ⟨h1, _⟩ ⟨h2, _⟩
    exact hne (Option.some.inj (h1.symm.trans h2))

/-- What arrived, put back together. -/
theorem got_all (c : Dev nD) :
    iprop((bigSep Finset.univ fun k => if inc k c = true then Keep A k c else iprop(emp))
      ∗ bigSep Finset.univ fun j => if inc j c = true then bigSep (kids j c) (fun k => Src A k c) else iprop(emp))
    ⊢ bigSep Finset.univ fun k => if inc k c = true then gE (F := F) c (rows (rrow k c) (nr k)) else iprop(emp) := by
  rw [← bigSep_sep']
  refine bigSep_mono fun k _ => ?_
  by_cases h : inc k c = true
  · rw [if_pos h, if_pos h, if_pos h, ← Got_split A k c h]
    unfold Got gE
    show (_ : sProp 𝕄) ⊢ _
    iintro H; iexists _; iexact H
  · rw [if_neg h, if_neg h, if_neg h, eSep]; exact BI.Entails.refl _

end Cert.KernelIdeal.AG

end
-- ==== Proof.Finish.lean ====
/-
  The body with its cells opened before it and closed after it: from what a device has when the kernel is entered to what it
  has when the kernel returns.
-/
module

public import proofs.«01_k».proof.Proof.Body
public import proofs.«01_k».proof.Proof.Ends

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

variable (A : Ops F) (K : GSem nD τ sig → ℕ) (c : Dev nD)

/-- The kernel's operands on device c. -/
def Bufs : sProp 𝕄 :=
  iprop(xP c Finset.univ fullShare (A.X c) ∗ (((c : Thread nD τ).loc cc0_stg1_0) ↦{fullShare} A.Wt c)
    ∗ (((c : Thread nD τ).loc cc0_stg2_0) ↦{fullShare} A.sx c) ∗ (((c : Thread nD τ).loc cc0_stg3_0) ↦{fullShare} A.sw c))

/-- What waits on a lane's arrivals costs. -/
def credR (k : Lane) : sProp 𝕄 := if inc k c = true then cred (tallyAt (rCell k c) () (amt k)) else iprop(emp)

/-- The ghost state with which device c enters the kernel, its cells open. -/
def Opened : sProp 𝕄 :=
  iprop(BInv A K c ∗ Inv A K c ∗ (bigSep (nbrs c) fun d => dutyTok ER (barCell d) 0 c) ∗ credB c ∗ atPos ER (barCell c) 0 ∅ 0
    ∗ (bigSep Finset.univ fun k => snd0 k c) ∗ (bigSep Finset.univ fun k => credR c k)
    ∗ (bigSep Finset.univ fun k => atPos ER (rCell k c) 0 ∅ 0) ∗ bigSep Finset.univ fun k => reached ER (rCell k c) 0)

/-- What device c has when the body begins. -/
def Begin : sProp 𝕄 :=
  iprop(Opened A K c ∗ (∃ W, owes (c : Thread nD τ) (oweB c (nbrs c)) W) ∗ Bufs A c ∗ gE c Finset.univ
    ∗ (∃ f : cc0_stg4_0.ty.Contents (Elt F), (((c : Thread nD τ).loc cc0_stg4_0) ↦{fullShare} f)) ∗ ∃ r, prngReg c r)

/-- What it has when the body returns. -/
def Final : sProp 𝕄 :=
  iprop(semVal (barCell c) 0 ∗ ((bigSep Finset.univ fun k => semVal (sCell k c) 0) ∗ bigSep Finset.univ fun k => semVal (rCell k c) 0)
    ∗ (∃ W, owes (c : Thread nD τ) (0 : CellTallies nD τ sig Unit) W) ∗ Bufs A c ∗ gE c Finset.univ
    ∗ (((c : Thread nD τ).loc cc0_stg4_0) ↦{fullShare} T A c) ∗ ∃ r, prngReg c r)

theorem rcv_start (k : Lane) : rcv A k c 0 = iprop(credR c k ∗ atPos ER (rCell k c) 0 ∅ 0) := by
  unfold rcv credR
  by_cases h : inc k c = true
  · rw [if_pos h, if_pos h, if_pos (Nat.zero_le _)]
  · rw [if_neg h, if_neg h, eSep]

theorem gives_start :
    iprop((bigSep Finset.univ fun k => reached ER (rCell k c) 0)
      ∗ bigSep Finset.univ fun k => if inc k c = true then gE (F := F) c (rows (rrow k c) (nr k)) else iprop(emp))
    ⊢ (bigSep (nbrs c) fun d => barPay (F := F) d c) := by
  rw [gives_eq, ← bigSep_sep']
  refine bigSep_mono fun k _ => ?_
  by_cases h : inc k c = true
  · rw [if_pos h, if_pos h]
    unfold Dst gE rrow
    rw [peer_sender]
    show (_ : sProp 𝕄) ⊢ _
    iintro ⟨H1, H2⟩
    isplitl [H2]; · iexact H2
    iexact H1
  · rw [if_neg h, if_neg h]
    show (_ : sProp 𝕄) ⊢ _
    iintro -; iempintro

theorem begin_bar : Begin A K c ⊢ BarS A K c (nbrs c) := by
  unfold Begin Opened Bufs BarS Mid Rest0
  rw [x_whole, g_whole A, shr_start, bigSep_congr (fun k _ => rcv_start A c k), bigSep_sep', bigSep_sep']
  iintro ⟨⟨HB, HI, Hd, Hc, Hat, Hs, Hcr, Hr, Hre⟩, Ho, ⟨⟨Hxk, Hxs⟩, Hw, Hsx, Hsw⟩, ⟨Hown, Hg⟩, ⟨%f, Hout⟩, Hp⟩
  isplitl [HB]; · iexact HB
  isplitl [HI]; · iexact HI
  isplitl [Ho]; · iexact Ho
  isplitl [Hd Hre Hg]
  · isplitl [Hd]; · iexact Hd
    iapply (gives_start c)
    isplitl [Hre]; · iexact Hre
    iexact Hg
  isplitl [Hc]; · iexact Hc
  isplitl [Hat]; · iexact Hat
  isplitl [Hs]; · iexact Hs
  isplitl [Hxs]; · iexact Hxs
  isplitl [Hcr Hr]
  · isplitl [Hcr]; · iexact Hcr
    iexact Hr
  isplitl [Hout]
  · unfold outB
    iexists f
    isplitl []
    · ipureintro
      intro i hi
      rcases hi with ⟨h, -⟩ | ⟨k, -, h, -⟩ <;> exact absurd h (Nat.not_lt_zero _)
    iexact Hout
  isplitl [Hown]; · unfold gE; iexact Hown
  isplitl [Hxk]; · iexact Hxk
  isplitl [Hw]; · iexact Hw
  isplitl [Hsx]; · iexact Hsx
  isplitl [Hsw]; · iexact Hsw
  iexact Hp

/-! ## Closing -/

theorem close_at (κ : ℕ) (g : GSem nD τ sig) (R : ℕ) (h : ∀ r, R ≤ r → (Rd A).duties g r = ∅) :
    iprop(cellInv ER (Rd A) κ g ∗ atPos ER g R ∅ 0) ⊢ (|={Set.univ}=> semVal g 0 : sProp 𝕄) :=
  Rounds.cell_close ER (Rd A) (Set.mem_univ κ) id h

theorem close_keep (κ : ℕ) (g : GSem nD τ sig) (P : sProp 𝕄) :
    iprop(cellInv ER (Rd A) κ g ∗ atPos ER g 1 ∅ 0 ∗ P) ⊢ (|={Set.univ}=> iprop(semVal g 0 ∗ P) : sProp 𝕄) := by
  iintro ⟨#Hi, Hat, HK⟩
  imod (close_at A κ g 1 (duties_later A g)) $$ [Hat] with Hv
  · isplitl []; · iexact Hi
    iexact Hat
  imodintro
  isplitl [Hv]; · iexact Hv
  iexact HK

theorem close_snd (k : Lane) : iprop(recs A K k c ∗ snd (F := F) k c endTime) ⊢ (|={Set.univ}=> semVal (sCell k c) 0 : sProp 𝕄) := by
  have hr : recs A K k c ⊢ cellInv ER (Rd A) (K (sCell k c)) (sCell k c) := by
    unfold recs; iintro ⟨H, -⟩; iexact H
  refine (BI.sep_mono hr (BI.Entails.refl _)).trans ?_
  unfold snd
  by_cases h : out k c = true
  · have h1 : ¬ endTime ≤ sendTime k := Nat.not_le.mpr (lt_trans (times_lt_drain k k).1 (times_lt_end k))
    have h2 : ¬ endTime ≤ drainTime k := Nat.not_le.mpr (times_lt_end k)
    rw [if_pos h, if_neg h1, if_neg h2]
    exact close_at A _ _ 1 (duties_later A _)
  · rw [if_neg h]
    refine close_at A _ _ 0 fun r _ => ?_
    rcases Nat.eq_zero_or_pos r with rfl | hr
    · rw [duties_s, if_neg h]
    · exact duties_later A _ r hr

theorem close_rcv (k : Lane) : iprop(recs A K k c ∗ rcv A k c endTime)
    ⊢ (|={Set.univ}=> iprop(semVal (rCell k c) 0 ∗ (if inc k c = true then Keep A k c else iprop(emp))) : sProp 𝕄) := by
  have hr : recs A K k c ⊢ cellInv ER (Rd A) (K (rCell k c)) (rCell k c) := by
    unfold recs; iintro ⟨-, H, -⟩; iexact H
  refine (BI.sep_mono hr (BI.Entails.refl _)).trans ?_
  unfold rcv
  by_cases h : inc k c = true
  · have h1 : ¬ endTime ≤ recvTime k := Nat.not_le.mpr (lt_trans (times_lt_drain k k).2.1 (times_lt_end k))
    rw [if_pos h, if_neg h1, if_pos h]
    exact close_keep A _ _ (Keep A k c)
  · rw [if_neg h, if_neg h, sepE]
    refine close_at A _ _ 0 fun r _ => ?_
    rcases Nat.eq_zero_or_pos r with rfl | hr
    · rw [duties_r, if_neg h]
    · exact duties_later A _ r hr

theorem close_snds : iprop((bigSep Finset.univ fun k : Lane => recs A K k c) ∗ bigSep Finset.univ fun k => snd (F := F) k c endTime)
    ⊢ (|={Set.univ}=> bigSep Finset.univ fun k => semVal (sCell k c) 0 : sProp 𝕄) := by
  rw [← bigSep_sep']
  exact (bigSep_mono fun k _ => close_snd A K c k).trans (bigSep_fupd _ _)

theorem close_rcvs : iprop((bigSep Finset.univ fun k : Lane => recs A K k c) ∗ bigSep Finset.univ fun k => rcv A k c endTime)
    ⊢ (|={Set.univ}=> iprop((bigSep Finset.univ fun k => semVal (rCell k c) 0)
      ∗ bigSep Finset.univ fun k => if inc k c = true then Keep A k c else iprop(emp)) : sProp 𝕄) := by
  rw [← bigSep_sep', ← bigSep_sep']
  exact (bigSep_mono fun k _ => close_rcv A K c k).trans (bigSep_fupd _ _)

theorem pend_end : pend c endTime = ∅ := by
  unfold pend
  refine Finset.filter_eq_empty_iff.mpr fun k _ h => ?_
  exact absurd h.2 (Nat.not_le.mpr (lt_trans (times_lt_drain k k).1 (times_lt_end k)))

theorem end_final : iprop(BInv A K c ∗ St A K c endTime) ⊢ (|={Set.univ}=> Final A c : sProp 𝕄) := by
  unfold St Final Bufs BInv Inv outB Rest
  rw [pend_end, shr_end, x_whole, g_whole A]
  iintro ⟨⟨-, #Hb⟩, ⟨#Hrec, -⟩, ⟨%W, Ho⟩, Hs, ⟨Hroot, Hkid⟩, Hr, ⟨%f, %hf, Hout⟩, Hown, Hxk, Hw, Hsx, Hsw, Hp, Hat⟩
  imod (close_at A _ _ 1 (duties_later A (barCell c))) $$ [Hat] with Hbv
  · isplitl []; · iexact Hb
    iexact Hat
  imod (close_snds A K c) $$ [Hs] with Hsv
  · isplitl []; · iexact Hrec
    iexact Hs
  imod (close_rcvs A K c) $$ [Hr] with ⟨Hrv, HK⟩
  · isplitl []; · iexact Hrec
    iexact Hr
  imodintro
  have e : f = T A c := funext fun i => Agree_end A hf i
  subst e
  isplitl [Hbv]; · iexact Hbv
  isplitl [Hsv Hrv]
  · isplitl [Hsv]; · iexact Hsv
    iexact Hrv
  isplitl [Ho]
  · iexists W; iexact Ho
  isplitl [Hxk Hroot Hw Hsx Hsw]
  · isplitl [Hxk Hroot]
    · isplitl [Hxk]; · iexact Hxk
      iexact Hroot
    isplitl [Hw]; · iexact Hw
    isplitl [Hsx]; · iexact Hsx
    iexact Hsw
  isplitl [Hown HK Hkid]
  · isplitl [Hown]; · unfold gE; iexact Hown
    iapply (got_all A c)
    isplitl [HK]; · iexact HK
    iexact Hkid
  isplitl [Hout]; · iexact Hout
  iexact Hp

/-- The body, from entry to return. -/
theorem body_final :
    Begin A K c ⊢ runs c (cc0_body xM (Memref.isWhole_whole _) wM (Memref.isWhole_whole _) sxM (Memref.isWhole_whole _) swM (Memref.isWhole_whole _)
      oM (Memref.isWhole_whole _) gM (Memref.isWhole_whole _) cc0_scratch1 cc0_scratch2 cc0_scratch3 cc0_scratch4 cc0_scratch5 cc0_scratch6 cc0_scratch7 cc0_scratch8)
      (fun _ => Final A c) := by
  refine ((begin_bar A K c).trans body_run').trans ?_
  refine BI.Entails.trans ?_ (wp_fupd frame (wpE (defs₀ (F := F)) 𝒱₀ (c : Thread nD τ) none) Set.univ _ _)
  exact wp_mono frame (wpE (defs₀ (F := F)) 𝒱₀ (c : Thread nD τ) none) Set.univ fun _ => end_final A K c

/-! ## Opening -/

/-- The records of a lane while its cells at device c are still dormant. -/
def recs0 (k : Lane) : sProp 𝕄 :=
  iprop(cellInv ER (Rd A) (K (sCell k c)) (sCell k c) ∗ cellInv ER (Rd A) (K (rCell k c)) (rCell k c)
    ∗ cellInv ER (Rd A) (K (rCell k (peer k c))) (rCell k (peer k c)))

instance recs0_persistent (k : Lane) : BI.Persistent (recs0 A K c k) := by unfold recs0; infer_instance

/-- The tokens of the duties device c pays on lane k. -/
def toks (k : Lane) : sProp 𝕄 :=
  if out k c = true then iprop(dutyTok ER (sCell k c) 0 0 ∗ dutyTok ER (rCell k (peer k c)) 0 0) else iprop(emp)

theorem snd0_eq (k : Lane) : snd0 (F := F) k c = iprop(toks c k ∗ atPos ER (sCell k c) 0 ∅ 0) := by
  unfold toks snd0
  by_cases h : out k c = true
  · rw [if_pos h, if_pos h, sepA]
  · rw [if_neg h, if_neg h, eSep]

/-- What device c keeps of the launch until the kernel is entered. -/
def Ghost : sProp 𝕄 :=
  iprop(BInv A K c ∗ (bigSep Finset.univ fun k : Lane => recs0 A K c k) ∗ (bigSep (nbrs c) fun d => dutyTok ER (barCell d) 0 c)
    ∗ credB c ∗ atPos ER (barCell c) 0 ∅ 0 ∗ (bigSep Finset.univ fun k => toks c k) ∗ (bigSep Finset.univ fun k => credR c k)
    ∗ (bigSep Finset.univ fun k => openTok ER (sCell k c)) ∗ bigSep Finset.univ fun k => openTok ER (rCell k c))

theorem open_at (κ : ℕ) (g : GSem nD τ sig) :
    iprop(cellInv ER (Rd A) κ g ∗ openTok ER g ∗ semVal g 0) ⊢ (|={Set.univ}=> iprop(atPos ER g 0 ∅ 0 ∗ reached ER g 0) : sProp 𝕄) :=
  Rounds.cell_open ER (Rd A) (Set.mem_univ κ)

/-- One lane's two cells are opened. -/
theorem open_lane (k : Lane) :
    iprop(recs0 A K c k ∗ ((openTok ER (sCell k c) ∗ semVal (sCell k c) 0) ∗ (openTok ER (rCell k c) ∗ semVal (rCell k c) 0) ∗ toks c k))
    ⊢ (|={Set.univ}=> iprop(recs A K k c ∗ snd0 k c ∗ atPos ER (rCell k c) 0 ∅ 0 ∗ reached ER (rCell k c) 0) : sProp 𝕄) := by
  unfold recs0 recs
  iintro ⟨⟨#H1, #H2, #H3⟩, ⟨Hso, Hsv⟩, ⟨Hro, Hrv⟩, Ht⟩
  imod (open_at A _ (sCell k c)) $$ [Hso Hsv] with ⟨Hs, #Hs0⟩
  · isplitl []; · iexact H1
    isplitl [Hso]; · iexact Hso
    iexact Hsv
  imod (open_at A _ (rCell k c)) $$ [Hro Hrv] with ⟨Hr, #Hr0⟩
  · isplitl []; · iexact H2
    isplitl [Hro]; · iexact Hro
    iexact Hrv
  imodintro
  isplitl []
  · isplitl []; · iexact H1
    isplitl []; · iexact H2
    isplitl []; · iexact H3
    iexact Hs0
  isplitl [Hs Ht]
  · iapply (Entails.of_eq (snd0_eq c k).symm)
    isplitl [Ht]; · iexact Ht
    iexact Hs
  isplitl [Hr]; · iexact Hr
  iexact Hr0

theorem open_lanes :
    iprop((bigSep Finset.univ fun k : Lane => recs0 A K c k)
      ∗ ((bigSep Finset.univ fun k => openTok ER (sCell k c)) ∗ bigSep Finset.univ fun k => semVal (sCell k c) 0)
      ∗ ((bigSep Finset.univ fun k => openTok ER (rCell k c)) ∗ bigSep Finset.univ fun k => semVal (rCell k c) 0)
      ∗ bigSep Finset.univ fun k => toks c k)
    ⊢ (|={Set.univ}=> iprop((bigSep Finset.univ fun k : Lane => recs A K k c) ∗ (bigSep Finset.univ fun k => snd0 k c)
      ∗ (bigSep Finset.univ fun k => atPos ER (rCell k c) 0 ∅ 0) ∗ bigSep Finset.univ fun k => reached ER (rCell k c) 0) : sProp 𝕄) := by
  simp only [← bigSep_sep']
  exact (bigSep_mono fun k _ => open_lane A K c k).trans (bigSep_fupd _ _)

theorem ghost_open :
    iprop(Ghost A K c ∗ ((bigSep Finset.univ fun k => semVal (sCell k c) 0) ∗ bigSep Finset.univ fun k => semVal (rCell k c) 0) ∗ levAts L lv)
    ⊢ (|={Set.univ}=> Opened A K c : sProp 𝕄) := by
  unfold Ghost Opened Inv
  iintro ⟨⟨HB, HI, Hd, Hc, Hat, Ht, Hcr, Hso, Hro⟩, ⟨Hsv, Hrv⟩, HL⟩
  imod (open_lanes A K c) $$ [HI Hso Hsv Hro Hrv Ht] with ⟨Hrec, Hs, Hr, Hre⟩
  · isplitl [HI]; · iexact HI
    isplitl [Hso Hsv]
    · isplitl [Hso]; · iexact Hso
      iexact Hsv
    isplitl [Hro Hrv]
    · isplitl [Hro]; · iexact Hro
      iexact Hrv
    iexact Ht
  imodintro
  isplitl [HB]; · iexact HB
  isplitl [Hrec HL]
  · isplitl [Hrec]; · iexact Hrec
    iexact HL
  isplitl [Hd]; · iexact Hd
  isplitl [Hc]; · iexact Hc
  isplitl [Hat]; · iexact Hat
  isplitl [Hs]; · iexact Hs
  isplitl [Hcr]; · iexact Hcr
  isplitl [Hr]; · iexact Hr
  iexact Hre

end Cert.KernelIdeal.AG

end
-- ==== Proof.Entry.lean ====
/-
  The kernel as a region of the program: what its windows hold, the body at the region's one point, and the region's record.
-/
module

public import proofs.«01_k».proof.Proof.Finish
public import proofs.«01_k».proof.Proof.Gen.KernelIdeal.Frame
public import Idealize.ShloMosaic.Lib.Pipeline.RegionTalk

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Lanes

variable {F : FTy → Type} [FloatOps F]

local notation "𝕄" => MT nD τ sig Unit (Elt F) ℕ UU ℕ

variable (m : (ℓ : Loc nD τ sig) → Buf (Elt F) ℓ)

/-- The devices' operands as the kernel finds them. -/
def ops : Ops F where
  X c := Gen.V m c main_arg0
  Wt c := Gen.V m c main_arg1
  sx c := Gen.V m c main_v1
  sw c := Gen.V m c main_v2

abbrev adm : (p : Fin 1) → (pcfgs (F := F) p).Adm := fun p => (cfgs p).toPCfg_adm

/-- What device c owes when the kernel is entered. -/
abbrev O₀ (c : Dev nD) : CellTallies nD τ sig Unit := oweB c (nbrs c)

/-- What the kernel's body starts from, its operands apart. -/
def Φ₀ (c : Dev nD) : sProp 𝕄 := iprop((∃ K, Opened (ops m) K c) ∗ gE c Finset.univ ∗ ∃ r, prngReg c r)
/-- What it leaves, its operands and its result apart. -/
def Φ₁ (c : Dev nD) : sProp 𝕄 :=
  iprop(semVal (barCell c) 0 ∗ ((bigSep Finset.univ fun k => semVal (sCell k c) 0) ∗ bigSep Finset.univ fun k => semVal (rCell k c) 0)
    ∗ gE c Finset.univ ∗ ∃ r, prngReg c r)

/-- The windows' contents, the body's invariant and its debts. -/
def dat (c : Dev nD) : Dat τ (Elt F) Unit ℕ UU ℕ cfg0 c where
  A w := Gen.V m c (Pipeline.arrRef spec0 w)
  after w t := match w with
    | 0 => Gen.iblk m c 0 t
    | 1 => Gen.iblk m c 1 t
    | 2 => Gen.iblk m c 2 t
    | 3 => Gen.iblk m c 3 t
    | 4 => T (ops m) c
    | ⟨_ + 5, h⟩ => absurd h (Nat.not_lt.2 (Nat.le_add_left _ _))
  Φ t := if t.val = 0 then Φ₀ m c else Φ₁ c
  q _ := fullShare
  owed t := if t.val = 0 then O₀ c else 0

abbrev pdats : (p : Fin 1) → (c : Dev nD) → Dat τ (Elt F) Unit ℕ UU ℕ (Pipeline.pin (pcfgs (F := F)) adm p) c := fun _ c => dat m c

/-! ## The windows are whole arrays -/

theorem emb0 (t) (x : S256x4096.Idx) : ((cfg0.win 0).blk t).view.emb x = x := by
  funext a; apply Fin.ext
  show (0 * (S256x4096.size a) + 1 * (x a).val : ℕ) = (x a).val
  omega
theorem emb1 (t) (x : S4096x512.Idx) : ((cfg0.win 1).blk t).view.emb x = x := by
  funext a; apply Fin.ext
  show (0 * (S4096x512.size a) + 1 * (x a).val : ℕ) = (x a).val
  omega
theorem emb2 (t) (x : S1x1.Idx) : ((cfg0.win 2).blk t).view.emb x = x := by
  funext a; apply Fin.ext
  show (0 * (S1x1.size a) + 1 * (x a).val : ℕ) = (x a).val
  omega
theorem emb3 (t) (x : S1x1.Idx) : ((cfg0.win 3).blk t).view.emb x = x := by
  funext a; apply Fin.ext
  show (0 * (S1x1.size a) + 1 * (x a).val : ℕ) = (x a).val
  omega
theorem emb4 (t) (x : S4096x512.Idx) : ((cfg0.win 4).blk t).view.emb x = x := by
  funext a; apply Fin.ext
  show (0 * (S4096x512.size a) + 1 * (x a).val : ℕ) = (x a).val
  omega
theorem read0 (c : Dev nD) (t) : Gen.iblk m c 0 t = (ops m).X c := by
  funext x
  show Gen.V m c main_arg0 (((cfg0.win 0).blk t).view.emb x) = Gen.V m c main_arg0 x
  rw [emb0]
theorem read1 (c : Dev nD) (t) : Gen.iblk m c 1 t = (ops m).Wt c := by
  funext x
  show Gen.V m c main_arg1 (((cfg0.win 1).blk t).view.emb x) = Gen.V m c main_arg1 x
  rw [emb1]
theorem read2 (c : Dev nD) (t) : Gen.iblk m c 2 t = (ops m).sx c := by
  funext x
  show Gen.V m c main_v1 (((cfg0.win 2).blk t).view.emb x) = Gen.V m c main_v1 x
  rw [emb2]
theorem read3 (c : Dev nD) (t) : Gen.iblk m c 3 t = (ops m).sw c := by
  funext x
  show Gen.V m c main_v2 (((cfg0.win 3).blk t).view.emb x) = Gen.V m c main_v2 x
  rw [emb3]

theorem before0 (c : Dev nD) (t d) : (dat m c).before 0 t d = Gen.iblk m c 0 t :=
  (Dat.before_in_eq_fetched (dat m c) 0 rfl (fun _ => rfl) (fun _ _ _ => rfl) (fun _ => rfl) t d).trans rfl
theorem before1 (c : Dev nD) (t d) : (dat m c).before 1 t d = Gen.iblk m c 1 t :=
  (Dat.before_in_eq_fetched (dat m c) 1 rfl (fun _ => rfl) (fun _ _ _ => rfl) (fun _ => rfl) t d).trans rfl
theorem before2 (c : Dev nD) (t d) : (dat m c).before 2 t d = Gen.iblk m c 2 t :=
  (Dat.before_in_eq_fetched (dat m c) 2 rfl (fun _ => rfl) (fun _ _ _ => rfl) (fun _ => rfl) t d).trans rfl
theorem before3 (c : Dev nD) (t d) : (dat m c).before 3 t d = Gen.iblk m c 3 t :=
  (Dat.before_in_eq_fetched (dat m c) 3 rfl (fun _ => rfl) (fun _ _ _ => rfl) (fun _ => rfl) t d).trans rfl

/-- The kernel's result after its write-back. -/
theorem arrAt4 (c : Dev nD) : (dat m c).arrAt 4 cfg0.N = T (ops m) c := by
  show (dat m c).arrAt 4 (0 + 1) = _
  unfold Dat.arrAt
  rw [dif_pos (show 0 < cfg0.N by decide), if_pos (Gen.flush0_4 _)]
  funext x
  have h := View.write_emb_of_mem (v := ((cfg0.win 4).blk Gen.t0_0).view) ((dat m c).arrAt 4 0) ((dat m c).flushed 4 Gen.t0_0) (Finset.mem_univ x)
  rw [emb4] at h
  exact h

/-! ## The body at the region's one point -/

theorem owed_elim (c : Dev nD) (t) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, H⟩; iexists W; iexact H

theorem owed_intro (c : Dev nD) (t) (O : CellTallies nD τ sig Unit) (h : (dat m c).owed t = O) :
    iprop(∃ W, owes (c : Thread nD τ) O W) ⊢ ((dat m c).owesAt () t : sProp 𝕄) := by
  unfold Dat.owesAt Pipeline.owesWithin
  rw [h]
  iintro ⟨%W, H⟩; iexists W
  isplitr; · ipureintro; exact fun _ _ => Or.inl trivial
  iexact H

/-- What the body starts from, written out. -/
def Enter (c : Dev nD) : sProp 𝕄 :=
  iprop(Φ₀ m c ∗ (dat m c).owesAt () Gen.t0_0.castSucc
    ∗ (∃ d, ((c : Thread nD τ).loc cc0_stg0_0) ↦{fullShare} (dat m c).before 0 Gen.t0_0 d)
    ∗ (∃ d, ((c : Thread nD τ).loc cc0_stg1_0) ↦{fullShare} (dat m c).before 1 Gen.t0_0 d)
    ∗ (∃ d, ((c : Thread nD τ).loc cc0_stg2_0) ↦{fullShare} (dat m c).before 2 Gen.t0_0 d)
    ∗ (∃ d, ((c : Thread nD τ).loc cc0_stg3_0) ↦{fullShare} (dat m c).before 3 Gen.t0_0 d)
    ∗ (∃ d, ((c : Thread nD τ).loc cc0_stg4_0) ↦{fullShare} (dat m c).before 4 Gen.t0_0 d))

/-- What it leaves. -/
def Leave (c : Dev nD) : sProp 𝕄 :=
  iprop(Φ₁ c ∗ (dat m c).owesAt () Gen.t0_0.succ
    ∗ (((c : Thread nD τ).loc cc0_stg0_0) ↦{fullShare} Gen.iblk m c 0 Gen.t0_0)
    ∗ (((c : Thread nD τ).loc cc0_stg1_0) ↦{fullShare} Gen.iblk m c 1 Gen.t0_0)
    ∗ (((c : Thread nD τ).loc cc0_stg2_0) ↦{fullShare} Gen.iblk m c 2 Gen.t0_0)
    ∗ (((c : Thread nD τ).loc cc0_stg3_0) ↦{fullShare} Gen.iblk m c 3 Gen.t0_0)
    ∗ (((c : Thread nD τ).loc cc0_stg4_0) ↦{fullShare} T (ops m) c))

theorem enter_begin (c : Dev nD) : Enter m c ⊢ (iprop(∃ K, Begin (ops m) K c) : sProp 𝕄) := by
  unfold Enter Φ₀ Begin Bufs
  iintro ⟨⟨⟨%K, HK⟩, Hg, Hp⟩, Ho, ⟨%d0, H0⟩, ⟨%d1, H1⟩, ⟨%d2, H2⟩, ⟨%d3, H3⟩, ⟨%d4, H4⟩⟩
  ihave Ho' := (owed_elim m c _ (O₀ c) rfl) $$ Ho
  rw [before0, before1, before2, before3, read0, read1, read2, read3]
  iexists K
  isplitl [HK]; · iexact HK
  isplitl [Ho']; · iexact Ho'
  isplitl [H0 H1 H2 H3]
  · isplitl [H0]; · iexact H0
    isplitl [H1]; · iexact H1
    isplitl [H2]; · iexact H2
    iexact H3
  isplitl [Hg]; · iexact Hg
  isplitl [H4]; · iexists _; iexact H4
  iexact Hp

theorem final_leave (c : Dev nD) : Final (ops m) c ⊢ Leave m c := by
  unfold Leave Φ₁ Final Bufs
  rw [read0, read1, read2, read3]
  iintro ⟨Hb, Hs, Ho, ⟨H0, H1, H2, H3⟩, Hg, H4, Hp⟩
  isplitl [Hb Hs Hg Hp]
  · isplitl [Hb]; · iexact Hb
    isplitl [Hs]; · iexact Hs
    isplitl [Hg]; · iexact Hg
    iexact Hp
  isplitl [Ho]; · iapply (owed_intro m c _ 0 rfl); iexact Ho
  isplitl [H0]; · iexact H0
  isplitl [H1]; · iexact H1
  isplitl [H2]; · iexact H2
  isplitl [H3]; · iexact H3
  iexact H4

theorem enter_runs (c : Dev nD) : Enter m c ⊢ runs c (Gen.bodyAt0 (F := F) Gen.t0_0) (fun _ => Leave m c) := by
  refine (enter_begin m c).trans ?_
  iintro ⟨%K, H⟩
  iapply (wp_mono frame (wpE (defs₀ (F := F)) 𝒱₀ (c : Thread nD τ) none) Set.univ fun _ => final_leave m c)
  iapply (body_final (ops m) K c)
  iexact H

theorem body_called (t : Fin cfg0.N) : defs₀ (F := F) .tc cfg0.body (cfg0.bodyArgs t (cfg0.slots t)) = Gen.bodyAt0 (F := F) t := by
  with_unfolding_all rfl

theorem enter_any (c : Dev nD) {P : sProp 𝕄} {Q : PUnit → sProp 𝕄} {p : Prog (TpuEff nD τ sig (Elt F) Λ₀ .tc) PUnit}
    (hp : p = Gen.bodyAt0 (F := F) Gen.t0_0) (h₁ : P ⊢ Enter m c) (h₂ : ∀ u, Leave m c ⊢ Q u) :
    P ⊢ wp frame (wpE (defs₀ (F := F)) 𝒱₀ (c : Thread nD τ) none) Set.univ p Q := by
  subst hp
  exact (h₁.trans (enter_runs m c)).trans (wp_mono frame (wpE (defs₀ (F := F)) 𝒱₀ (c : Thread nD τ) none) Set.univ h₂)

theorem some_of {α : Type} {Φ Ψ : α → sProp 𝕄} (h : ∀ X, Φ X = Ψ X) : iprop(∃ X, Φ X) ⊢ iprop(∃ X, Ψ X) := by
  rw [show Φ = Ψ from funext h]

theorem owns_stage0 (c : Dev nD) (X) :
    (owns (c : Thread nD τ) ((cfg0.win 0).stage (cfg0.slots Gen.t0_0 0)) fullShare X : sProp 𝕄) = (((c : Thread nD τ).loc cc0_stg0_0) ↦{fullShare} X) :=
  owns_whole (c : Thread nD τ) cc0_stg0_0 fullShare X
theorem owns_stage1 (c : Dev nD) (X) :
    (owns (c : Thread nD τ) ((cfg0.win 1).stage (cfg0.slots Gen.t0_0 1)) fullShare X : sProp 𝕄) = (((c : Thread nD τ).loc cc0_stg1_0) ↦{fullShare} X) :=
  owns_whole (c : Thread nD τ) cc0_stg1_0 fullShare X
theorem owns_stage2 (c : Dev nD) (X) :
    (owns (c : Thread nD τ) ((cfg0.win 2).stage (cfg0.slots Gen.t0_0 2)) fullShare X : sProp 𝕄) = (((c : Thread nD τ).loc cc0_stg2_0) ↦{fullShare} X) :=
  owns_whole (c : Thread nD τ) cc0_stg2_0 fullShare X
theorem owns_stage3 (c : Dev nD) (X) :
    (owns (c : Thread nD τ) ((cfg0.win 3).stage (cfg0.slots Gen.t0_0 3)) fullShare X : sProp 𝕄) = (((c : Thread nD τ).loc cc0_stg3_0) ↦{fullShare} X) :=
  owns_whole (c : Thread nD τ) cc0_stg3_0 fullShare X
theorem owns_stage4 (c : Dev nD) (X) :
    (owns (c : Thread nD τ) ((cfg0.win 4).stage (cfg0.slots Gen.t0_0 4)) fullShare X : sProp 𝕄) = (((c : Thread nD τ).loc cc0_stg4_0) ↦{fullShare} X) :=
  owns_whole (c : Thread nD τ) cc0_stg4_0 fullShare X

attribute [local irreducible] defs₀ in
theorem body_obligation (c : Dev nD) : BodyObligation (dat m c) (defs₀ (F := F)) 𝒱₀ () Set.univ := fun t => by
  rw [Gen.fin_N0 t]
  rw [Gen.bigSep_W0, Gen.bigSep_W0]
  refine enter_any m c ?_ ?_ ?_
  · exact body_called Gen.t0_0
  · unfold Enter
    refine BI.sep_mono (BI.Entails.refl _) (BI.sep_mono (BI.Entails.refl _) ?_)
    refine BI.sep_mono ?_ (BI.sep_mono ?_ (BI.sep_mono ?_ (BI.sep_mono ?_ ?_)))
    · exact some_of (fun _ => owns_stage0 c _)
    · exact some_of (fun _ => owns_stage1 c _)
    · exact some_of (fun _ => owns_stage2 c _)
    · exact some_of (fun _ => owns_stage3 c _)
    · exact some_of (fun _ => owns_stage4 c _)
  · intro _
    unfold Leave
    refine BI.sep_mono (BI.Entails.refl _) (BI.sep_mono (BI.Entails.refl _) ?_)
    refine BI.sep_mono ?_ (BI.sep_mono ?_ (BI.sep_mono ?_ (BI.sep_mono ?_ ?_)))
    · exact Entails.of_eq (owns_stage0 c _).symm
    · exact Entails.of_eq (owns_stage1 c _).symm
    · exact Entails.of_eq (owns_stage2 c _).symm
    · exact Entails.of_eq (owns_stage3 c _).symm
    · exact Entails.of_eq (owns_stage4 c _).symm

end Cert.KernelIdeal.AG

end
-- ==== Proof.Record.lean ====
/-
  The kernel's region in the program: its semaphores, the buffers around it, and its record.
-/
module

public import proofs.«01_k».proof.Proof.Entry

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Lanes

variable {F : FTy → Type} [FloatOps F]

local notation "𝕄" => MT nD τ sig Unit (Elt F) ℕ UU ℕ

variable (m : (ℓ : Loc nD τ sig) → Buf (Elt F) ℓ)

/-- A lane's two semaphores: the one its sends raise and the one its arrivals raise. -/
def osem : Lane × Bool → SemLoc sig
  | (k, false) => .dma (sSem k)
  | (k, true) => .dma (rSem k)

theorem osem_facts : Pipeline.OwnSemFacts spec0 osem := by decide +kernel

theorem own_eq (c : Dev nD) : (Pipeline.ownSems0 osem c : sProp 𝕄)
    = iprop((bigSep Finset.univ fun k => semVal (sCell k c) 0) ∗ bigSep Finset.univ fun k => semVal (rCell k c) 0) := by
  unfold Pipeline.ownSems0
  rw [bigSep_univ_prod, ← bigSep_sep']
  refine bigSep_congr fun k _ => ?_
  rw [show (Finset.univ : Finset Bool) = {false, true} from by decide, bigSep_insert (by decide), bigSep_singleton]
  rfl

/-! ## The buffers around the kernel -/

abbrev bufs : Finset (DevRef τ sig) := (StableHlo.tcRefs τ sig).filter fun b => ¬ b.isScoped
/-- Those that no window stages. -/
abbrev other : Finset (DevRef τ sig) := bufs \ Pipeline.arrRefs (τ := τ) spec0

/-- What they hold before the host operations, -/
def V₀ (c : Dev nD) : Valuation τ sig (Elt F) := fun b => m (c, b)
/-- before the kernel, -/
def V₁ (c : Dev nD) : Valuation τ sig (Elt F) := StableHlo.after Gen.hostOps0 (V₀ m c)
/-- and after it. -/
def V₂ (c : Dev nD) : Valuation τ sig (Elt F) := Function.update (V₁ m c) (Proc.devRef .tc main_v3) (T (ops m) c)

theorem V₂_out (c : Dev nD) : V₂ m c main_v3 = T (ops m) c := Function.update_self ..
theorem V₂_ne (c : Dev nD) {b : DevRef τ sig} (h : b ≠ Proc.devRef .tc main_v3) : V₂ m c b = V₁ m c b := Function.update_of_ne h ..

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

def Tk (c : Dev nD) : sProp 𝕄 := iprop(∃ K, Ghost (ops m) K c)
def Xk (c : Dev nD) : sProp 𝕄 := iprop(∃ K, Opened (ops m) K c)
def Yk (c : Dev nD) : sProp 𝕄 := semVal (barCell c) 0

theorem tk_open (c : Dev nD) : iprop(Tk m c ∗ Pipeline.ownSems0 osem c ∗ levAts L lv) ⊢ (|={Set.univ}=> Xk m c : sProp 𝕄) := by
  rw [own_eq]
  unfold Tk Xk
  iintro ⟨⟨%K, H⟩, Hs, HL⟩
  imod (ghost_open (ops m) K c) $$ [H Hs HL] with HX
  · isplitl [H]; · iexact H
    isplitl [Hs]; · iexact Hs
    iexact HL
  imodintro
  iexists K; iexact HX

theorem held_none (c : Dev nD) (W : Valuation τ sig (Elt F)) : (StableHlo.held (c.tc : Thread nD τ) ∅ W : sProp 𝕄) = BI.emp := by
  unfold StableHlo.held; exact BI.bigSep_empty

theorem xk_in (c : Dev nD) :
    iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = Φ₀ m c from rfl, show (Pipeline.pin (pcfgs (F := F)) adm 0).spec = spec0 from rfl, Gen.scopedRest0_eq]
  unfold Φ₀ Xk
  iintro ⟨⟨%f, Hg⟩, Hp, -, HX⟩
  isplitl [HX]; · iexact HX
  isplitl [Hg]; · unfold gE; iexists f; iexact Hg
  iexact Hp

theorem yk_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk c) := by
  rw [show (pdats m 0 c).Φ (Fin.last _) = Φ₁ c from rfl, show (Pipeline.pin (pcfgs (F := F)) adm 0).spec = spec0 from rfl, Gen.scopedRest0_eq, own_eq, held_none]
  unfold Φ₁ Yk gE
  iintro ⟨Hb, Hs, ⟨%f, Hg⟩, Hp⟩
  isplitl [Hg]; · iexists f; iexact Hg
  isplitl [Hp]; · iexact Hp
  isplitr; · iempintro
  isplitl [Hs]; · iexact Hs
  iexact Hb

theorem O₀_pos {c : Dev nD} {g : GSem nD τ sig} {u : Unit} (h : 0 < O₀ c g u) : (∃ k, g = rCell k (peer k c)) ∨ ∃ d, g = barCell d := by
  classical
  unfold O₀ oweB at h
  rw [Pi.add_apply, Finsupp.add_apply] at h
  rcases Nat.add_pos_iff_pos_or_pos.mp h with h | h
  · obtain ⟨k, -, e⟩ := owe_pos h; exact .inl ⟨k, e⟩
  · rw [Finset.sum_apply, Finsupp.finset_sum_apply] at h
    obtain ⟨d, -, hd⟩ := Finset.exists_ne_zero_of_sum_ne_zero (Nat.pos_iff_ne_zero.mp h)
    rw [tallyAt_apply] at hd
    split at hd
    · next e => exact .inr ⟨d, e.1⟩
    · exact absurd rfl hd

/-- What a device owes lies above the waits of the window transfers. -/
theorem cut (c : Dev nD) (t) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases O₀_pos h with ⟨k, rfl⟩ | ⟨d, rfl⟩
    · exact ⟨by rw [L_tc]; exact Finset.mem_singleton_self _, by rw [lv_r]; omega⟩
    · exact ⟨by rw [L_tc]; exact Finset.mem_singleton_self _, by rw [lv_bar]; omega⟩
  · exact absurd h (Nat.lt_irrefl 0)

theorem stage_low (c : Dev nD) : ∀ (w : Fin 5) (s : Fin (spec0 w).nbuf), lv ((c : Thread nD τ), .dma ((spec0 w).sem s)) () ≤ 0 := by
  have h : ∀ (w : Fin 5) (s : Fin (spec0 w).nbuf), laneOf ((spec0 w).sem s).val = none := by decide +kernel
  intro w s
  unfold lv
  show (match laneOf ((spec0 w).sem s).val with | some (k, true) => 1 + arr k | _ => 0) ≤ 0
  rw [h]

theorem levels : Pipeline.LevelCutOwed (pcfgs (F := F)) adm (pdats m) () L lv 0 (fun _ => (0 : ℕ)) where
  hι c w s := by rw [L_tc]; exact Finset.mem_singleton_self _
  hιb c w s := stage_low c w s
  hD c t g i h := cut m c t g i h

theorem entry_arr (c : Dev nD) (w) : (pdats m 0 c).arrAt w 0 = V₁ m c (Proc.devRef .tc (Pipeline.arrRef (Pipeline.pin (pcfgs (F := F)) adm 0).spec w)) := rfl

theorem exit_arr (c : Dev nD) (w : Fin 5) : (dat m c).arrAt w cfg0.N = V₂ m c (Proc.devRef .tc (Pipeline.arrRef spec0 w)) := by
  match w with
  | 0 => exact ((dat m c).arrAt_in 0 rfl _).trans (V₂_ne m c (b := Proc.devRef .tc main_arg0) (by decide)).symm
  | 1 => exact ((dat m c).arrAt_in 1 rfl _).trans (V₂_ne m c (b := Proc.devRef .tc main_arg1) (by decide)).symm
  | 2 => exact ((dat m c).arrAt_in 2 rfl _).trans (V₂_ne m c (b := Proc.devRef .tc main_v1) (by decide)).symm
  | 3 => exact ((dat m c).arrAt_in 3 rfl _).trans (V₂_ne m c (b := Proc.devRef .tc main_v2) (by decide)).symm
  | 4 => exact (arrAt4 m c).trans (V₂_out m c).symm
  | ⟨_ + 5, h⟩ => exact absurd h (Nat.not_lt.2 (Nat.le_add_left _ _))

theorem other_apart : ∀ b ∈ other, b ≠ Proc.devRef .tc main_v3 := by decide

theorem full (c : Dev nD) (w) : (dat m c).share w = fullShare := by unfold Dat.share; split <;> rfl

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ other (Finset.empty_subset _) kit rfl (fun c => (body_obligation m c).loose)
    (fun _ => 0) O₀ (fun c => (zero_add (O₀ c)).symm) (fun _ => rfl) (fun _ => rfl) (full m)
    (V₁ m) (V₂ m) (fun c b hb => V₂_ne m c (other_apart b (Finset.mem_sdiff.mp hb).1))
    (Tk m) Yk (Xk m) Yk (tk_open m) (xk_in m) (yk_out m)
    (fun c => by iintro H; imodintro; iexact H)
    (fun _ => 0) (levels m) (fun _ => iprop(emp)) (entry_arr m) (exit_arr m)

end Cert.KernelIdeal.AG

end
-- ==== Proof.Deal.lean ====
/-
  What the launch mints and how it is dealt to the devices: the tokens of the duties each one pays, and the credit its own
  semaphores are due.
-/
module

public import proofs.«01_k».proof.Proof.Record

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

variable (m : (ℓ : Loc nD τ sig) → Buf (Elt F) ℓ)

/-! ## The cells -/

theorem osem_ne_bar : ∀ q : Lane × Bool, osem q ≠ .reg barS := by
  rintro ⟨k, _ | _⟩ h <;> simp [osem] at h

def barEmb : Dev nD ↪ GSem nD τ sig := ⟨fun c => barCell c, fun _ _ h => congrArg (fun g : GSem nD τ sig => g.1.1) h⟩
def laneEmb : Dev nD × (Lane × Bool) ↪ GSem nD τ sig :=
  ⟨fun q => ((q.1 : Thread nD τ), osem q.2), fun _ _ h =>
    Prod.ext (congrArg (fun g : GSem nD τ sig => g.1.1) h) (osem_facts.inj (congrArg Prod.snd h))⟩

/-- The barrier's cells. -/
def barCells : Finset (GSem nD τ sig) := Finset.univ.map barEmb
/-- The lanes' cells. -/
def laneCells : Finset (GSem nD τ sig) := Finset.univ.map laneEmb

theorem cells_disjoint : Disjoint (barCells : Finset (GSem nD τ sig)) laneCells := by
  unfold barCells laneCells
  rw [Finset.disjoint_left]
  rintro g h₁ h₂
  obtain ⟨c, -, rfl⟩ := Finset.mem_map.mp h₁
  obtain ⟨q, -, h⟩ := Finset.mem_map.mp h₂
  exact osem_ne_bar q.2 (congrArg Prod.snd h)

theorem bar_in (c : Dev nD) : barCell c ∈ (barCells ∪ laneCells : Finset (GSem nD τ sig)) :=
  Finset.mem_union_left _ (Finset.mem_map_of_mem barEmb (Finset.mem_univ c))
theorem s_in (k : Lane) (c : Dev nD) : sCell k c ∈ (barCells ∪ laneCells : Finset (GSem nD τ sig)) :=
  Finset.mem_union_right _ (Finset.mem_map_of_mem laneEmb (Finset.mem_univ (c, (k, false))))
theorem r_in (k : Lane) (c : Dev nD) : rCell k c ∈ (barCells ∪ laneCells : Finset (GSem nD τ sig)) :=
  Finset.mem_union_right _ (Finset.mem_map_of_mem laneEmb (Finset.mem_univ (c, (k, true))))

/-! ## The tokens -/

/-- A token at each barrier cell for every device, -/
def barToks : Finset (GSem nD τ sig × ℕ × Dev nD) :=
  Finset.univ.map ⟨fun q : Dev nD × Dev nD => (barCell q.1, 0, q.2), fun _ _ h =>
    Prod.ext (congrArg (fun t : GSem nD τ sig × ℕ × Dev nD => t.1.1.1) h) (congrArg (fun t : GSem nD τ sig × ℕ × Dev nD => t.2.2) h)⟩
/-- and one at each lane cell. -/
def laneToks : Finset (GSem nD τ sig × ℕ × Dev nD) :=
  Finset.univ.map ⟨fun q : Dev nD × (Lane × Bool) => (laneEmb q, 0, 0), fun _ _ h =>
    laneEmb.injective (congrArg (fun t : GSem nD τ sig × ℕ × Dev nD => t.1) h)⟩
def allToks : Finset (GSem nD τ sig × ℕ × Dev nD) := barToks ∪ laneToks

theorem toks_disjoint : Disjoint barToks laneToks := by
  rw [Finset.disjoint_left]
  rintro g h₁ h₂
  obtain ⟨p, -, rfl⟩ := Finset.mem_map.mp h₁
  obtain ⟨q, -, h⟩ := Finset.mem_map.mp h₂
  exact osem_ne_bar q.2 (congrArg (fun t : GSem nD τ sig × ℕ × Dev nD => t.1.2) h)

/-- Reindexing a lane's cells by the device that sends to them. -/
def peerEquiv (k : Lane) : Dev nD ≃ Dev nD := ⟨fun c => peer k c, fun c => sender k c, sender_peer k, peer_sender k⟩

theorem over_bool (Φ : Bool → sProp 𝕄) : bigSep Finset.univ Φ = iprop(Φ false ∗ Φ true) := by
  rw [show (Finset.univ : Finset Bool) = {false, true} from by decide, bigSep_insert (by decide), bigSep_singleton]
  rfl

/-- The barrier tokens each go to the device that pays the duty. -/
theorem bar_dealt : (bigSep barToks fun x => (dutyTok ER x.1 x.2.1 x.2.2 : sProp 𝕄))
    ⊢ bigSep Finset.univ fun c : Dev nD => bigSep (nbrs c) fun d => dutyTok ER (barCell d) 0 c := by
  unfold barToks
  rw [bigSep_map, bigSep_univ_prod, BI.bigSep_univ_comm]
  exact bigSep_mono fun c _ => BI.bigSep_subset (Finset.subset_univ _)

/-- Of a lane's tokens a device keeps those it needs. -/
theorem toks_keep (c : Dev nD) (k : Lane) :
    iprop(dutyTok ER (sCell k c) 0 0 ∗ dutyTok ER (rCell k (peer k c)) 0 0) ⊢ (toks c k : sProp 𝕄) := by
  unfold toks
  split
  · exact .rfl
  · iintro -; iempintro

/-- The lane tokens too: a send's own, and that of the arrival at the peer. -/
theorem lane_dealt : (bigSep laneToks fun x => (dutyTok ER x.1 x.2.1 x.2.2 : sProp 𝕄))
    ⊢ bigSep Finset.univ fun c : Dev nD => bigSep Finset.univ fun k => toks c k := by
  have e : (bigSep laneToks fun x => (dutyTok ER x.1 x.2.1 x.2.2 : sProp 𝕄))
      = iprop((bigSep Finset.univ fun c : Dev nD => bigSep Finset.univ fun k : Lane => dutyTok ER (sCell k c) 0 0)
        ∗ bigSep Finset.univ fun c : Dev nD => bigSep Finset.univ fun k : Lane => dutyTok ER (rCell k c) 0 0) := by
    unfold laneToks
    rw [bigSep_map, bigSep_univ_prod, ← bigSep_sep']
    refine bigSep_congr fun c _ => ?_
    rw [bigSep_univ_prod, ← bigSep_sep']
    exact bigSep_congr fun k _ => over_bool _
  have e' : (bigSep Finset.univ fun c : Dev nD => bigSep Finset.univ fun k : Lane => (dutyTok ER (rCell k c) 0 0 : sProp 𝕄))
      = bigSep Finset.univ fun c : Dev nD => bigSep Finset.univ fun k : Lane => dutyTok ER (rCell k (peer k c)) 0 0 := by
    rw [BI.bigSep_univ_comm, BI.bigSep_univ_comm (fun (c : Dev nD) (k : Lane) => (dutyTok ER (rCell k (peer k c)) 0 0 : sProp 𝕄))]
    exact bigSep_congr fun k _ => bigSep_univ_equiv (peerEquiv k) (fun c : Dev nD => (dutyTok ER (rCell k c) 0 0 : sProp 𝕄))
  rw [e, e', ← bigSep_sep']
  refine bigSep_mono fun c _ => ?_
  rw [← bigSep_sep']
  exact bigSep_mono fun k _ => toks_keep c k

theorem all_dealt : (bigSep allToks fun x => (dutyTok ER x.1 x.2.1 x.2.2 : sProp 𝕄))
    ⊢ iprop((bigSep Finset.univ fun c : Dev nD => bigSep (nbrs c) fun d => dutyTok ER (barCell d) 0 c)
      ∗ bigSep Finset.univ fun c : Dev nD => bigSep Finset.univ fun k => toks c k) := by
  unfold allToks
  rw [bigSep_union toks_disjoint]
  exact BI.sep_mono bar_dealt lane_dealt

/-! ## The credit -/

theorem r_ne_bar (k : Lane) (c d : Dev nD) : rCell k c ≠ barCell d := fun h => osem_ne_bar (k, true) (congrArg Prod.snd h)
theorem r_inj {k j : Lane} {c d : Dev nD} (h : rCell k c = rCell j d) : c = d ∧ k = j :=
  ⟨congrArg (fun g : GSem nD τ sig => g.1.1) h,
    congrArg Prod.fst (osem_facts.inj (a₁ := (k, true)) (a₂ := (j, true)) (congrArg Prod.snd h))⟩
theorem bar_inj {c d : Dev nD} (h : barCell c = barCell d) : c = d := congrArg (fun g : GSem nD τ sig => g.1.1) h

/-- What device d owes the arrivals of lane k at device c. -/
theorem owed_r (d c : Dev nD) (k : Lane) :
    O₀ d (rCell k c) () = if out k d = true ∧ peer k d = c then amt k else 0 := by
  unfold O₀ oweB owe
  rw [Pi.add_apply, Finsupp.add_apply, Finset.sum_apply, Finsupp.finset_sum_apply, Finset.sum_apply, Finsupp.finset_sum_apply,
    Finset.sum_eq_zero (s := nbrs d) fun e _ => by rw [tallyAt_ne_cell (r_ne_bar k c e), Finsupp.zero_apply], Nat.add_zero]
  rw [Finset.sum_congr rfl fun j _ => tallyAt_apply (rCell j (peer j d)) () (amt j) (rCell k c) ()]
  have hk : ∀ j, (rCell k c = rCell j (peer j d) ∧ () = ()) ↔ (j = k ∧ peer k d = c) := fun j =>
    ⟨fun ⟨h, _⟩ => by obtain ⟨h1, rfl⟩ := r_inj h; exact ⟨rfl, h1.symm⟩, fun ⟨h1, h2⟩ => by subst h1; subst h2; exact ⟨rfl, rfl⟩⟩
  rw [Finset.sum_congr rfl fun j _ => if_congr (hk j) rfl rfl]
  by_cases hp : peer k d = c
  · rw [Finset.sum_congr rfl fun j _ => if_congr (and_iff_left hp) rfl rfl, Finset.sum_ite_eq']
    refine if_congr ?_ rfl rfl
    unfold pend
    rw [Finset.mem_filter]
    exact ⟨fun h => ⟨h.2.1, hp⟩, fun h => ⟨Finset.mem_univ _, h.1, Nat.zero_le _⟩⟩
  · rw [if_neg fun h => hp h.2]
    exact Finset.sum_eq_zero fun j _ => if_neg fun h => hp h.2

/-- What device d owes the barrier of device c. -/
theorem owed_bar (d c : Dev nD) : O₀ d (barCell c) () = if d ∈ nbrs c then 1 else 0 := by
  unfold O₀ oweB owe
  rw [Pi.add_apply, Finsupp.add_apply, Finset.sum_apply, Finsupp.finset_sum_apply, Finset.sum_apply, Finsupp.finset_sum_apply,
    Finset.sum_eq_zero (s := pend d 0) fun j _ => by rw [tallyAt_ne_cell (r_ne_bar j _ c).symm, Finsupp.zero_apply], Nat.zero_add]
  rw [Finset.sum_congr rfl fun e _ => tallyAt_apply (barCell e) () 1 (barCell c) (),
    Finset.sum_congr rfl fun e _ => if_congr (show (barCell c = barCell e ∧ () = ()) ↔ e = c from
      ⟨fun h => (bar_inj h.1).symm, fun h => by subst h; exact ⟨rfl, rfl⟩⟩) rfl rfl, Finset.sum_ite_eq']
  exact if_congr (nbrs_symm d c) rfl rfl

theorem launch_bar (c : Dev nD) :
    tallyOn (barCell c) (launchCredit (Pipeline.owing O₀) 0 (barCell c)) = (tallyAt (barCell c) () (nbrs c).card : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_mem, Finset.univ_inter,
    Finset.card_eq_sum_ones]

theorem launch_r (k : Lane) (c : Dev nD) (h : inc k c = true) :
    tallyOn (rCell k c) (launchCredit (Pipeline.owing O₀) 0 (rCell k c)) = (tallyAt (rCell k c) () (amt k) : CellTallies nD τ sig Unit) := by
  unfold tallyAt; refine congrArg _ (Finsupp.ext fun u => ?_); cases u
  have hk : ∀ d, (out k d = true ∧ peer k d = c) ↔ d = sender k c := fun d =>
    ⟨fun e => ((inc_iff c d k).2 e).2.symm, fun e => (inc_iff c d k).1 ⟨h, e.symm⟩⟩
  rw [Pipeline.launchCredit_owing, Finsupp.single_eq_same, Finset.sum_congr rfl fun d _ => owed_r d c k,
    Finset.sum_congr rfl fun d _ => if_congr (hk d) rfl rfl, Finset.sum_ite_eq', if_pos (Finset.mem_univ _)]

theorem bar_cred (c : Dev nD) : (cred (tallyAt (barCell c) () (nbrs c).card) : sProp 𝕄) ⊢ credB c := by
  unfold credB
  rw [nbrs_card]
  by_cases h : upB c = true ∧ dnB c = true
  · rw [if_pos h, if_pos h, show (4 : ℕ) = 3 + 1 from rfl, ← tallyAt_add]
    exact (cred_add _ _).1
  · rw [if_neg h, if_neg h]
    iintro H
    isplitl [H]; · iexact H
    iempintro

theorem lane_cred (k : Lane) (c : Dev nD) :
    (cred (tallyOn (rCell k c) (launchCredit (Pipeline.owing O₀) 0 (rCell k c))) : sProp 𝕄) ⊢ credR c k := by
  unfold credR
  by_cases h : inc k c = true
  · rw [if_pos h, launch_r k c h]
  · rw [if_neg h]; iintro -; iempintro

def rEmb : Lane ↪ SemLoc sig := ⟨fun k => osem (k, true), fun _ _ h => congrArg Prod.fst (osem_facts.inj h)⟩

/-- The launch credit of device c: its barrier's and its arrivals'. -/
theorem creds (c : Dev nD) : (Pipeline.launchCred O₀ c : sProp 𝕄) ⊢ iprop(credB c ∗ bigSep Finset.univ fun k => credR c k) := by
  unfold Pipeline.launchCred
  rw [bigSep_univ_at _ (SemLoc.reg barS)]
  refine BI.sep_mono ?_ ?_
  · rw [launch_bar]; exact bar_cred c
  · have hs : Finset.univ.map rEmb ⊆ Finset.univ.erase (SemLoc.reg barS : SemLoc sig) := fun x hx => by
      obtain ⟨k, -, rfl⟩ := Finset.mem_map.mp hx
      exact Finset.mem_erase.mpr ⟨osem_ne_bar (k, true), Finset.mem_univ _⟩
    refine (BI.bigSep_subset hs).trans ?_
    rw [bigSep_map]
    exact bigSep_mono fun k _ => lane_cred k c

end Cert.KernelIdeal.AG

end
-- ==== Proof.Init.lean ====
/-
  The launch: from what every device holds at first, the state each has before the host operations.
-/
module

public import proofs.«01_k».proof.Proof.Deal
public import Idealize.ShloMosaic.Lib.Pipeline.Regions

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

variable (m : (ℓ : Loc nD τ sig) → Buf (Elt F) ℓ) (ρ : Dev nD → PrngReg)

/-! ## What every device may consult, and what each keeps -/

/-- The invariants of all cells under one naming, and that every barrier cell is at its first round. -/
def records (κ : GSem nD τ sig → ℕ) : sProp 𝕄 :=
  iprop((bigSep (barCells ∪ laneCells) fun g => cellInv ER (Rd (ops m)) (κ g) g) ∗ bigSep barCells fun g => reached ER g 0)

instance records_persistent (κ : GSem nD τ sig → ℕ) : BI.Persistent (records m κ) := by unfold records; infer_instance

theorem record_at (κ : GSem nD τ sig → ℕ) {g : GSem nD τ sig} (hg : g ∈ (barCells ∪ laneCells : Finset (GSem nD τ sig))) :
    records m κ ⊢ cellInv ER (Rd (ops m)) (κ g) g := by
  have h : (bigSep (barCells ∪ laneCells) fun g => (cellInv ER (Rd (ops m)) (κ g) g : sProp 𝕄)) ⊢ cellInv ER (Rd (ops m)) (κ g) g := bigSep_elim hg
  unfold records
  iintro ⟨H, -⟩
  iapply h; iexact H

theorem reached_at (κ : GSem nD τ sig → ℕ) (c : Dev nD) : records m κ ⊢ (reached ER (barCell c) 0 : sProp 𝕄) := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h; iexact H

/-- A persistent assertion gives every summand it gives one by one. -/
theorem spread {I : Type} [DecidableEq I] {P : sProp 𝕄} [BI.Persistent P] (s : Finset I) {Φ : I → sProp 𝕄} (h : ∀ i ∈ s, P ⊢ Φ i) : P ⊢ bigSep s Φ := by
  have h' : iprop(P ∗ bigSep s fun _ => (BI.emp : sProp 𝕄)) ⊢ bigSep s Φ :=
    bigSep_with_persistent (R := P) (Φ := fun _ => (BI.emp : sProp 𝕄)) fun i hi => by
      iintro ⟨H, -⟩; iapply (h i hi); iexact H
  rw [BI.bigSep_emp_const] at h'
  iintro H
  iapply h'
  isplitl [H]; · iexact H
  iempintro

theorem records_bar (κ : GSem nD τ sig → ℕ) (c : Dev nD) : records m κ ⊢ BInv (ops m) κ c := by
  have h1 : records m κ ⊢ bigSep (nbrs c) fun d => iprop(cellInv ER (Rd (ops m)) (κ (barCell d)) (barCell d) ∗ reached ER (barCell d) 0) :=
    spread (P := records m κ) (nbrs c) fun d _ => by
      iintro #H
      isplitr
      · iapply (record_at m κ (bar_in d)); iexact H
      · iapply (reached_at m κ d); iexact H
  unfold BInv
  iintro #H
  isplitr
  · iapply h1; iexact H
  · iapply (record_at m κ (bar_in c)); iexact H

theorem records_lanes (κ : GSem nD τ sig → ℕ) (c : Dev nD) : records m κ ⊢ bigSep Finset.univ fun k : Lane => recs0 (ops m) κ c k :=
  spread (P := records m κ) Finset.univ fun k _ => by
    unfold recs0
    iintro #H
    isplitr; · iapply (record_at m κ (s_in k c)); iexact H
    isplitr; · iapply (record_at m κ (r_in k c)); iexact H
    iapply (record_at m κ (r_in k (peer k c))); iexact H

/-- What stays with device c. -/
def own (c : Dev nD) : sProp 𝕄 :=
  iprop(atPos ER (barCell c) 0 ∅ 0 ∗ ((bigSep Finset.univ fun k => openTok ER (sCell k c)) ∗ bigSep Finset.univ fun k => openTok ER (rCell k c))
    ∗ (bigSep (nbrs c) fun d => dutyTok ER (barCell d) 0 c) ∗ bigSep Finset.univ fun k => toks c k)

theorem ghost_intro (κ : GSem nD τ sig → ℕ) (c : Dev nD) :
    iprop(records m κ ∗ (own c ∗ credB c ∗ bigSep Finset.univ fun k => credR c k)) ⊢ Tk m c := by
  unfold own Tk Ghost
  iintro ⟨#HR, ⟨Ha, ⟨Hos, Hor⟩, Htb, Ht⟩, HcB, HcR⟩
  iexists κ
  isplitr; · iapply (records_bar m κ c); iexact HR
  isplitr; · iapply (records_lanes m κ c); iexact HR
  isplitl [Htb]; · iexact Htb
  isplitl [HcB]; · iexact HcB
  isplitl [Ha]; · iexact Ha
  isplitl [Ht]; · iexact Ht
  isplitl [HcR]; · iexact HcR
  isplitl [Hos]; · iexact Hos
  iexact Hor

/-! ## The launch -/

/-- All of a resource on the first device. -/
def onFirst (X : sProp 𝕄) (c : Dev nD) : sProp 𝕄 := if c = 0 then X else iprop(emp)

theorem over_first (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def minted : sProp 𝕄 := BI.own (ER (launchOf barCells laneCells allToks))

def u₀ : UU :=
  (initOf (Pipeline.cells (Pipeline.pin (pcfgs (F := F)) adm) Gen.cellOf_inj) (Pipeline.launchToks (Pipeline.pin (pcfgs (F := F)) adm) Gen.cellOf_inj),
    launchOf barCells laneCells allToks)

/-- What accompanies a device's buffers through the host operations. -/
def R (c : Dev nD) : sProp 𝕄 := iprop((∃ r, prngReg c r) ∗ Tk m c ∗ ∃ W, owes (c : Thread nD τ) (O₀ c) W)
abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

theorem launch_bufs (c : Dev nD) (W : Valuation τ sig (Elt F)) :
    (unscopedBufs c (fun b => W b) : sProp 𝕄) = StableHlo.held (c : Thread nD τ) bufs W := Pipeline.unscopedBufs_held c W

theorem launch_sems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem unscoped_eq : ∀ sm : SemLoc sig, sm.isScoped .tc = false → sm = .reg barS := by decide +kernel

/-- A device's launch holdings beside the protocol's. -/
def bundle (c : Dev nD) : sProp 𝕄 :=
  iprop(StableHlo.held (c : Thread nD τ) bufs (V₀ m c) ∗ (credB c ∗ bigSep Finset.univ fun k => credR c k)
    ∗ owes (c : Thread nD τ) (O₀ c) ∅ ∗ ∃ r, prngReg c r)

theorem T₀_intro (κ : GSem nD τ sig → ℕ) (c : Dev nD) : iprop(records m κ ∗ (own c ∗ bundle m c)) ⊢ T₀ m c := by
  unfold bundle T₀ R
  iintro ⟨#HR, Hl, Hh, Hc, HO, Hp⟩
  isplitl [Hh]; · iexact Hh
  isplitl [Hp]; · iexact Hp
  isplitr [HO]
  · iapply (ghost_intro m κ c)
    isplitr; · iexact HR
    isplitl [Hl]; · iexact Hl
    iexact Hc
  · iexists ∅; iexact HO

/-- One device's launch holdings. -/
abbrev Given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ onFirst minted c)

theorem given_split (c : Dev nD) : Given m ρ c ⊢ iprop(bundle m c ∗ (semVal (barCell c) 0 ∗ onFirst minted c)) := by
  unfold Given
  rw [show unscopedBufs c (fun b => m ((c : Thread nD τ).loc b)) = StableHlo.held (c : Thread nD τ) bufs (V₀ m c) from launch_bufs c (V₀ m c),
    launch_sems]
  unfold bundle
  iintro ⟨Hh, Hus, HO, Hcr, Hp, HG⟩
  isplitl [Hh HO Hcr Hp]
  · isplitl [Hh]; · iexact Hh
    isplitl [Hcr]; · iapply (creds (F := F) c); iexact Hcr
    isplitl [HO]; · iexact HO
    iexists (ρ c); iexact Hp
  isplitl [Hus]; · iexact Hus
  iexact HG

theorem given_all : (bigSep Finset.univ fun c : Dev nD => Given m ρ c)
    ⊢ iprop((bigSep Finset.univ fun c => bundle m c) ∗ (bigSep barCells fun g => semVal g 0) ∗ minted) := by
  refine (bigSep_mono fun c _ => given_split m ρ c).trans ?_
  rw [bigSep_sep', bigSep_sep', show (bigSep barCells fun g => (semVal g 0 : sProp 𝕄)) = bigSep Finset.univ fun c : Dev nD => semVal (barCell c) 0 from
    bigSep_map (s := Finset.univ) barEmb (Φ := fun g : GSem nD τ sig => (semVal g 0 : sProp 𝕄))]
  rw [show (bigSep Finset.univ fun c : Dev nD => onFirst (F := F) minted c) = minted from over_first minted]
  exact BI.Entails.refl _

theorem own_all : iprop((bigSep barCells fun g => atPos ER g 0 ∅ 0) ∗ (bigSep laneCells fun g => openTok ER g)
      ∗ (bigSep allToks fun x => dutyTok ER x.1 x.2.1 x.2.2))
    ⊢ (bigSep Finset.univ fun c : Dev nD => own c : sProp 𝕄) := by
  have ha : (bigSep barCells fun g => (atPos ER g 0 ∅ 0 : sProp 𝕄)) = bigSep Finset.univ fun c : Dev nD => atPos ER (barCell c) 0 ∅ 0 :=
    bigSep_map (s := Finset.univ) barEmb (Φ := fun g : GSem nD τ sig => (atPos ER g 0 ∅ 0 : sProp 𝕄))
  have ho : (bigSep laneCells fun g => (openTok ER g : sProp 𝕄)) = bigSep Finset.univ fun c : Dev nD =>
      iprop((bigSep Finset.univ fun k => openTok ER (sCell k c)) ∗ bigSep Finset.univ fun k => openTok ER (rCell k c)) := by
    unfold laneCells
    rw [bigSep_map, bigSep_univ_prod]
    refine bigSep_congr fun c _ => ?_
    rw [bigSep_univ_prod, ← bigSep_sep']
    exact bigSep_congr fun k _ => over_bool _
  have ht : iprop((bigSep Finset.univ fun c : Dev nD => bigSep (nbrs c) fun d => (dutyTok ER (barCell d) 0 c : sProp 𝕄))
      ∗ bigSep Finset.univ fun c : Dev nD => bigSep Finset.univ fun k => (toks c k : sProp 𝕄))
    = bigSep Finset.univ fun c : Dev nD => iprop((bigSep (nbrs c) fun d => dutyTok ER (barCell d) 0 c) ∗ bigSep Finset.univ fun k => toks c k) :=
    (bigSep_sep' _ _ _).symm
  have hg := all_dealt (F := F)
  rw [ht] at hg
  rw [ha, ho]
  unfold own
  refine (BI.sep_mono (BI.Entails.refl _) ((BI.sep_mono (BI.Entails.refl _) hg).trans (Entails.of_eq (bigSep_sep' _ _ _).symm))).trans (Entails.of_eq (bigSep_sep' _ _ _).symm)

/-- Every cell of the two sets gets its invariant, those of the second unopened; with them come the rights and the tokens. -/
theorem funded {S Sd : Finset (GSem nD τ sig)} (hd : Disjoint S Sd) (W : Finset (GSem nD τ sig × ℕ × Dev nD)) :
    iprop((bigSep S fun g => (semVal g 0 : sProp 𝕄)) ∗ BI.own (ER (launchOf S Sd W)))
    ⊢ (|={Set.univ}=> iprop(∃ κ : GSem nD τ sig → ℕ, ((bigSep (S ∪ Sd) fun g => cellInv ER (Rd (ops m)) (κ g) g) ∗ bigSep S fun g => reached ER g 0)
      ∗ ((bigSep S fun g => atPos ER g 0 ∅ 0) ∗ (bigSep Sd fun g => openTok ER g) ∗ (bigSep W fun x => dutyTok ER x.1 x.2.1 x.2.2))) : sProp 𝕄) := by
  iintro H
  imod (Rounds.fund_launch ER (Rd (ops m)) hd (fun g _ h => h) W) $$ H with ⟨%κ, -, Hinv, Hr, Hat, Hopen, Htok⟩
  imodintro
  iexists κ
  isplitl [Hinv Hr]
  · isplitl [Hinv] <;> iassumption
  isplitl [Hat]; · iexact Hat
  isplitl [Hopen]; · iexact Hopen
  iexact Htok

theorem T₀_all (κ : GSem nD τ sig → ℕ) :
    iprop(records m κ ∗ ((bigSep Finset.univ fun c : Dev nD => own c) ∗ bigSep Finset.univ fun c : Dev nD => bundle m c)) ⊢ bigSep Finset.univ (T₀ m) :=
  (BI.sep_mono (BI.Entails.refl _) (Entails.of_eq (bigSep_sep' _ _ _).symm)).trans
    (bigSep_with_persistent (R := records m κ) (Φ := fun c => iprop(own c ∗ bundle m c)) fun c _ => T₀_intro m κ c)

/-- From every device's launch holdings, every device's state before the host operations. -/
theorem init : iprop((bigSep Finset.univ fun c : Dev nD => Given m ρ c) ∗ levAts L lv) ⊢ (|={Set.univ}=> bigSep Finset.univ (T₀ m) : sProp 𝕄) := by
  iintro ⟨H, -⟩
  ihave H' := (given_all m ρ) $$ H
  icases H' with ⟨HB, Hv⟩
  unfold minted
  imod (funded m cells_disjoint allToks) $$ Hv with ⟨%κ, HR, HX⟩
  imodintro
  iapply (T₀_all m κ)
  isplitl [HR]; · unfold records; iexact HR
  isplitr [HB]
  · iapply (own_all (F := F)); iexact HX
  · iexact HB

end Cert.KernelIdeal.AG

end
-- ==== Proof.Run.lean ====
/-
  The whole program: its two parts, and what every final state holds.
-/
module

public import proofs.«01_k».proof.Proof.Init
public import Idealize.ShloMosaic.Lib.Pipeline.Regions
public import Idealize.ShloMosaic.Lib.Quiescent

@[expose] public section

noncomputable section

namespace Cert.KernelIdeal.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lanes

variable {F : FTy → Type} [FloatOps F]

local notation "𝕄" => MT nD τ sig Unit (Elt F) ℕ UU ℕ

variable (m : (ℓ : Loc nD τ sig) → Buf (Elt F) ℓ) (ρ : Dev nD → PrngReg)

/-! ## The program's two parts -/

theorem arr_in : Pipeline.arrRefs (τ := τ) spec0 ⊆ bufs := by decide

set_option backward.isDefEq.respectTransparency.types false in
/-- The host operations. -/
def host : Pipeline.HostSeg (Ix := Unit) (Name := ℕ) (U := UU) (Lvl := ℕ) (pcfgs (F := F)) defs₀ 𝒱₀ L lv :=
  Pipeline.HostSeg.ofOps _ _ _ _ _ bufs Gen.hostOps0
    (fun op h => Pipeline.sub_ucRefs op (List.forall_iff_forall_mem.mp Gen.hostOps0_sub op h))
    (List.forall_iff_forall_mem.mp Gen.hostOps0_fresh) (V₀ m) (R m)

def segs : List (Pipeline.Seg (pcfgs (F := F)) adm (pdats m) () defs₀ 𝒱₀ L lv) := [.host (host m), .region (region m)]

theorem main_eq (c : Dev nD) : main (F := F) c = Pipeline.Seg.run (segs m) :=
  Gen.main_segs adm (pdats m) () 𝒱₀ L lv (host m) (region m) rfl c

/-- The host operations leave what the kernel's region takes, -/
theorem region_pre (c : Dev nD) : iprop(StableHlo.held (c : Thread nD τ) bufs (V₁ m c) ∗ R m c) ⊢ (region m).pre c := by
  rw [StableHlo.held_sub_split (c : Thread nD τ) arr_in]
  unfold R
  show (_ : sProp 𝕄) ⊢ iprop(StableHlo.held (c : Thread nD τ) (Pipeline.arrRefs (τ := τ) spec0) (V₁ m c) ∗ (∃ r, prngReg c r)
    ∗ (StableHlo.held (c : Thread nD τ) other (V₁ m c) ∗ emp) ∗ Tk m c ∗ ∃ W, owes (c : Thread nD τ) (0 + O₀ c) W)
  rw [zero_add]
  iintro ⟨⟨Ha, Ho⟩, Hp, Ht, HO⟩
  isplitl [Ha]; · iexact Ha
  isplitl [Hp]; · iexact Hp
  isplitl [Ho]
  · isplitl [Ho]; · iexact Ho
    iempintro
  isplitl [Ht]; · iexact Ht
  iexact HO

/-- and the region leaves every buffer and the barrier's counter at zero. -/
theorem region_post (c : Dev nD) : (region m).post c ⊢ iprop(Tₙ m c ∗ ∃ W, owes (c : Thread nD τ) (0 : CellTallies nD τ sig Unit) W) := by
  unfold Tₙ
  rw [StableHlo.held_sub_split (c : Thread nD τ) arr_in]
  show iprop(StableHlo.held (c : Thread nD τ) (Pipeline.arrRefs (τ := τ) spec0) (V₂ m c) ∗ (∃ r, prngReg c r)
    ∗ (StableHlo.held (c : Thread nD τ) other (V₂ m c) ∗ emp) ∗ Yk c ∗ ∃ W, owes (c : Thread nD τ) (0 : CellTallies nD τ sig Unit) W) ⊢ (_ : sProp 𝕄)
  unfold Yk
  iintro ⟨Ha, -, ⟨Ho, -⟩, Hb, HO⟩
  isplitr [HO]
  · isplitl [Ha Ho]
    · isplitl [Ha]; · iexact Ha
      iexact Ho
    iexact Hb
  iexact HO

/-- What a final state holds on device c: every buffer as the run leaves it, and the barrier's counter zero. -/
def Ends (c : Dev nD) (s : MemSt nD τ sig (Elt F)) : Prop :=
  (∀ b ∈ bufs, s.mem ((c : Thread nD τ).1, b) = V₂ m c b) ∧ s.sem (barCell c) = 0

theorem ends_read (c : Dev nD) (s : Phys nD τ sig (Elt F)) : iprop(Tₙ m c ∗ SI s) ⊢ (|={Set.univ}=> iprop(⌜Ends m c s.mem⌝ ∗ SI s) : sProp 𝕄) := by
  unfold Tₙ StableHlo.held
  iintro ⟨⟨Hh, Hb⟩, HSI⟩
  icombine HSI Hb gives %hb
  ihave Hr := (pointsTo_read_all bufs (fun b => ((c : Thread nD τ).1, b)) (V₂ m c) s) $$ [Hh HSI]
  · isplitl [Hh] <;> iassumption
  icases Hr with ⟨%hr, HSI⟩
  imodintro
  isplitr
  · ipureintro
    exact ⟨hr, by simpa using hb⟩
  iexact HSI

theorem in_bufs : Proc.devRef .tc main_arg0 ∈ (bufs : Finset (DevRef τ sig)) ∧ Proc.devRef .tc main_arg1 ∈ (bufs : Finset (DevRef τ sig))
    ∧ Proc.devRef .tc main_arg2 ∈ (bufs : Finset (DevRef τ sig)) ∧ Proc.devRef .tc main_arg3 ∈ (bufs : Finset (DevRef τ sig))
    ∧ Proc.devRef .tc main_v3 ∈ (bufs : Finset (DevRef τ sig)) := by decide

theorem not_out : (Proc.devRef .tc main_arg0 : DevRef τ sig) ≠ Proc.devRef .tc main_v3 ∧ (Proc.devRef .tc main_arg1 : DevRef τ sig) ≠ Proc.devRef .tc main_v3
    ∧ (Proc.devRef .tc main_arg2 : DevRef τ sig) ≠ Proc.devRef .tc main_v3 ∧ (Proc.devRef .tc main_arg3 : DevRef τ sig) ≠ Proc.devRef .tc main_v3 := by decide

/-- The four arguments of device c are as they were, and its result is the definite function of all devices' operands. -/
def Right (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v3) = T (ops m) c

theorem right_of_ends (c : Dev nD) (s : MemSt nD τ sig (Elt F)) (h : Ends m c s) : Right m c s := by
  obtain ⟨h0, h1, h2, h3, h4⟩ := in_bufs
  obtain ⟨n0, n1, n2, n3⟩ := not_out
  exact ⟨⟨((h.1 _ h0).trans (V₂_ne m c n0)).trans (Gen.V_main_arg0 m c), ((h.1 _ h1).trans (V₂_ne m c n1)).trans (Gen.V_main_arg1 m c),
    ((h.1 _ h2).trans (V₂_ne m c n2)).trans (Gen.V_main_arg2 m c), ((h.1 _ h3).trans (V₂_ne m c n3)).trans (Gen.V_main_arg3 m c)⟩,
    (h.1 _ h4).trans (V₂_out m c)⟩

set_option backward.isDefEq.respectTransparency.types false in
/-- The run: from any memory with zero counters every execution of the program on the sixteen devices ends; on every
    device the arguments are then as they were and the result is the definite function, and every counter is zero. -/
theorem run_main : θ_run (defs (F := F)) (onTc (τ := τ) (main (F := F))) ⟨m, fun _ => 0, ρ⟩
    (fun r => (∀ c : Dev nD, Right m c r.2) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := onFirst minted) (u₀ := u₀ (F := F))
    (hu₀ := by
      unfold u₀
      iintro Hu
      ihave H := (ownU_pair _ _) $$ Hu
      icases H with ⟨HP, HX⟩
      imodintro
      isplitl [HP]; · iexact HP
      rw [over_first]; unfold minted; iexact HX)
    (T₀ := T₀ m) (Tₙ := Tₙ m)
    (hch := ⟨fun c => .rfl, fun c => region_pre m c, fun c => region_post m c⟩)
    (hinit := init m ρ)
    (QY := Ends m)
    (hfin := ends_read m)
    (hQ := fun s h hs => ⟨fun c => right_of_ends m c s (h c), sem_eq_zero hs fun c sm hsm => by
      obtain rfl := unscoped_eq sm hsm
      exact (h c).2⟩)

end Cert.KernelIdeal.AG

end
-- ==== Proof.Frames.lean ====
/-
  The frames: every program ends, leaves its arguments as they were, and ends with every counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.SL.Sem

theorem frame_kernelIdeal : Cert.quiescent_KernelIdeal := fun m ρ _ =>
  (θ_run (Cert.KernelIdeal.defs (F := Ideal)) _ _).mono (fun _ h => ⟨fun c => (h.1 c).1, h.2⟩) (Cert.KernelIdeal.AG.run_main (F := Ideal) m ρ)

section Same

variable {F : FTy → Type} [FloatOps F]

/-- The two programs have one kernel body. -/
theorem body_same : @Cert.Kernel.cc0_body F _ Cert.Kernel.Gen.facts = @Cert.KernelIdeal.cc0_body F _ Cert.KernelIdeal.Gen.facts := rfl

set_option maxHeartbeats 4000000 in
/-- They call it with the same windows, scratch and semaphores. -/
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) =>
    show @Cert.Kernel.cc0_body F _ Cert.Kernel.Gen.facts _ _ _ _ _ _ _ _ _ _ _ _ _ _ _ _ _ _ _ _
      = @Cert.KernelIdeal.cc0_body F _ Cert.KernelIdeal.Gen.facts _ _ _ _ _ _ _ _ _ _ _ _ _ _ _ _ _ _ _ _
    rw [body_same]

set_option maxHeartbeats 4000000 in
/-- So their tables of bodies are one. -/
theorem defs_same : @Cert.Kernel.defs F _ Cert.Kernel.Gen.facts = @Cert.KernelIdeal.defs F _ Cert.KernelIdeal.Gen.facts :=
  congrArg (Pipeline.defs (Cert.KernelIdeal.pcfgs (F := F))) table_same

/-- Their host programs are one. -/
theorem main_same : Cert.Kernel.main (F := F) = Cert.KernelIdeal.main (F := F) := rfl

end Same

set_option maxHeartbeats 4000000 in
/-- The compiled program is the ideal one over bit patterns. -/
theorem frame_kernel : Cert.quiescent_Kernel := fun m ρ _ => by
  have h := Cert.KernelIdeal.AG.run_main (F := Bits) m ρ
  rw [← defs_same, ← main_same] at h
  exact (θ_run (Cert.Kernel.defs (F := Bits)) _ _).mono (fun _ h => ⟨fun c => (h.1 c).1, h.2⟩) h

theorem frame_reference : Cert.quiescent_ReferenceIdeal := fun m ρ _ =>
  (θ_run Cert.ReferenceIdeal.defs _ _).mono
    (fun r h => ⟨fun c => ⟨(h c).2.1, (h c).2.2.1, (h c).2.2.2.1, (h c).2.2.2.2⟩, sem_eq_zero_of_no_sems rfl r.2⟩)
    (Cert.ReferenceIdeal.Value.run m ρ)

end Cert.Proof

end
-- ==== Proof.Total.lean ====
/-
  The reference's product and the mask, over the reals: sums of products of integers.
-/
module

public import proofs.«01_k».proof.Defs
public import proofs.«01_k».proof.Proof.Gen.ReferenceIdeal
public import proofs.«01_k».proof.Proof.Gen.On_exact
public import Idealize.ShloMosaic.Lib.StackMember
public import Idealize.ShloMosaic.Lib.ValueIdx

@[expose] public section

noncomputable section

namespace Cert.Total

open Idealize.ShloMosaic
open Idealize.ShloMosaic.ValueIdx (ix2 eq_ix2)

abbrev SX : Shape := ⟨2, ![4096, 4096]⟩
abbrev SW : Shape := ⟨2, ![4096, 8192]⟩

/-- An integer as an extended real. -/
abbrev real (z : ℤ) : Ideal .f32 := ((z : ℝ) : EReal)

variable (x : IVec SX 8) (w : IVec SW 8)

/-- The operands as floats. -/
def XF : FVec Ideal SX .f32 := sitofp .f32 (extsi 32 x (by decide))
def WF : FVec Ideal SW .f32 := sitofp .f32 (extsi 32 w (by decide))

/-- The magnitudes of the products that make up element i of the whole product, in total. -/
def total (i : SW.Idx) : ℕ := ∑ k : Fin 4096, ((x (ix2 (i 0) k)).toInt * (w (ix2 k (i 1))).toInt).natAbs

/-- The sum of those products. -/
def sum (i : SW.Idx) : ℤ := ∑ k : Fin 4096, (x (ix2 (i 0) k)).toInt * (w (ix2 k (i 1))).toInt

theorem abs_sum (i : SW.Idx) : (sum x w i).natAbs ≤ total x w i := by
  unfold sum total
  exact Int.natAbs_sum_le _ _

theorem real_sum {ι : Type} (s : Finset ι) (f : ι → ℤ) : (∑ k ∈ s, real (f k) : EReal) = real (∑ k ∈ s, f k) := by
  classical
  induction s using Finset.induction_on with
  | empty => simp [real]
  | insert a s ha ih =>
    rw [Finset.sum_insert ha, Finset.sum_insert ha, ih]
    unfold real
    rw [Int.cast_add, EReal.coe_add]

theorem real_mul (a b : ℤ) : (real a * real b : EReal) = real (a * b) := by
  unfold real
  rw [Int.cast_mul, EReal.coe_mul]

/-- The magnitude of an integer, read over the reals. -/
theorem real_abs (a : ℤ) : (max (real a) (-real a) : EReal) = real (a.natAbs : ℤ) := by
  unfold real
  rw [← EReal.coe_neg, ← EReal.coe_strictMono.monotone.map_max, Int.natCast_natAbs, Int.cast_abs]
  rfl

theorem wide (b : BitVec 8) : (b.signExtend 32).toInt = b.toInt := BitVec.toInt_signExtend_of_le (by decide)

/-- The host's product of two matrices of integers is, at an element, the integers' sum of products. -/
theorem product (f : SX.Idx → ℤ) (g : SW.Idx → ℤ) (i : SW.Idx) :
    Host.dotGeneral (F := Ideal) (DotDims.plain 4096 4096 8192) none (fun j => real (f j) : FVec Ideal SX .f32) (fun j => real (g j) : FVec Ideal SW .f32) i
      = real (∑ k : Fin 4096, f (ix2 (i 0) k) * g (ix2 k (i 1))) := by
  rw [eq_ix2 i]
  refine (StackMember.dotGeneral_plain_apply none _ _ (i 0) (i 1)).trans ?_
  rw [← real_sum]
  exact Finset.sum_congr rfl fun k _ => real_mul _ _

/-- The reference's product at an element. -/
theorem product_ref (i : SW.Idx) :
    Host.dotGeneral (F := Ideal) Cert.ReferenceIdeal.dot_S4096x4096_S4096x8192_S4096x8192_1_0_0_1_n_n none
      (XF x) (WF w) i = real (sum x w i) := by
  have ex : (XF x) = fun j => real (x j).toInt := by
    funext j; exact congrArg real (wide (x j))
  have ew : (WF w) = fun j => real (w j).toInt := by
    funext j; exact congrArg real (wide (w j))
  rw [ex, ew]
  exact product _ _ i

theorem bound_word : Ideal.ofBits .f32 0x4B800000#32 = real (2 ^ 24) := by
  simp [Ideal.ofBits, Ideal.ieee, real, -EReal.coe_mul]; norm_num

/-- Where the mask is set, the magnitudes total less than 2²⁴. -/
theorem masked (s t : FVec Ideal ⟨1, ![1]⟩ .f32) (i : SW.Idx) (h : Cert.On_exact.fn (F := Ideal) x w s t i = 1#1) : total x w i ≤ 2 ^ 24 - 1 := by
  have ex : (Host.absf (XF x)) = fun j => real ((x j).toInt.natAbs : ℤ) := by
    funext j
    refine Eq.trans ?_ (real_abs (x j).toInt)
    rw [← wide (x j)]; rfl
  have ew : (Host.absf (WF w)) = fun j => real ((w j).toInt.natAbs : ℤ) := by
    funext j
    refine Eq.trans ?_ (real_abs (w j).toInt)
    rw [← wide (w j)]; rfl
  have hd : Cert.On_exact.dot_S4096x4096_S4096x8192_S4096x8192_1_0_0_1_n_n = DotDims.plain 4096 4096 8192 := rfl
  have hf : Cert.On_exact.fn (F := Ideal) x w s t
      = cmpf .olt (Host.dotGeneral (F := Ideal) Cert.On_exact.dot_S4096x4096_S4096x8192_S4096x8192_1_0_0_1_n_n none (Host.absf (XF x)) (Host.absf (WF w)))
        (broadcastInDim SW ![] Cert.On_exact.Gen.bcast_S_S4096x8192 (constant (F := Ideal) ⟨0, ![]⟩ .f32 0x4B800000#32)) := rfl
  have hlt := (ValueIdx.cmpf_apply (F := Ideal) CmpFPredicate.olt _ _ i).symm.trans ((congrFun hf i).symm.trans h)
  rw [hd] at hlt
  have hlt : Ideal.cmp .olt (Host.dotGeneral (F := Ideal) (DotDims.plain 4096 4096 8192) none (Host.absf (XF x)) (Host.absf (WF w)) i)
      (Ideal.ofBits .f32 0x4B800000#32) = 1#1 := hlt
  rw [ex, ew, product, bound_word] at hlt
  have hb : real (∑ k : Fin 4096, ((x (ix2 (i 0) k)).toInt.natAbs : ℤ) * ((w (ix2 k (i 1))).toInt.natAbs : ℤ)) < (real (2 ^ 24) : EReal) := by
    by_contra hn
    unfold Ideal.cmp at hlt
    simp only [decide_eq_false hn] at hlt
    exact absurd hlt (by decide)
  have hz : (∑ k : Fin 4096, ((x (ix2 (i 0) k)).toInt.natAbs : ℤ) * ((w (ix2 k (i 1))).toInt.natAbs : ℤ)) < 2 ^ 24 := by
    have := EReal.coe_lt_coe_iff.mp hb
    exact_mod_cast this
  have e : ((total x w i : ℕ) : ℤ) = ∑ k : Fin 4096, ((x (ix2 (i 0) k)).toInt.natAbs : ℤ) * ((w (ix2 k (i 1))).toInt.natAbs : ℤ) := by
    unfold total
    rw [Nat.cast_sum]
    exact Finset.sum_congr rfl fun k _ => by rw [Int.natAbs_mul, Nat.cast_mul]
  omega

/-- A sum of less than 2²⁴ in magnitude is what its 32-bit word reads. -/
theorem word_sum (i : SW.Idx) (h : total x w i ≤ 2 ^ 24 - 1) : (BitVec.ofInt 32 (sum x w i)).toInt = sum x w i := by
  have := abs_sum x w i
  rw [BitVec.toInt_ofInt]
  apply Int.bmod_eq_of_le <;> omega

end Cert.Total

end
-- ==== Proof.Value.lean ====
/-
  The value claim: at the elements the mask selects, device c's result is its block of the reference's.
-/
module

public import proofs.«01_k».proof.Proof.Run
public import proofs.«01_k».proof.Proof.Total
public import proofs.«01_k».proof.Proof.Gen.ReferenceIdeal.Run
public import Idealize.ShloMosaic.Lib.Layout
public import Idealize.ShloMosaic.Lib.ValueLayout

@[expose] public section

noncomputable section

namespace Cert.Proof

open Idealize.ShloMosaic Idealize.ShloMosaic.TcCoe Idealize.SL.Sem
open Idealize.ShloMosaic.ValueIdx (ix1 ix2 eq_ix2)
open Cert.KernelIdeal.AG Cert.Total

section Kernel

open Cert.KernelIdeal

variable (m : (ℓ : Loc nD τ sig) → Buf (Elt Ideal) ℓ)

/-- The kernel finds the scales as launched, under one more axis. -/
theorem scale_x (c : Dev nD) : (ops m).sx c i11 = (m ((c : Thread nD τ).loc main_arg2) : FVec Ideal ⟨1, ![1]⟩ .f32) (ix1 0) := by
  have e : Gen.V m c main_v1 = shapeCast S1x1 (m ((c : Thread nD τ).loc main_arg2)) Gen.shapeCasts_S1_S1x1 := by
    unfold Gen.V Gen.hostOps0
    after_results
    rfl
  show Gen.V m c main_v1 i11 = _
  rw [e]
  exact ValueIdx.shapeCast_a_1a_apply _ _ ⟨0, by decide⟩ ⟨0, by decide⟩
theorem scale_w (c : Dev nD) : (ops m).sw c i11 = (m ((c : Thread nD τ).loc main_arg3) : FVec Ideal ⟨1, ![1]⟩ .f32) (ix1 0) := by
  have e : Gen.V m c main_v2 = shapeCast S1x1 (m ((c : Thread nD τ).loc main_arg3)) Gen.shapeCasts_S1_S1x1 := by
    unfold Gen.V Gen.hostOps0
    after_results
    rfl
  show Gen.V m c main_v2 i11 = _
  rw [e]
  exact ValueIdx.shapeCast_a_1a_apply _ _ ⟨0, by decide⟩ ⟨0, by decide⟩

variable (x : IVec SX 8) (w : IVec SW 8)
  (hx : ∀ c : Dev nD, m ((c : Thread nD τ).loc main_arg0) = Layout.block ⟨2, ![256, 4096]⟩ SX 0 16 c x)
  (hw : ∀ c : Dev nD, m ((c : Thread nD τ).loc main_arg1) = Layout.block ⟨2, ![4096, 512]⟩ SW 1 16 c w)

theorem cut_cols : Layout.Tiles ⟨2, ![4096, 512]⟩ SW 1 16 := by decide

include hx in
/-- The gathered operand is the whole one. -/
theorem gathered (i : SX.Idx) : GA (ops m) i = x i := by
  have h0 : (i 0).val < 4096 := (i 0).isLt
  unfold GA
  show Gen.V m _ main_arg0 _ = _
  rw [Gen.V_main_arg0, hx, Layout.block_apply]
  congr 1
  funext a; apply Fin.ext
  match a with
  | ⟨0, _⟩ =>
    show (i 0).val / 256 * 256 + (i 0).val % 256 = (i 0).val
    omega
  | ⟨1, _⟩ => rfl

include hw in
/-- A device's columns are columns of the whole second operand. -/
theorem column (c : Dev nD) (k : Fin 4096) (i : S4096x512.Idx) : (ops m).Wt c (ix2 k (i 1)) = w (ix2 k (cut_cols.idx c i 1)) := by
  show Gen.V m c main_arg1 _ = _
  rw [Gen.V_main_arg1, hw, Layout.block_apply]
  congr 1
  funext a; apply Fin.ext
  match a with
  | ⟨0, _⟩ => rfl
  | ⟨1, _⟩ => rfl

include hx hw in
theorem mag_total (c : Dev nD) (i : S4096x512.Idx) : mag (ops m) c i = total x w (cut_cols.idx c i) := by
  unfold mag total
  refine Finset.sum_congr rfl fun k _ => ?_
  rw [gathered m x hx, column m w hw]
  rfl

include hx hw in
theorem dot_sum (c : Dev nD) (i : S4096x512.Idx) : dot (ops m) c i = sum x w (cut_cols.idx c i) := by
  unfold dot sum
  refine Finset.sum_congr rfl fun k _ => ?_
  rw [gathered m x hx, column m w hw]
  rfl

/-- An element of the result over the reals, from the integers' sum and the two scales. -/
def relued (z : ℤ) (s t : Ideal .f32) : Ideal .f32 := max (real z * (s * t) : EReal) 0

include hx hw in
/-- The kernel's result where the magnitudes total less than 2²⁴. -/
theorem kernel_value (c : Dev nD) (i : S4096x512.Idx) (h : total x w (cut_cols.idx c i) ≤ 2 ^ 24 - 1) :
    T (ops m) c i = relued (sum x w (cut_cols.idx c i))
      ((m ((c : Thread nD τ).loc main_arg2) : FVec Ideal ⟨1, ![1]⟩ .f32) (ix1 0)) ((m ((c : Thread nD τ).loc main_arg3) : FVec Ideal ⟨1, ![1]⟩ .f32) (ix1 0)) := by
  rw [T_apply (ops m) c i (by rw [mag_total m x w hx hw]; exact h), dot_sum m x w hx hw, ← scale_x m c, ← scale_w m c]
  show (max (real (BitVec.ofInt 32 (sum x w (cut_cols.idx c i))).toInt * ((ops m).sx c i11 * (ops m).sw c i11) : EReal) (Ideal.ofBits .f32 0x00000000#32) : EReal) = _
  rw [word_sum x w _ h, Ideal.ofBits_zero_f32]
  rfl

end Kernel

section Reference

open Cert.ReferenceIdeal

/-- The reference's result. -/
def result (x : IVec SX 8) (w : IVec SW 8) (s t : FVec Ideal ⟨1, ![1]⟩ .f32) : FVec Ideal SW .f32 :=
  maximumf (mulf (Host.dotGeneral dot_S4096x4096_S4096x8192_S4096x8192_1_0_0_1_n_n none (XF x) (WF w))
      (broadcastInDim S4096x8192 ![0, 1] Gen.bcast_S1x1_S4096x8192_0_1 (broadcastInDim S1x1 ![1] Gen.bcast_S1_S1x1_1 (mulf s t))))
    (broadcastInDim S4096x8192 ![] Gen.bcast_S_S4096x8192 (constant S_ .f32 0x00000000#32))

theorem result_value (x : IVec SX 8) (w : IVec SW 8) (s t : FVec Ideal ⟨1, ![1]⟩ .f32) (i : SW.Idx) :
    result x w s t i = relued (sum x w i) (s (ix1 0)) (t (ix1 0)) := by
  have one : ∀ j : (⟨1, ![1]⟩ : Shape).Idx, j = ix1 0 := fun j => by
    funext a; apply Fin.ext
    match a with
    | ⟨0, _⟩ =>
      have : (j 0).val < 1 := (j 0).isLt
      show (j 0).val = 0
      omega
  have es : broadcastInDim S4096x8192 ![0, 1] Gen.bcast_S1x1_S4096x8192_0_1 (broadcastInDim S1x1 ![1] Gen.bcast_S1_S1x1_1 (mulf s t)) i
      = (s (ix1 0) * t (ix1 0) : EReal) := by
    unfold broadcastInDim
    rw [one (fun a => _)]
    rfl
  unfold result
  rw [ValueIdx.maximumf_apply, ValueIdx.mulf_apply, product_ref, es]
  show (max _ (Ideal.ofBits .f32 0x00000000#32) : EReal) = _
  rw [Ideal.ofBits_zero_f32]
  rfl

end Reference

/-- The reference's arguments. -/
abbrev refArg (m' : (ℓ : Loc Cert.ReferenceIdeal.nD Cert.ReferenceIdeal.τ Cert.ReferenceIdeal.sig) → Buf (Elt Ideal) ℓ) (b : Ref Cert.ReferenceIdeal.sig .tc) :
    Buf (Elt Ideal) (((0 : Dev Cert.ReferenceIdeal.nD).tc : Thread Cert.ReferenceIdeal.nD Cert.ReferenceIdeal.τ).loc b) :=
  m' (((0 : Dev Cert.ReferenceIdeal.nD).tc : Thread Cert.ReferenceIdeal.nD Cert.ReferenceIdeal.τ).loc b)

/-- Kernel and reference agree at the elements the mask selects. -/
theorem algebraic : Cert.algebraic_KernelIdeal_ReferenceIdeal_on_exact := by
  intro m g m' g' _ hargs
  refine ⟨result (refArg m' Cert.ReferenceIdeal.main_arg0) (refArg m' Cert.ReferenceIdeal.main_arg1) (refArg m' Cert.ReferenceIdeal.main_arg2) (refArg m' Cert.ReferenceIdeal.main_arg3), ?_, ?_⟩
  · refine (θ_run (Cert.KernelIdeal.defs (F := Ideal)) _ _).mono ?_ (run_main (F := Ideal) m g)
    intro r h c
    refine ⟨fun i hi => ?_, (h.1 c).1⟩
    have hk := kernel_value m _ _ (fun c => (hargs c).1) (fun c => (hargs c).2.1) c i (masked _ _ _ _ _ hi)
    rw [(hargs c).2.2.1, (hargs c).2.2.2] at hk
    exact (congrFun (h.1 c).2 i).trans (hk.trans (result_value _ _ _ _ (cut_cols.idx c i)).symm)
  · refine (θ_run (Cert.ReferenceIdeal.defs (F := Ideal)) _ _).mono ?_ (Cert.ReferenceIdeal.Value.run (F := Ideal) m' g')
    intro r h
    refine ⟨fun i _ => ?_, (h 0).2⟩
    rw [(h 0).1]
    rfl

end Cert.Proof

end
-- ==== Proof.lean ====
/-
  The certificate: the five claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_exact
public import proofs.«01_k».proof.Proof.Frames
public import proofs.«01_k».proof.Proof.Value

@[expose] public section

noncomputable section

namespace Cert.Proof

open Idealize.ShloMosaic Idealize.SL.Sem

/-- The three frames; the ideal program is the compiled one; and kernel and reference agree where the mask is set. -/
theorem claim : Cert.Claim :=
  ⟨Cert.Kernel.Gen.facts, Cert.KernelIdeal.Gen.facts, Cert.ReferenceIdeal.Gen.facts, Cert.On_exact.Gen.facts,
    frame_kernel, frame_kernelIdeal, frame_reference, trivial, algebraic⟩

end Cert.Proof

end
